-- ==== Defs.lean ====
def Pre_Kernel (m : (ℓ : Loc Cert.Kernel.nD Cert.Kernel.τ Cert.Kernel.sig) → Buf (Elt Bits) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_FfnIdeal (m : (ℓ : Loc Cert.FfnIdeal.nD Cert.FfnIdeal.τ Cert.FfnIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_OutMergeIdeal (m : (ℓ : Loc Cert.OutMergeIdeal.nD Cert.OutMergeIdeal.τ Cert.OutMergeIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_InProjIdeal (m : (ℓ : Loc Cert.InProjIdeal.nD Cert.InProjIdeal.τ Cert.InProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ r.2.sem = fun _ => 0)

def quiescent_OutMergeIdeal [hOutMergeIdeal : Cert.OutMergeIdeal.Facts] : Prop :=
  ∀ (m : (ℓ : Loc Cert.OutMergeIdeal.nD Cert.OutMergeIdeal.τ Cert.OutMergeIdeal.sig) → Buf (Elt Ideal) ℓ) (g : Dev Cert.OutMergeIdeal.nD → PrngReg), Pre_OutMergeIdeal m →
    θ_run (Cert.OutMergeIdeal.defs (F := Ideal)) (onTc (τ := Cert.OutMergeIdeal.τ) (Cert.OutMergeIdeal.main (F := Ideal))) ⟨m, fun _ => 0, g⟩ (fun r => (∀ c : Dev Cert.OutMergeIdeal.nD,
      r.2.mem ((c.tc : Thread Cert.OutMergeIdeal.nD Cert.OutMergeIdeal.τ).loc Cert.OutMergeIdeal.main_arg0) = m ((c.tc : Thread Cert.OutMergeIdeal.nD Cert.OutMergeIdeal.τ).loc Cert.OutMergeIdeal.main_arg0)
      ∧ r.2.mem ((c.tc : Thread Cert.OutMergeIdeal.nD Cert.OutMergeIdeal.τ).loc Cert.OutMergeIdeal.main_arg1) = m ((c.tc : Thread Cert.OutMergeIdeal.nD Cert.OutMergeIdeal.τ).loc Cert.OutMergeIdeal.main_arg1)
      ∧ r.2.mem ((c.tc : Thread Cert.OutMergeIdeal.nD Cert.OutMergeIdeal.τ).loc Cert.OutMergeIdeal.main_arg2) = m ((c.tc : Thread Cert.OutMergeIdeal.nD Cert.OutMergeIdeal.τ).loc Cert.OutMergeIdeal.main_arg2)
      ∧ r.2.mem ((c.tc : Thread Cert.OutMergeIdeal.nD Cert.OutMergeIdeal.τ).loc Cert.OutMergeIdeal.main_arg3) = m ((c.tc : Thread Cert.OutMergeIdeal.nD Cert.OutMergeIdeal.τ).loc Cert.OutMergeIdeal.main_arg3)
      ∧ r.2.mem ((c.tc : Thread Cert.OutMergeIdeal.nD Cert.OutMergeIdeal.τ).loc Cert.OutMergeIdeal.main_arg4) = m ((c.tc : Thread Cert.OutMergeIdeal.nD Cert.OutMergeIdeal.τ).loc Cert.OutMergeIdeal.main_arg4)
      ∧ r.2.mem ((c.tc : Thread Cert.OutMergeIdeal.nD Cert.OutMergeIdeal.τ).loc Cert.OutMergeIdeal.main_arg5) = m ((c.tc : Thread Cert.OutMergeIdeal.nD Cert.OutMergeIdeal.τ).loc Cert.OutMergeIdeal.main_arg5)
      ∧ r.2.mem ((c.tc : Thread Cert.OutMergeIdeal.nD Cert.OutMergeIdeal.τ).loc Cert.OutMergeIdeal.main_arg6) = m ((c.tc : Thread Cert.OutMergeIdeal.nD Cert.OutMergeIdeal.τ).loc Cert.OutMergeIdeal.main_arg6)
      ∧ r.2.mem ((c.tc : Thread Cert.OutMergeIdeal.nD Cert.OutMergeIdeal.τ).loc Cert.OutMergeIdeal.main_arg7) = m ((c.tc : Thread Cert.OutMergeIdeal.nD Cert.OutMergeIdeal.τ).loc Cert.OutMergeIdeal.main_arg7))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def preserves_KernelFfn_KernelFfnIdeal : Prop :=
  True

def algebraic_KernelFfnIdeal_FfnIdeal [hKernelFfnIdeal : Cert.KernelFfnIdeal.Facts] [hFfnIdeal : Cert.FfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.FfnIdeal.nD Cert.FfnIdeal.τ Cert.FfnIdeal.sig) → Buf (Elt Ideal) ℓ) (g' : Dev Cert.FfnIdeal.nD → PrngReg), Pre_KernelFfnIdeal m →
    (∀ c : Dev Cert.KernelFfnIdeal.nD,
      m' ((c.tc : Thread Cert.FfnIdeal.nD Cert.FfnIdeal.τ).loc Cert.FfnIdeal.main_arg0) = m ((c.tc : Thread Cert.KernelFfnIdeal.nD Cert.KernelFfnIdeal.τ).loc Cert.KernelFfnIdeal.main_arg0)
      ∧ m' ((c.tc : Thread Cert.FfnIdeal.nD Cert.FfnIdeal.τ).loc Cert.FfnIdeal.main_arg1) = m ((c.tc : Thread Cert.KernelFfnIdeal.nD Cert.KernelFfnIdeal.τ).loc Cert.KernelFfnIdeal.main_arg1)
      ∧ m' ((c.tc : Thread Cert.FfnIdeal.nD Cert.FfnIdeal.τ).loc Cert.FfnIdeal.main_arg2) = m ((c.tc : Thread Cert.KernelFfnIdeal.nD Cert.KernelFfnIdeal.τ).loc Cert.KernelFfnIdeal.main_arg2)
      ∧ m' ((c.tc : Thread Cert.FfnIdeal.nD Cert.FfnIdeal.τ).loc Cert.FfnIdeal.main_arg3) = m ((c.tc : Thread Cert.KernelFfnIdeal.nD Cert.KernelFfnIdeal.τ).loc Cert.KernelFfnIdeal.main_arg3)
      ∧ m' ((c.tc : Thread Cert.FfnIdeal.nD Cert.FfnIdeal.τ).loc Cert.FfnIdeal.main_arg4) = m ((c.tc : Thread Cert.KernelFfnIdeal.nD Cert.KernelFfnIdeal.τ).loc Cert.KernelFfnIdeal.main_arg4)
      ∧ m' ((c.tc : Thread Cert.FfnIdeal.nD Cert.FfnIdeal.τ).loc Cert.FfnIdeal.main_arg5) = m ((c.tc : Thread Cert.KernelFfnIdeal.nD Cert.KernelFfnIdeal.τ).loc Cert.KernelFfnIdeal.main_arg5)
      ∧ m' ((c.tc : Thread Cert.FfnIdeal.nD Cert.FfnIdeal.τ).loc Cert.FfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v17)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v17) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.FfnIdeal.defs (F := Ideal)) (onTc (τ := Cert.FfnIdeal.τ) (Cert.FfnIdeal.main (F := Ideal))) ⟨m', fun _ => 0, g'⟩ (fun r => ∀ c : Dev Cert.FfnIdeal.nD,
          r.2.mem ((c.tc : Thread Cert.FfnIdeal.nD Cert.FfnIdeal.τ).loc Cert.FfnIdeal.main_v51) = v0 c
          ∧ r.2.mem ((c.tc : Thread Cert.FfnIdeal.nD Cert.FfnIdeal.τ).loc Cert.FfnIdeal.main_arg0) = m' ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m' ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m' ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m' ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m' ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m' ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m' ((c.tc : Thread Cert.FfnIdeal.nD Cert.FfnIdeal.τ).loc Cert.FfnIdeal.main_arg6))

def preserves_KernelOut_KernelOutIdeal : Prop :=
  True

def algebraic_KernelOutIdeal_OutMergeIdeal [hKernelOutIdeal : Cert.KernelOutIdeal.Facts] [hOutMergeIdeal : Cert.OutMergeIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.OutMergeIdeal.nD Cert.OutMergeIdeal.τ Cert.OutMergeIdeal.sig) → Buf (Elt Ideal) ℓ) (g' : Dev Cert.OutMergeIdeal.nD → PrngReg), Pre_KernelOutIdeal m →
    (∀ c : Dev Cert.KernelOutIdeal.nD,
      m' ((c.tc : Thread Cert.OutMergeIdeal.nD Cert.OutMergeIdeal.τ).loc Cert.OutMergeIdeal.main_arg0) = m ((c.tc : Thread Cert.KernelOutIdeal.nD Cert.KernelOutIdeal.τ).loc Cert.KernelOutIdeal.main_arg0)
      ∧ m' ((c.tc : Thread Cert.OutMergeIdeal.nD Cert.OutMergeIdeal.τ).loc Cert.OutMergeIdeal.main_arg1) = m ((c.tc : Thread Cert.KernelOutIdeal.nD Cert.KernelOutIdeal.τ).loc Cert.KernelOutIdeal.main_arg1)
      ∧ m' ((c.tc : Thread Cert.OutMergeIdeal.nD Cert.OutMergeIdeal.τ).loc Cert.OutMergeIdeal.main_arg2) = m ((c.tc : Thread Cert.KernelOutIdeal.nD Cert.KernelOutIdeal.τ).loc Cert.KernelOutIdeal.main_arg2)
      ∧ m' ((c.tc : Thread Cert.OutMergeIdeal.nD Cert.OutMergeIdeal.τ).loc Cert.OutMergeIdeal.main_arg3) = m ((c.tc : Thread Cert.KernelOutIdeal.nD Cert.KernelOutIdeal.τ).loc Cert.KernelOutIdeal.main_arg3)
      ∧ m' ((c.tc : Thread Cert.OutMergeIdeal.nD Cert.OutMergeIdeal.τ).loc Cert.OutMergeIdeal.main_arg4) = m ((c.tc : Thread Cert.KernelOutIdeal.nD Cert.KernelOutIdeal.τ).loc Cert.KernelOutIdeal.main_arg4)
      ∧ m' ((c.tc : Thread Cert.OutMergeIdeal.nD Cert.OutMergeIdeal.τ).loc Cert.OutMergeIdeal.main_arg5) = m ((c.tc : Thread Cert.KernelOutIdeal.nD Cert.KernelOutIdeal.τ).loc Cert.KernelOutIdeal.main_arg5)
      ∧ m' ((c.tc : Thread Cert.OutMergeIdeal.nD Cert.OutMergeIdeal.τ).loc Cert.OutMergeIdeal.main_arg6) = m ((c.tc : Thread Cert.KernelOutIdeal.nD Cert.KernelOutIdeal.τ).loc Cert.KernelOutIdeal.main_arg6)
      ∧ m' ((c.tc : Thread Cert.OutMergeIdeal.nD Cert.OutMergeIdeal.τ).loc Cert.OutMergeIdeal.main_arg7) = m ((c.tc : Thread Cert.KernelOutIdeal.nD Cert.KernelOutIdeal.τ).loc Cert.KernelOutIdeal.main_arg7)) →
    ∃ (v0 : (c : Dev Cert.KernelOutIdeal.nD) → Buf (Elt Ideal) ((c.tc : Thread Cert.KernelOutIdeal.nD Cert.KernelOutIdeal.τ).loc Cert.KernelOutIdeal.main_v14)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v14) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ θ_run (Cert.OutMergeIdeal.defs (F := Ideal)) (onTc (τ := Cert.OutMergeIdeal.τ) (Cert.OutMergeIdeal.main (F := Ideal))) ⟨m', fun _ => 0, g'⟩ (fun r => ∀ c : Dev Cert.OutMergeIdeal.nD,
          r.2.mem ((c.tc : Thread Cert.OutMergeIdeal.nD Cert.OutMergeIdeal.τ).loc Cert.OutMergeIdeal.main_v31) = v0 c
          ∧ r.2.mem ((c.tc : Thread Cert.OutMergeIdeal.nD Cert.OutMergeIdeal.τ).loc Cert.OutMergeIdeal.main_arg0) = m' ((c.tc : Thread Cert.OutMergeIdeal.nD Cert.OutMergeIdeal.τ).loc Cert.OutMergeIdeal.main_arg0)
          ∧ r.2.mem ((c.tc : Thread Cert.OutMergeIdeal.nD Cert.OutMergeIdeal.τ).loc Cert.OutMergeIdeal.main_arg1) = m' ((c.tc : Thread Cert.OutMergeIdeal.nD Cert.OutMergeIdeal.τ).loc Cert.OutMergeIdeal.main_arg1)
          ∧ r.2.mem ((c.tc : Thread Cert.OutMergeIdeal.nD Cert.OutMergeIdeal.τ).loc Cert.OutMergeIdeal.main_arg2) = m' ((c.tc : Thread Cert.OutMergeIdeal.nD Cert.OutMergeIdeal.τ).loc Cert.OutMergeIdeal.main_arg2)
          ∧ r.2.mem ((c.tc : Thread Cert.OutMergeIdeal.nD Cert.OutMergeIdeal.τ).loc Cert.OutMergeIdeal.main_arg3) = m' ((c.tc : Thread Cert.OutMergeIdeal.nD Cert.OutMergeIdeal.τ).loc Cert.OutMergeIdeal.main_arg3)
          ∧ r.2.mem ((c.tc : Thread Cert.OutMergeIdeal.nD Cert.OutMergeIdeal.τ).loc Cert.OutMergeIdeal.main_arg4) = m' ((c.tc : Thread Cert.OutMergeIdeal.nD Cert.OutMergeIdeal.τ).loc Cert.OutMergeIdeal.main_arg4)
          ∧ r.2.mem ((c.tc : Thread Cert.OutMergeIdeal.nD Cert.OutMergeIdeal.τ).loc Cert.OutMergeIdeal.main_arg5) = m' ((c.tc : Thread Cert.OutMergeIdeal.nD Cert.OutMergeIdeal.τ).loc Cert.OutMergeIdeal.main_arg5)
          ∧ r.2.mem ((c.tc : Thread Cert.OutMergeIdeal.nD Cert.OutMergeIdeal.τ).loc Cert.OutMergeIdeal.main_arg6) = m' ((c.tc : Thread Cert.OutMergeIdeal.nD Cert.OutMergeIdeal.τ).loc Cert.OutMergeIdeal.main_arg6)
          ∧ r.2.mem ((c.tc : Thread Cert.OutMergeIdeal.nD Cert.OutMergeIdeal.τ).loc Cert.OutMergeIdeal.main_arg7) = m' ((c.tc : Thread Cert.OutMergeIdeal.nD Cert.OutMergeIdeal.τ).loc Cert.OutMergeIdeal.main_arg7))

def preserves_KernelIn_KernelInIdeal : Prop :=
  True

def algebraic_KernelInIdeal_InProjIdeal [hKernelInIdeal : Cert.KernelInIdeal.Facts] [hInProjIdeal : Cert.InProjIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.InProjIdeal.nD Cert.InProjIdeal.τ Cert.InProjIdeal.sig) → Buf (Elt Ideal) ℓ) (g' : Dev Cert.InProjIdeal.nD → PrngReg), Pre_KernelInIdeal m →
    (∀ c : Dev Cert.KernelInIdeal.nD,
      m' ((c.tc : Thread Cert.InProjIdeal.nD Cert.InProjIdeal.τ).loc Cert.InProjIdeal.main_arg0) = m ((c.tc : Thread Cert.KernelInIdeal.nD Cert.KernelInIdeal.τ).loc Cert.KernelInIdeal.main_arg0)
      ∧ m' ((c.tc : Thread Cert.InProjIdeal.nD Cert.InProjIdeal.τ).loc Cert.InProjIdeal.main_arg1) = m ((c.tc : Thread Cert.KernelInIdeal.nD Cert.KernelInIdeal.τ).loc Cert.KernelInIdeal.main_arg1)
      ∧ m' ((c.tc : Thread Cert.InProjIdeal.nD Cert.InProjIdeal.τ).loc Cert.InProjIdeal.main_arg2) = m ((c.tc : Thread Cert.KernelInIdeal.nD Cert.KernelInIdeal.τ).loc Cert.KernelInIdeal.main_arg2)
      ∧ m' ((c.tc : Thread Cert.InProjIdeal.nD Cert.InProjIdeal.τ).loc Cert.InProjIdeal.main_arg3) = m ((c.tc : Thread Cert.KernelInIdeal.nD Cert.KernelInIdeal.τ).loc Cert.KernelInIdeal.main_arg3)
      ∧ m' ((c.tc : Thread Cert.InProjIdeal.nD Cert.InProjIdeal.τ).loc Cert.InProjIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v41_0)) (v1 : (c : Dev Cert.KernelInIdeal.nD) → Buf (Elt Ideal) ((c.tc : Thread Cert.KernelInIdeal.nD Cert.KernelInIdeal.τ).loc Cert.KernelInIdeal.main_v41_1)) (v2 : (c : Dev Cert.KernelInIdeal.nD) → Buf (Elt Ideal) ((c.tc : Thread Cert.KernelInIdeal.nD Cert.KernelInIdeal.τ).loc Cert.KernelInIdeal.main_v41_2)) (v3 : (c : Dev Cert.KernelInIdeal.nD) → Buf (Elt Ideal) ((c.tc : Thread Cert.KernelInIdeal.nD Cert.KernelInIdeal.τ).loc Cert.KernelInIdeal.main_v41_3)) (v4 : (c : Dev Cert.KernelInIdeal.nD) → Buf (Elt Ideal) ((c.tc : Thread Cert.KernelInIdeal.nD Cert.KernelInIdeal.τ).loc Cert.KernelInIdeal.main_v41_4)) (v5 : (c : Dev Cert.KernelInIdeal.nD) → Buf (Elt Ideal) ((c.tc : Thread Cert.KernelInIdeal.nD Cert.KernelInIdeal.τ).loc Cert.KernelInIdeal.main_v41_5)) (v6 : (c : Dev Cert.KernelInIdeal.nD) → Buf (Elt Ideal) ((c.tc : Thread Cert.KernelInIdeal.nD Cert.KernelInIdeal.τ).loc Cert.KernelInIdeal.main_v41_6)) (v7 : (c : Dev Cert.KernelInIdeal.nD) → Buf (Elt Ideal) ((c.tc : Thread Cert.KernelInIdeal.nD Cert.KernelInIdeal.τ).loc Cert.KernelInIdeal.main_v41_7)) (v8 : (c : Dev Cert.KernelInIdeal.nD) → Buf (Elt Ideal) ((c.tc : Thread Cert.KernelInIdeal.nD Cert.KernelInIdeal.τ).loc Cert.KernelInIdeal.main_v41_8)) (v9 : (c : Dev Cert.KernelInIdeal.nD) → Buf (Elt Ideal) ((c.tc : Thread Cert.KernelInIdeal.nD Cert.KernelInIdeal.τ).loc Cert.KernelInIdeal.main_v41_9)) (v10 : (c : Dev Cert.KernelInIdeal.nD) → Buf (Elt Ideal) ((c.tc : Thread Cert.KernelInIdeal.nD Cert.KernelInIdeal.τ).loc Cert.KernelInIdeal.main_v41_10)) (v11 : (c : Dev Cert.KernelInIdeal.nD) → Buf (Elt Ideal) ((c.tc : Thread Cert.KernelInIdeal.nD Cert.KernelInIdeal.τ).loc Cert.KernelInIdeal.main_v41_11)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v41_0) = v0 c
          ∧ r.2.mem ((c.tc : Thread Cert.KernelInIdeal.nD Cert.KernelInIdeal.τ).loc Cert.KernelInIdeal.main_v41_1) = v1 c
          ∧ r.2.mem ((c.tc : Thread Cert.KernelInIdeal.nD Cert.KernelInIdeal.τ).loc Cert.KernelInIdeal.main_v41_2) = v2 c
          ∧ r.2.mem ((c.tc : Thread Cert.KernelInIdeal.nD Cert.KernelInIdeal.τ).loc Cert.KernelInIdeal.main_v41_3) = v3 c
          ∧ r.2.mem ((c.tc : Thread Cert.KernelInIdeal.nD Cert.KernelInIdeal.τ).loc Cert.KernelInIdeal.main_v41_4) = v4 c
          ∧ r.2.mem ((c.tc : Thread Cert.KernelInIdeal.nD Cert.KernelInIdeal.τ).loc Cert.KernelInIdeal.main_v41_5) = v5 c
          ∧ r.2.mem ((c.tc : Thread Cert.KernelInIdeal.nD Cert.KernelInIdeal.τ).loc Cert.KernelInIdeal.main_v41_6) = v6 c
          ∧ r.2.mem ((c.tc : Thread Cert.KernelInIdeal.nD Cert.KernelInIdeal.τ).loc Cert.KernelInIdeal.main_v41_7) = v7 c
          ∧ r.2.mem ((c.tc : Thread Cert.KernelInIdeal.nD Cert.KernelInIdeal.τ).loc Cert.KernelInIdeal.main_v41_8) = v8 c
          ∧ r.2.mem ((c.tc : Thread Cert.KernelInIdeal.nD Cert.KernelInIdeal.τ).loc Cert.KernelInIdeal.main_v41_9) = v9 c
          ∧ r.2.mem ((c.tc : Thread Cert.KernelInIdeal.nD Cert.KernelInIdeal.τ).loc Cert.KernelInIdeal.main_v41_10) = v10 c
          ∧ r.2.mem ((c.tc : Thread Cert.KernelInIdeal.nD Cert.KernelInIdeal.τ).loc Cert.KernelInIdeal.main_v41_11) = v11 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.InProjIdeal.defs (F := Ideal)) (onTc (τ := Cert.InProjIdeal.τ) (Cert.InProjIdeal.main (F := Ideal))) ⟨m', fun _ => 0, g'⟩ (fun r => ∀ c : Dev Cert.InProjIdeal.nD,
          r.2.mem ((c.tc : Thread Cert.InProjIdeal.nD Cert.InProjIdeal.τ).loc Cert.InProjIdeal.main_v176) = v0 c
          ∧ r.2.mem ((c.tc : Thread Cert.InProjIdeal.nD Cert.InProjIdeal.τ).loc Cert.InProjIdeal.main_v177) = v1 c
          ∧ r.2.mem ((c.tc : Thread Cert.InProjIdeal.nD Cert.InProjIdeal.τ).loc Cert.InProjIdeal.main_v178) = v2 c
          ∧ r.2.mem ((c.tc : Thread Cert.InProjIdeal.nD Cert.InProjIdeal.τ).loc Cert.InProjIdeal.main_v179) = v3 c
          ∧ r.2.mem ((c.tc : Thread Cert.InProjIdeal.nD Cert.InProjIdeal.τ).loc Cert.InProjIdeal.main_v180) = v4 c
          ∧ r.2.mem ((c.tc : Thread Cert.InProjIdeal.nD Cert.InProjIdeal.τ).loc Cert.InProjIdeal.main_v181) = v5 c
          ∧ r.2.mem ((c.tc : Thread Cert.InProjIdeal.nD Cert.InProjIdeal.τ).loc Cert.InProjIdeal.main_v182) = v6 c
          ∧ r.2.mem ((c.tc : Thread Cert.InProjIdeal.nD Cert.InProjIdeal.τ).loc Cert.InProjIdeal.main_v183) = v7 c
          ∧ r.2.mem ((c.tc : Thread Cert.InProjIdeal.nD Cert.InProjIdeal.τ).loc Cert.InProjIdeal.main_v184) = v8 c
          ∧ r.2.mem ((c.tc : Thread Cert.InProjIdeal.nD Cert.InProjIdeal.τ).loc Cert.InProjIdeal.main_v175) = v9 c
          ∧ r.2.mem ((c.tc : Thread Cert.InProjIdeal.nD Cert.InProjIdeal.τ).loc Cert.InProjIdeal.main_v190) = v10 c
          ∧ r.2.mem ((c.tc : Thread Cert.InProjIdeal.nD Cert.InProjIdeal.τ).loc Cert.InProjIdeal.main_v196) = v11 c
          ∧ r.2.mem ((c.tc : Thread Cert.InProjIdeal.nD Cert.InProjIdeal.τ).loc Cert.InProjIdeal.main_arg0) = m' ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m' ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m' ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m' ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m' ((c.tc : Thread Cert.InProjIdeal.nD Cert.InProjIdeal.τ).loc Cert.InProjIdeal.main_arg4))

def Claim : Prop :=
  ∃ (hKernel : Cert.Kernel.Facts) (hKernelFfn : Cert.KernelFfn.Facts) (hKernelFfnIdeal : Cert.KernelFfnIdeal.Facts) (hFfnIdeal : Cert.FfnIdeal.Facts) (hKernelOut : Cert.KernelOut.Facts) (hKernelOutIdeal : Cert.KernelOutIdeal.Facts) (hOutMergeIdeal : Cert.OutMergeIdeal.Facts) (hKernelIn : Cert.KernelIn.Facts) (hKernelInIdeal : Cert.KernelInIdeal.Facts) (hInProjIdeal : Cert.InProjIdeal.Facts),
    quiescent_Kernel (hKernel := hKernel)
    ∧ quiescent_KernelFfn (hKernelFfn := hKernelFfn)
    ∧ quiescent_KernelFfnIdeal (hKernelFfnIdeal := hKernelFfnIdeal)
    ∧ quiescent_FfnIdeal (hFfnIdeal := hFfnIdeal)
    ∧ quiescent_KernelOut (hKernelOut := hKernelOut)
    ∧ quiescent_KernelOutIdeal (hKernelOutIdeal := hKernelOutIdeal)
    ∧ quiescent_OutMergeIdeal (hOutMergeIdeal := hOutMergeIdeal)
    ∧ quiescent_KernelIn (hKernelIn := hKernelIn)
    ∧ quiescent_KernelInIdeal (hKernelInIdeal := hKernelInIdeal)
    ∧ quiescent_InProjIdeal (hInProjIdeal := hInProjIdeal)
    ∧ preserves_KernelFfn_KernelFfnIdeal
    ∧ algebraic_KernelFfnIdeal_FfnIdeal (hKernelFfnIdeal := hKernelFfnIdeal) (hFfnIdeal := hFfnIdeal)
    ∧ preserves_KernelOut_KernelOutIdeal
    ∧ algebraic_KernelOutIdeal_OutMergeIdeal (hKernelOutIdeal := hKernelOutIdeal) (hOutMergeIdeal := hOutMergeIdeal)
    ∧ preserves_KernelIn_KernelInIdeal
    ∧ algebraic_KernelInIdeal_InProjIdeal (hKernelInIdeal := hKernelInIdeal) (hInProjIdeal := hInProjIdeal)
-- ==== Kernel.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S2x8192x128 : Shape := ⟨3, ![2, 8192, 128]⟩
abbrev S1x128x1024 : Shape := ⟨3, ![1, 128, 1024]⟩
abbrev S1x8192x256 : Shape := ⟨3, ![1, 8192, 256]⟩
abbrev S1x8192x128 : Shape := ⟨3, ![1, 8192, 128]⟩
abbrev S1x128x512 : Shape := ⟨3, ![1, 128, 512]⟩
abbrev S1x128x128 : Shape := ⟨3, ![1, 128, 128]⟩
abbrev S8192x128 : Shape := ⟨2, ![8192, 128]⟩
abbrev S256x128 : Shape := ⟨2, ![256, 128]⟩
abbrev S4x1x256 : Shape := ⟨3, ![4, 1, 256]⟩
abbrev S4x128x256 : Shape := ⟨3, ![4, 128, 256]⟩
abbrev S4x512x256 : Shape := ⟨3, ![4, 512, 256]⟩
abbrev S512x128 : Shape := ⟨2, ![512, 128]⟩
abbrev S128x128 : Shape := ⟨2, ![128, 128]⟩
abbrev S1x128 : Shape := ⟨2, ![1, 128]⟩
abbrev S1x512x128 : Shape := ⟨3, ![1, 512, 128]⟩
abbrev S512x256 : Shape := ⟨2, ![512, 256]⟩
abbrev S64x128 : Shape := ⟨2, ![64, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1x512x256 : Shape := ⟨3, ![1, 512, 256]⟩
abbrev S1x64x256 : Shape := ⟨3, ![1, 64, 256]⟩
abbrev S64x256 : Shape := ⟨2, ![64, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩

abbrev nBuf : Space → Nat
  | .hbm => 8
  | .vmem => 20
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x256, .bf16⟩
  | .hbm, ⟨2, _⟩ => ⟨S2x8192x256, .bf16⟩
  | .hbm, ⟨3, _⟩ => ⟨S2x8192x512, .bf16⟩
  | .hbm, ⟨4, _⟩ => ⟨S2x8192x128, .bf16⟩
  | .hbm, ⟨5, _⟩ => ⟨S2x8192x128, .bf16⟩
  | .hbm, ⟨6, _⟩ => ⟨S2x8192x128, .f32⟩
  | .hbm, ⟨7, _⟩ => ⟨S2x8192x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x128, .f32⟩
  | .local _ .vmem, ⟨9, _⟩ => ⟨S1x128x128, .f32⟩
  | .local _ .vmem, ⟨10, _⟩ => ⟨S1x128x1024, .f32⟩
  | .local _ .vmem, ⟨11, _⟩ => ⟨S1x128x1024, .f32⟩
  | .local _ .vmem, ⟨12, _⟩ => ⟨S8192x128, .f32⟩
  | .local _ .vmem, ⟨13, _⟩ => ⟨S256x128, .f32⟩
  | .local _ .vmem, ⟨14, _⟩ => ⟨S4x1x256, .f32⟩
  | .local _ .vmem, ⟨15, _⟩ => ⟨S4x1x256, .f32⟩
  | .local _ .vmem, ⟨16, _⟩ => ⟨S4x128x256, .f32⟩
  | .local _ .vmem, ⟨17, _⟩ => ⟨S4x512x256, .f32⟩
  | .local _ .vmem, ⟨18, _⟩ => ⟨S4x512x256, .f32⟩
  | .local _ .vmem, ⟨19, _⟩ => ⟨S4x512x256, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨2, ![2, 64], ![false, false]⟩

@[reducible] def k0_t1_loop (i : grid0.Coords) : Scf.Loop 32 :=
  let c0_i32_23 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v53 : BitVec 32 := Scalar.subi v20 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_25 : BitVec 32 := 1#32
  ⟨c0_i32_23, v57, c1_i32_25⟩
def k0_mult1 (i : grid0.Coords) (k0_t1 : Fin (k0_t1_loop i).trips) : BitVec 32 :=
  let c0_i32_23 : BitVec 32 := 0#32
  let c1_i32_25 : BitVec 32 := 1#32
  let arg18 : BitVec 32 := Scf.iv c0_i32_23 c1_i32_25 k0_t1
  let c512_i32_193 : BitVec 32 := 512#32
  let v336 : BitVec 32 := Scalar.muli arg18 c512_i32_193
  v336
def k0_off1 (i : grid0.Coords) (k0_t1 : Fin (k0_t1_loop i).trips) : Fin 3 → Nat :=
  let c0_195 : Index := 0#32
  let c0_i32_23 : BitVec 32 := 0#32
  let c1_i32_25 : BitVec 32 := 1#32
  let arg18 : BitVec 32 := Scf.iv c0_i32_23 c1_i32_25 k0_t1
  let c512_i32_193 : BitVec 32 := 512#32
  let v336 : BitVec 32 := Scalar.muli arg18 c512_i32_193
  let v337 : BitVec 32 := v336
  let v339 : Index := Scalar.indexCast v337
  let c0_196 : Index := 0#32
  ![0, v339.toNat, 0]
def k0_off2 (i : grid0.Coords) (k0_t1 : Fin (k0_t1_loop i).trips) : Fin 2 → Nat :=
  let c0_i32_23 : BitVec 32 := 0#32
  let c1_i32_25 : BitVec 32 := 1#32
  let arg18 : BitVec 32 := Scf.iv c0_i32_23 c1_i32_25 k0_t1
  let c512_i32_193 : BitVec 32 := 512#32
  let v336 : BitVec 32 := Scalar.muli arg18 c512_i32_193
  let v337 : BitVec 32 := v336
  let v409 : Index := Scalar.indexCast v337
  let c0_217 : Index := 0#32
  ![v409.toNat, 0]
@[reducible] def k0_t2_loop (i : grid0.Coords) : Scf.Loop 32 :=
  let c0_i32_23 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v53 : BitVec 32 := Scalar.subi v20 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let v54 : BitVec 32 := Scalar.addi c0_i32_23 v53
  let c1_i32_26 : BitVec 32 := 1#32
  ⟨v57, v54, c1_i32_26⟩
def k0_mult2 (i : grid0.Coords) (k0_t2 : Fin (k0_t2_loop i).trips) : BitVec 32 :=
  let c0_i32_23 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v53 : BitVec 32 := Scalar.subi v20 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg18 : BitVec 32 := Scf.iv v57 c1_i32_26 k0_t2
  let c512_i32_193 : BitVec 32 := 512#32
  let v336 : BitVec 32 := Scalar.muli arg18 c512_i32_193
  v336
def k0_off3 (i : grid0.Coords) (k0_t2 : Fin (k0_t2_loop i).trips) : Fin 3 → Nat :=
  let c0_195 : Index := 0#32
  let c0_i32_23 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v53 : BitVec 32 := Scalar.subi v20 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg18 : BitVec 32 := Scf.iv v57 c1_i32_26 k0_t2
  let c512_i32_193 : BitVec 32 := 512#32
  let v336 : BitVec 32 := Scalar.muli arg18 c512_i32_193
  let v337 : BitVec 32 := v336
  let v339 : Index := Scalar.indexCast v337
  let c0_196 : Index := 0#32
  ![0, v339.toNat, 0]
def k0_off4 (i : grid0.Coords) (k0_t2 : Fin (k0_t2_loop i).trips) : Fin 2 → Nat :=
  let c0_i32_23 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v53 : BitVec 32 := Scalar.subi v20 c0_i32_23
  let c1_i32_24 : BitVec 32 := 1#32
  let v55 : BitVec 32 := Scalar.divsi v53 c1_i32_24
  let v56 : BitVec 32 := Scalar.muli v55 c1_i32_24
  let v57 : BitVec 32 := Scalar.addi c0_i32_23 v56
  let c1_i32_26 : BitVec 32 := 1#32
  let arg18 : BitVec 32 := Scf.iv v57 c1_i32_26 k0_t2
  let c512_i32_193 : BitVec 32 := 512#32
  let v336 : BitVec 32 := Scalar.muli arg18 c512_i32_193
  let v337 : BitVec 32 := v336
  let v409 : Index := Scalar.indexCast v337
  let c0_217 : Index := 0#32
  ![v409.toNat, 0]
@[reducible] def k0_t3_loop (i : grid0.Coords) : Scf.Loop 32 :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let c1_i32_47 : BitVec 32 := 1#32
  ⟨c0_i32_45, v112, c1_i32_47⟩
def k0_mult3 (i : grid0.Coords) (k0_t3 : Fin (k0_t3_loop i).trips) : BitVec 32 :=
  let c0_i32_45 : BitVec 32 := 0#32
  let c1_i32_47 : BitVec 32 := 1#32
  let arg18 : BitVec 32 := Scf.iv c0_i32_45 c1_i32_47 k0_t3
  let c512_i32_193 : BitVec 32 := 512#32
  let v336 : BitVec 32 := Scalar.muli arg18 c512_i32_193
  let c0_i32_194 : BitVec 32 := 0#32
  let v337 : BitVec 32 := Scalar.addi v336 c0_i32_194
  v337
def k0_off5 (i : grid0.Coords) (k0_t3 : Fin (k0_t3_loop i).trips) (c0_i32_194 : BitVec 32) : Fin 2 → Nat :=
  let c0_i32_45 : BitVec 32 := 0#32
  let c1_i32_47 : BitVec 32 := 1#32
  let arg18 : BitVec 32 := Scf.iv c0_i32_45 c1_i32_47 k0_t3
  let c512_i32_193 : BitVec 32 := 512#32
  let v336 : BitVec 32 := Scalar.muli arg18 c512_i32_193
  let v337 : BitVec 32 := Scalar.addi v336 c0_i32_194
  let v338 : BitVec 32 := v337
  let v339 : Index := Scalar.indexCast v338
  let c0_195 : Index := 0#32
  ![v339.toNat, 0]
def k0_mult4 (i : grid0.Coords) (k0_t3 : Fin (k0_t3_loop i).trips) : BitVec 32 :=
  let c0_i32_45 : BitVec 32 := 0#32
  let c1_i32_47 : BitVec 32 := 1#32
  let arg18 : BitVec 32 := Scf.iv c0_i32_45 c1_i32_47 k0_t3
  let c512_i32_198 : BitVec 32 := 512#32
  let v349 : BitVec 32 := Scalar.muli arg18 c512_i32_198
  let c64_i32 : BitVec 32 := 64#32
  let v350 : BitVec 32 := Scalar.addi v349 c64_i32
  v350
def k0_mult5 (i : grid0.Coords) (k0_t3 : Fin (k0_t3_loop i).trips) : BitVec 32 :=
  let c0_i32_45 : BitVec 32 := 0#32
  let c1_i32_47 : BitVec 32 := 1#32
  let arg18 : BitVec 32 := Scf.iv c0_i32_45 c1_i32_47 k0_t3
  let c512_i32_202 : BitVec 32 := 512#32
  let v362 : BitVec 32 := Scalar.muli arg18 c512_i32_202
  let c128_i32_203 : BitVec 32 := 128#32
  let v363 : BitVec 32 := Scalar.addi v362 c128_i32_203
  v363
def k0_mult6 (i : grid0.Coords) (k0_t3 : Fin (k0_t3_loop i).trips) : BitVec 32 :=
  let c0_i32_45 : BitVec 32 := 0#32
  let c1_i32_47 : BitVec 32 := 1#32
  let arg18 : BitVec 32 := Scf.iv c0_i32_45 c1_i32_47 k0_t3
  let c512_i32_207 : BitVec 32 := 512#32
  let v375 : BitVec 32 := Scalar.muli arg18 c512_i32_207
  let c192_i32 : BitVec 32 := 192#32
  let v376 : BitVec 32 := Scalar.addi v375 c192_i32
  v376
def k0_mult7 (i : grid0.Coords) (k0_t3 : Fin (k0_t3_loop i).trips) : BitVec 32 :=
  let c0_i32_45 : BitVec 32 := 0#32
  let c1_i32_47 : BitVec 32 := 1#32
  let arg18 : BitVec 32 := Scf.iv c0_i32_45 c1_i32_47 k0_t3
  let c512_i32_211 : BitVec 32 := 512#32
  let v388 : BitVec 32 := Scalar.muli arg18 c512_i32_211
  let c256_i32_212 : BitVec 32 := 256#32
  let v389 : BitVec 32 := Scalar.addi v388 c256_i32_212
  v389
def k0_mult8 (i : grid0.Coords) (k0_t3 : Fin (k0_t3_loop i).trips) : BitVec 32 :=
  let c0_i32_45 : BitVec 32 := 0#32
  let c1_i32_47 : BitVec 32 := 1#32
  let arg18 : BitVec 32 := Scf.iv c0_i32_45 c1_i32_47 k0_t3
  let c512_i32_216 : BitVec 32 := 512#32
  let v401 : BitVec 32 := Scalar.muli arg18 c512_i32_216
  let c320_i32 : BitVec 32 := 320#32
  let v402 : BitVec 32 := Scalar.addi v401 c320_i32
  v402
def k0_mult9 (i : grid0.Coords) (k0_t3 : Fin (k0_t3_loop i).trips) : BitVec 32 :=
  let c0_i32_45 : BitVec 32 := 0#32
  let c1_i32_47 : BitVec 32 := 1#32
  let arg18 : BitVec 32 := Scf.iv c0_i32_45 c1_i32_47 k0_t3
  let c512_i32_220 : BitVec 32 := 512#32
  let v414 : BitVec 32 := Scalar.muli arg18 c512_i32_220
  let c384_i32 : BitVec 32 := 384#32
  let v415 : BitVec 32 := Scalar.addi v414 c384_i32
  v415
def k0_mult10 (i : grid0.Coords) (k0_t3 : Fin (k0_t3_loop i).trips) : BitVec 32 :=
  let c0_i32_45 : BitVec 32 := 0#32
  let c1_i32_47 : BitVec 32 := 1#32
  let arg18 : BitVec 32 := Scf.iv c0_i32_45 c1_i32_47 k0_t3
  let c512_i32_224 : BitVec 32 := 512#32
  let v427 : BitVec 32 := Scalar.muli arg18 c512_i32_224
  let c448_i32 : BitVec 32 := 448#32
  let v428 : BitVec 32 := Scalar.addi v427 c448_i32
  v428
@[reducible] def k0_t4_loop (i : grid0.Coords) : Scf.Loop 32 :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let v109 : BitVec 32 := Scalar.addi c0_i32_45 v108
  let c1_i32_48 : BitVec 32 := 1#32
  ⟨v112, v109, c1_i32_48⟩
def k0_mult11 (i : grid0.Coords) (k0_t4 : Fin (k0_t4_loop i).trips) : BitVec 32 :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let c1_i32_48 : BitVec 32 := 1#32
  let arg18 : BitVec 32 := Scf.iv v112 c1_i32_48 k0_t4
  let c512_i32_193 : BitVec 32 := 512#32
  let v336 : BitVec 32 := Scalar.muli arg18 c512_i32_193
  let c0_i32_194 : BitVec 32 := 0#32
  let v337 : BitVec 32 := Scalar.addi v336 c0_i32_194
  v337
def k0_off6 (i : grid0.Coords) (k0_t4 : Fin (k0_t4_loop i).trips) (c0_i32_194 : BitVec 32) : Fin 2 → Nat :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let c1_i32_48 : BitVec 32 := 1#32
  let arg18 : BitVec 32 := Scf.iv v112 c1_i32_48 k0_t4
  let c512_i32_193 : BitVec 32 := 512#32
  let v336 : BitVec 32 := Scalar.muli arg18 c512_i32_193
  let v337 : BitVec 32 := Scalar.addi v336 c0_i32_194
  let v338 : BitVec 32 := v337
  let v339 : Index := Scalar.indexCast v338
  let c0_195 : Index := 0#32
  ![v339.toNat, 0]
def k0_mult12 (i : grid0.Coords) (k0_t4 : Fin (k0_t4_loop i).trips) : BitVec 32 :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let c1_i32_48 : BitVec 32 := 1#32
  let arg18 : BitVec 32 := Scf.iv v112 c1_i32_48 k0_t4
  let c512_i32_198 : BitVec 32 := 512#32
  let v349 : BitVec 32 := Scalar.muli arg18 c512_i32_198
  let c64_i32 : BitVec 32 := 64#32
  let v350 : BitVec 32 := Scalar.addi v349 c64_i32
  v350
def k0_mult13 (i : grid0.Coords) (k0_t4 : Fin (k0_t4_loop i).trips) : BitVec 32 :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let c1_i32_48 : BitVec 32 := 1#32
  let arg18 : BitVec 32 := Scf.iv v112 c1_i32_48 k0_t4
  let c512_i32_202 : BitVec 32 := 512#32
  let v362 : BitVec 32 := Scalar.muli arg18 c512_i32_202
  let c128_i32_203 : BitVec 32 := 128#32
  let v363 : BitVec 32 := Scalar.addi v362 c128_i32_203
  v363
def k0_mult14 (i : grid0.Coords) (k0_t4 : Fin (k0_t4_loop i).trips) : BitVec 32 :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let c1_i32_48 : BitVec 32 := 1#32
  let arg18 : BitVec 32 := Scf.iv v112 c1_i32_48 k0_t4
  let c512_i32_207 : BitVec 32 := 512#32
  let v375 : BitVec 32 := Scalar.muli arg18 c512_i32_207
  let c192_i32 : BitVec 32 := 192#32
  let v376 : BitVec 32 := Scalar.addi v375 c192_i32
  v376
def k0_mult15 (i : grid0.Coords) (k0_t4 : Fin (k0_t4_loop i).trips) : BitVec 32 :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let c1_i32_48 : BitVec 32 := 1#32
  let arg18 : BitVec 32 := Scf.iv v112 c1_i32_48 k0_t4
  let c512_i32_211 : BitVec 32 := 512#32
  let v388 : BitVec 32 := Scalar.muli arg18 c512_i32_211
  let c256_i32_212 : BitVec 32 := 256#32
  let v389 : BitVec 32 := Scalar.addi v388 c256_i32_212
  v389
def k0_mult16 (i : grid0.Coords) (k0_t4 : Fin (k0_t4_loop i).trips) : BitVec 32 :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let c1_i32_48 : BitVec 32 := 1#32
  let arg18 : BitVec 32 := Scf.iv v112 c1_i32_48 k0_t4
  let c512_i32_216 : BitVec 32 := 512#32
  let v401 : BitVec 32 := Scalar.muli arg18 c512_i32_216
  let c320_i32 : BitVec 32 := 320#32
  let v402 : BitVec 32 := Scalar.addi v401 c320_i32
  v402
def k0_mult17 (i : grid0.Coords) (k0_t4 : Fin (k0_t4_loop i).trips) : BitVec 32 :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let c1_i32_48 : BitVec 32 := 1#32
  let arg18 : BitVec 32 := Scf.iv v112 c1_i32_48 k0_t4
  let c512_i32_220 : BitVec 32 := 512#32
  let v414 : BitVec 32 := Scalar.muli arg18 c512_i32_220
  let c384_i32 : BitVec 32 := 384#32
  let v415 : BitVec 32 := Scalar.addi v414 c384_i32
  v415
def k0_mult18 (i : grid0.Coords) (k0_t4 : Fin (k0_t4_loop i).trips) : BitVec 32 :=
  let c0_i32_45 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v108 : BitVec 32 := Scalar.subi v20 c0_i32_45
  let c1_i32_46 : BitVec 32 := 1#32
  let v110 : BitVec 32 := Scalar.divsi v108 c1_i32_46
  let v111 : BitVec 32 := Scalar.muli v110 c1_i32_46
  let v112 : BitVec 32 := Scalar.addi c0_i32_45 v111
  let c1_i32_48 : BitVec 32 := 1#32
  let arg18 : BitVec 32 := Scf.iv v112 c1_i32_48 k0_t4
  let c512_i32_224 : BitVec 32 := 512#32
  let v427 : BitVec 32 := Scalar.muli arg18 c512_i32_224
  let c448_i32 : BitVec 32 := 448#32
  let v428 : BitVec 32 := Scalar.addi v427 c448_i32
  v428
@[reducible] def k0_t5_loop (v122 : BitVec 32) : Scf.Loop 32 :=
  let c0_i32_51 : BitVec 32 := 0#32
  let v123 : BitVec 32 := Scalar.subi v122 c0_i32_51
  let c1_i32_52 : BitVec 32 := 1#32
  let v125 : BitVec 32 := Scalar.divsi v123 c1_i32_52
  let v126 : BitVec 32 := Scalar.muli v125 c1_i32_52
  let v127 : BitVec 32 := Scalar.addi c0_i32_51 v126
  let c1_i32_53 : BitVec 32 := 1#32
  ⟨c0_i32_51, v127, c1_i32_53⟩

@[reducible] def k0_t6_loop (i : grid0.Coords) : Scf.Loop 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_201 : BitVec 32 := 1#32
  ⟨c0_i32_199, v354, c1_i32_201⟩
def k0_mult19 (i : grid0.Coords) (k0_t6 : Fin (k0_t6_loop i).trips) : BitVec 32 :=
  let c0_i32_199 : BitVec 32 := 0#32
  let c1_i32_201 : BitVec 32 := 1#32
  let arg21 : BitVec 32 := Scf.iv c0_i32_199 c1_i32_201 k0_t6
  let c512_i32_205 : BitVec 32 := 512#32
  let v365 : BitVec 32 := Scalar.muli arg21 c512_i32_205
  let c0_i32_206 : BitVec 32 := 0#32
  let v366 : BitVec 32 := Scalar.addi v365 c0_i32_206
  v366
def k0_off7 (i : grid0.Coords) (k0_t6 : Fin (k0_t6_loop i).trips) (c0_i32_206 : BitVec 32) : Fin 2 → Nat :=
  let c0_i32_199 : BitVec 32 := 0#32
  let c1_i32_201 : BitVec 32 := 1#32
  let arg21 : BitVec 32 := Scf.iv c0_i32_199 c1_i32_201 k0_t6
  let c512_i32_205 : BitVec 32 := 512#32
  let v365 : BitVec 32 := Scalar.muli arg21 c512_i32_205
  let v366 : BitVec 32 := Scalar.addi v365 c0_i32_206
  let v367 : BitVec 32 := v366
  let v368 : Index := Scalar.indexCast v367
  let c0_207 : Index := 0#32
  ![v368.toNat, 0]
def k0_mult20 (i : grid0.Coords) (k0_t6 : Fin (k0_t6_loop i).trips) : BitVec 32 :=
  let c0_i32_199 : BitVec 32 := 0#32
  let c1_i32_201 : BitVec 32 := 1#32
  let arg21 : BitVec 32 := Scf.iv c0_i32_199 c1_i32_201 k0_t6
  let c512_i32_210 : BitVec 32 := 512#32
  let v378 : BitVec 32 := Scalar.muli arg21 c512_i32_210
  let c64_i32 : BitVec 32 := 64#32
  let v379 : BitVec 32 := Scalar.addi v378 c64_i32
  v379
def k0_mult21 (i : grid0.Coords) (k0_t6 : Fin (k0_t6_loop i).trips) : BitVec 32 :=
  let c0_i32_199 : BitVec 32 := 0#32
  let c1_i32_201 : BitVec 32 := 1#32
  let arg21 : BitVec 32 := Scf.iv c0_i32_199 c1_i32_201 k0_t6
  let c512_i32_214 : BitVec 32 := 512#32
  let v391 : BitVec 32 := Scalar.muli arg21 c512_i32_214
  let c128_i32_215 : BitVec 32 := 128#32
  let v392 : BitVec 32 := Scalar.addi v391 c128_i32_215
  v392
def k0_mult22 (i : grid0.Coords) (k0_t6 : Fin (k0_t6_loop i).trips) : BitVec 32 :=
  let c0_i32_199 : BitVec 32 := 0#32
  let c1_i32_201 : BitVec 32 := 1#32
  let arg21 : BitVec 32 := Scf.iv c0_i32_199 c1_i32_201 k0_t6
  let c512_i32_219 : BitVec 32 := 512#32
  let v404 : BitVec 32 := Scalar.muli arg21 c512_i32_219
  let c192_i32 : BitVec 32 := 192#32
  let v405 : BitVec 32 := Scalar.addi v404 c192_i32
  v405
def k0_mult23 (i : grid0.Coords) (k0_t6 : Fin (k0_t6_loop i).trips) : BitVec 32 :=
  let c0_i32_199 : BitVec 32 := 0#32
  let c1_i32_201 : BitVec 32 := 1#32
  let arg21 : BitVec 32 := Scf.iv c0_i32_199 c1_i32_201 k0_t6
  let c512_i32_223 : BitVec 32 := 512#32
  let v417 : BitVec 32 := Scalar.muli arg21 c512_i32_223
  let c256_i32_224 : BitVec 32 := 256#32
  let v418 : BitVec 32 := Scalar.addi v417 c256_i32_224
  v418
def k0_mult24 (i : grid0.Coords) (k0_t6 : Fin (k0_t6_loop i).trips) : BitVec 32 :=
  let c0_i32_199 : BitVec 32 := 0#32
  let c1_i32_201 : BitVec 32 := 1#32
  let arg21 : BitVec 32 := Scf.iv c0_i32_199 c1_i32_201 k0_t6
  let c512_i32_228 : BitVec 32 := 512#32
  let v430 : BitVec 32 := Scalar.muli arg21 c512_i32_228
  let c320_i32 : BitVec 32 := 320#32
  let v431 : BitVec 32 := Scalar.addi v430 c320_i32
  v431
def k0_mult25 (i : grid0.Coords) (k0_t6 : Fin (k0_t6_loop i).trips) : BitVec 32 :=
  let c0_i32_199 : BitVec 32 := 0#32
  let c1_i32_201 : BitVec 32 := 1#32
  let arg21 : BitVec 32 := Scf.iv c0_i32_199 c1_i32_201 k0_t6
  let c512_i32_232 : BitVec 32 := 512#32
  let v443 : BitVec 32 := Scalar.muli arg21 c512_i32_232
  let c384_i32 : BitVec 32 := 384#32
  let v444 : BitVec 32 := Scalar.addi v443 c384_i32
  v444
def k0_mult26 (i : grid0.Coords) (k0_t6 : Fin (k0_t6_loop i).trips) : BitVec 32 :=
  let c0_i32_199 : BitVec 32 := 0#32
  let c1_i32_201 : BitVec 32 := 1#32
  let arg21 : BitVec 32 := Scf.iv c0_i32_199 c1_i32_201 k0_t6
  let c512_i32_236 : BitVec 32 := 512#32
  let v456 : BitVec 32 := Scalar.muli arg21 c512_i32_236
  let c448_i32 : BitVec 32 := 448#32
  let v457 : BitVec 32 := Scalar.addi v456 c448_i32
  v457
@[reducible] def k0_t7_loop (i : grid0.Coords) : Scf.Loop 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let v351 : BitVec 32 := Scalar.addi c0_i32_199 v350
  let c1_i32_202 : BitVec 32 := 1#32
  ⟨v354, v351, c1_i32_202⟩
def k0_mult27 (i : grid0.Coords) (k0_t7 : Fin (k0_t7_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t7
  let c512_i32_205 : BitVec 32 := 512#32
  let v365 : BitVec 32 := Scalar.muli arg21 c512_i32_205
  let c0_i32_206 : BitVec 32 := 0#32
  let v366 : BitVec 32 := Scalar.addi v365 c0_i32_206
  v366
def k0_off8 (i : grid0.Coords) (k0_t7 : Fin (k0_t7_loop i).trips) (c0_i32_206 : BitVec 32) : Fin 2 → Nat :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t7
  let c512_i32_205 : BitVec 32 := 512#32
  let v365 : BitVec 32 := Scalar.muli arg21 c512_i32_205
  let v366 : BitVec 32 := Scalar.addi v365 c0_i32_206
  let v367 : BitVec 32 := v366
  let v368 : Index := Scalar.indexCast v367
  let c0_207 : Index := 0#32
  ![v368.toNat, 0]
def k0_mult28 (i : grid0.Coords) (k0_t7 : Fin (k0_t7_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t7
  let c512_i32_210 : BitVec 32 := 512#32
  let v378 : BitVec 32 := Scalar.muli arg21 c512_i32_210
  let c64_i32 : BitVec 32 := 64#32
  let v379 : BitVec 32 := Scalar.addi v378 c64_i32
  v379
def k0_mult29 (i : grid0.Coords) (k0_t7 : Fin (k0_t7_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t7
  let c512_i32_214 : BitVec 32 := 512#32
  let v391 : BitVec 32 := Scalar.muli arg21 c512_i32_214
  let c128_i32_215 : BitVec 32 := 128#32
  let v392 : BitVec 32 := Scalar.addi v391 c128_i32_215
  v392
def k0_mult30 (i : grid0.Coords) (k0_t7 : Fin (k0_t7_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t7
  let c512_i32_219 : BitVec 32 := 512#32
  let v404 : BitVec 32 := Scalar.muli arg21 c512_i32_219
  let c192_i32 : BitVec 32 := 192#32
  let v405 : BitVec 32 := Scalar.addi v404 c192_i32
  v405
def k0_mult31 (i : grid0.Coords) (k0_t7 : Fin (k0_t7_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t7
  let c512_i32_223 : BitVec 32 := 512#32
  let v417 : BitVec 32 := Scalar.muli arg21 c512_i32_223
  let c256_i32_224 : BitVec 32 := 256#32
  let v418 : BitVec 32 := Scalar.addi v417 c256_i32_224
  v418
def k0_mult32 (i : grid0.Coords) (k0_t7 : Fin (k0_t7_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t7
  let c512_i32_228 : BitVec 32 := 512#32
  let v430 : BitVec 32 := Scalar.muli arg21 c512_i32_228
  let c320_i32 : BitVec 32 := 320#32
  let v431 : BitVec 32 := Scalar.addi v430 c320_i32
  v431
def k0_mult33 (i : grid0.Coords) (k0_t7 : Fin (k0_t7_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t7
  let c512_i32_232 : BitVec 32 := 512#32
  let v443 : BitVec 32 := Scalar.muli arg21 c512_i32_232
  let c384_i32 : BitVec 32 := 384#32
  let v444 : BitVec 32 := Scalar.addi v443 c384_i32
  v444
def k0_mult34 (i : grid0.Coords) (k0_t7 : Fin (k0_t7_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t7
  let c512_i32_236 : BitVec 32 := 512#32
  let v456 : BitVec 32 := Scalar.muli arg21 c512_i32_236
  let c448_i32 : BitVec 32 := 448#32
  let v457 : BitVec 32 := Scalar.addi v456 c448_i32
  v457
@[reducible] def k0_t8_loop (v122 : BitVec 32) : Scf.Loop 32 :=
  let c0_i32_51 : BitVec 32 := 0#32
  let v123 : BitVec 32 := Scalar.subi v122 c0_i32_51
  let c1_i32_52 : BitVec 32 := 1#32
  let v125 : BitVec 32 := Scalar.divsi v123 c1_i32_52
  let v126 : BitVec 32 := Scalar.muli v125 c1_i32_52
  let v127 : BitVec 32 := Scalar.addi c0_i32_51 v126
  let v124 : BitVec 32 := Scalar.addi c0_i32_51 v123
  let c1_i32_54 : BitVec 32 := 1#32
  ⟨v127, v124, c1_i32_54⟩

def k0_chk1 (v122 : BitVec 32) : Prop :=
  ((k0_t5_loop v122).OK) ∧
  ((k0_t8_loop v122).OK)
theorem k0_t5_ok : ∀ (v122 : BitVec 32) (k0_hw1 : k0_chk1 v122), (k0_t5_loop v122).OK := fun v122 k0_hw1 => k0_hw1.1
theorem k0_t8_ok : ∀ (v122 : BitVec 32) (k0_hw1 : k0_chk1 v122), (k0_t8_loop v122).OK := fun v122 k0_hw1 => k0_hw1.2

@[reducible] def k0_t9_loop (i : grid0.Coords) : Scf.Loop 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_201 : BitVec 32 := 1#32
  ⟨c0_i32_199, v354, c1_i32_201⟩
def k0_mult35 (i : grid0.Coords) (k0_t9 : Fin (k0_t9_loop i).trips) : BitVec 32 :=
  let c0_i32_199 : BitVec 32 := 0#32
  let c1_i32_201 : BitVec 32 := 1#32
  let arg21 : BitVec 32 := Scf.iv c0_i32_199 c1_i32_201 k0_t9
  let c512_i32_205 : BitVec 32 := 512#32
  let v365 : BitVec 32 := Scalar.muli arg21 c512_i32_205
  let c0_i32_206 : BitVec 32 := 0#32
  let v366 : BitVec 32 := Scalar.addi v365 c0_i32_206
  v366
def k0_off9 (i : grid0.Coords) (k0_t9 : Fin (k0_t9_loop i).trips) (c0_i32_206 : BitVec 32) : Fin 2 → Nat :=
  let c0_i32_199 : BitVec 32 := 0#32
  let c1_i32_201 : BitVec 32 := 1#32
  let arg21 : BitVec 32 := Scf.iv c0_i32_199 c1_i32_201 k0_t9
  let c512_i32_205 : BitVec 32 := 512#32
  let v365 : BitVec 32 := Scalar.muli arg21 c512_i32_205
  let v366 : BitVec 32 := Scalar.addi v365 c0_i32_206
  let v367 : BitVec 32 := v366
  let v368 : Index := Scalar.indexCast v367
  let c0_207 : Index := 0#32
  ![v368.toNat, 0]
def k0_mult36 (i : grid0.Coords) (k0_t9 : Fin (k0_t9_loop i).trips) : BitVec 32 :=
  let c0_i32_199 : BitVec 32 := 0#32
  let c1_i32_201 : BitVec 32 := 1#32
  let arg21 : BitVec 32 := Scf.iv c0_i32_199 c1_i32_201 k0_t9
  let c512_i32_210 : BitVec 32 := 512#32
  let v378 : BitVec 32 := Scalar.muli arg21 c512_i32_210
  let c64_i32 : BitVec 32 := 64#32
  let v379 : BitVec 32 := Scalar.addi v378 c64_i32
  v379
def k0_mult37 (i : grid0.Coords) (k0_t9 : Fin (k0_t9_loop i).trips) : BitVec 32 :=
  let c0_i32_199 : BitVec 32 := 0#32
  let c1_i32_201 : BitVec 32 := 1#32
  let arg21 : BitVec 32 := Scf.iv c0_i32_199 c1_i32_201 k0_t9
  let c512_i32_214 : BitVec 32 := 512#32
  let v391 : BitVec 32 := Scalar.muli arg21 c512_i32_214
  let c128_i32_215 : BitVec 32 := 128#32
  let v392 : BitVec 32 := Scalar.addi v391 c128_i32_215
  v392
def k0_mult38 (i : grid0.Coords) (k0_t9 : Fin (k0_t9_loop i).trips) : BitVec 32 :=
  let c0_i32_199 : BitVec 32 := 0#32
  let c1_i32_201 : BitVec 32 := 1#32
  let arg21 : BitVec 32 := Scf.iv c0_i32_199 c1_i32_201 k0_t9
  let c512_i32_219 : BitVec 32 := 512#32
  let v404 : BitVec 32 := Scalar.muli arg21 c512_i32_219
  let c192_i32 : BitVec 32 := 192#32
  let v405 : BitVec 32 := Scalar.addi v404 c192_i32
  v405
def k0_mult39 (i : grid0.Coords) (k0_t9 : Fin (k0_t9_loop i).trips) : BitVec 32 :=
  let c0_i32_199 : BitVec 32 := 0#32
  let c1_i32_201 : BitVec 32 := 1#32
  let arg21 : BitVec 32 := Scf.iv c0_i32_199 c1_i32_201 k0_t9
  let c512_i32_223 : BitVec 32 := 512#32
  let v417 : BitVec 32 := Scalar.muli arg21 c512_i32_223
  let c256_i32_224 : BitVec 32 := 256#32
  let v418 : BitVec 32 := Scalar.addi v417 c256_i32_224
  v418
def k0_mult40 (i : grid0.Coords) (k0_t9 : Fin (k0_t9_loop i).trips) : BitVec 32 :=
  let c0_i32_199 : BitVec 32 := 0#32
  let c1_i32_201 : BitVec 32 := 1#32
  let arg21 : BitVec 32 := Scf.iv c0_i32_199 c1_i32_201 k0_t9
  let c512_i32_228 : BitVec 32 := 512#32
  let v430 : BitVec 32 := Scalar.muli arg21 c512_i32_228
  let c320_i32 : BitVec 32 := 320#32
  let v431 : BitVec 32 := Scalar.addi v430 c320_i32
  v431
def k0_mult41 (i : grid0.Coords) (k0_t9 : Fin (k0_t9_loop i).trips) : BitVec 32 :=
  let c0_i32_199 : BitVec 32 := 0#32
  let c1_i32_201 : BitVec 32 := 1#32
  let arg21 : BitVec 32 := Scf.iv c0_i32_199 c1_i32_201 k0_t9
  let c512_i32_232 : BitVec 32 := 512#32
  let v443 : BitVec 32 := Scalar.muli arg21 c512_i32_232
  let c384_i32 : BitVec 32 := 384#32
  let v444 : BitVec 32 := Scalar.addi v443 c384_i32
  v444
def k0_mult42 (i : grid0.Coords) (k0_t9 : Fin (k0_t9_loop i).trips) : BitVec 32 :=
  let c0_i32_199 : BitVec 32 := 0#32
  let c1_i32_201 : BitVec 32 := 1#32
  let arg21 : BitVec 32 := Scf.iv c0_i32_199 c1_i32_201 k0_t9
  let c512_i32_236 : BitVec 32 := 512#32
  let v456 : BitVec 32 := Scalar.muli arg21 c512_i32_236
  let c448_i32 : BitVec 32 := 448#32
  let v457 : BitVec 32 := Scalar.addi v456 c448_i32
  v457
@[reducible] def k0_t10_loop (i : grid0.Coords) : Scf.Loop 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let v351 : BitVec 32 := Scalar.addi c0_i32_199 v350
  let c1_i32_202 : BitVec 32 := 1#32
  ⟨v354, v351, c1_i32_202⟩
def k0_mult43 (i : grid0.Coords) (k0_t10 : Fin (k0_t10_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t10
  let c512_i32_205 : BitVec 32 := 512#32
  let v365 : BitVec 32 := Scalar.muli arg21 c512_i32_205
  let c0_i32_206 : BitVec 32 := 0#32
  let v366 : BitVec 32 := Scalar.addi v365 c0_i32_206
  v366
def k0_off10 (i : grid0.Coords) (k0_t10 : Fin (k0_t10_loop i).trips) (c0_i32_206 : BitVec 32) : Fin 2 → Nat :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t10
  let c512_i32_205 : BitVec 32 := 512#32
  let v365 : BitVec 32 := Scalar.muli arg21 c512_i32_205
  let v366 : BitVec 32 := Scalar.addi v365 c0_i32_206
  let v367 : BitVec 32 := v366
  let v368 : Index := Scalar.indexCast v367
  let c0_207 : Index := 0#32
  ![v368.toNat, 0]
def k0_mult44 (i : grid0.Coords) (k0_t10 : Fin (k0_t10_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t10
  let c512_i32_210 : BitVec 32 := 512#32
  let v378 : BitVec 32 := Scalar.muli arg21 c512_i32_210
  let c64_i32 : BitVec 32 := 64#32
  let v379 : BitVec 32 := Scalar.addi v378 c64_i32
  v379
def k0_mult45 (i : grid0.Coords) (k0_t10 : Fin (k0_t10_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t10
  let c512_i32_214 : BitVec 32 := 512#32
  let v391 : BitVec 32 := Scalar.muli arg21 c512_i32_214
  let c128_i32_215 : BitVec 32 := 128#32
  let v392 : BitVec 32 := Scalar.addi v391 c128_i32_215
  v392
def k0_mult46 (i : grid0.Coords) (k0_t10 : Fin (k0_t10_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t10
  let c512_i32_219 : BitVec 32 := 512#32
  let v404 : BitVec 32 := Scalar.muli arg21 c512_i32_219
  let c192_i32 : BitVec 32 := 192#32
  let v405 : BitVec 32 := Scalar.addi v404 c192_i32
  v405
def k0_mult47 (i : grid0.Coords) (k0_t10 : Fin (k0_t10_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t10
  let c512_i32_223 : BitVec 32 := 512#32
  let v417 : BitVec 32 := Scalar.muli arg21 c512_i32_223
  let c256_i32_224 : BitVec 32 := 256#32
  let v418 : BitVec 32 := Scalar.addi v417 c256_i32_224
  v418
def k0_mult48 (i : grid0.Coords) (k0_t10 : Fin (k0_t10_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t10
  let c512_i32_228 : BitVec 32 := 512#32
  let v430 : BitVec 32 := Scalar.muli arg21 c512_i32_228
  let c320_i32 : BitVec 32 := 320#32
  let v431 : BitVec 32 := Scalar.addi v430 c320_i32
  v431
def k0_mult49 (i : grid0.Coords) (k0_t10 : Fin (k0_t10_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t10
  let c512_i32_232 : BitVec 32 := 512#32
  let v443 : BitVec 32 := Scalar.muli arg21 c512_i32_232
  let c384_i32 : BitVec 32 := 384#32
  let v444 : BitVec 32 := Scalar.addi v443 c384_i32
  v444
def k0_mult50 (i : grid0.Coords) (k0_t10 : Fin (k0_t10_loop i).trips) : BitVec 32 :=
  let c0_i32_199 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v350 : BitVec 32 := Scalar.subi v20 c0_i32_199
  let c1_i32_200 : BitVec 32 := 1#32
  let v352 : BitVec 32 := Scalar.divsi v350 c1_i32_200
  let v353 : BitVec 32 := Scalar.muli v352 c1_i32_200
  let v354 : BitVec 32 := Scalar.addi c0_i32_199 v353
  let c1_i32_202 : BitVec 32 := 1#32
  let arg21 : BitVec 32 := Scf.iv v354 c1_i32_202 k0_t10
  let c512_i32_236 : BitVec 32 := 512#32
  let v456 : BitVec 32 := Scalar.muli arg21 c512_i32_236
  let c448_i32 : BitVec 32 := 448#32
  let v457 : BitVec 32 := Scalar.addi v456 c448_i32
  v457
@[reducible] def k0_t11_loop (i : grid0.Coords) : Scf.Loop 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let c1_i32_196 : BitVec 32 := 1#32
  ⟨c0_i32_194, v341, c1_i32_196⟩
def k0_mult51 (i : grid0.Coords) (k0_t11 : Fin (k0_t11_loop i).trips) : BitVec 32 :=
  let c0_i32_194 : BitVec 32 := 0#32
  let c1_i32_196 : BitVec 32 := 1#32
  let arg18 : BitVec 32 := Scf.iv c0_i32_194 c1_i32_196 k0_t11
  let c512_i32_210 : BitVec 32 := 512#32
  let v358 : BitVec 32 := Scalar.muli arg18 c512_i32_210
  let c0_i32_211 : BitVec 32 := 0#32
  let v359 : BitVec 32 := Scalar.addi v358 c0_i32_211
  v359
def k0_off11 (i : grid0.Coords) (k0_t11 : Fin (k0_t11_loop i).trips) (c0_i32_211 : BitVec 32) : Fin 2 → Nat :=
  let c0_i32_194 : BitVec 32 := 0#32
  let c1_i32_196 : BitVec 32 := 1#32
  let arg18 : BitVec 32 := Scf.iv c0_i32_194 c1_i32_196 k0_t11
  let c512_i32_210 : BitVec 32 := 512#32
  let v358 : BitVec 32 := Scalar.muli arg18 c512_i32_210
  let v359 : BitVec 32 := Scalar.addi v358 c0_i32_211
  let v360 : BitVec 32 := v359
  let v361 : Index := Scalar.indexCast v360
  let c0_212 : Index := 0#32
  ![v361.toNat, 0]
def k0_mult52 (i : grid0.Coords) (k0_t11 : Fin (k0_t11_loop i).trips) : BitVec 32 :=
  let c0_i32_194 : BitVec 32 := 0#32
  let c1_i32_196 : BitVec 32 := 1#32
  let arg18 : BitVec 32 := Scf.iv c0_i32_194 c1_i32_196 k0_t11
  let c512_i32_215 : BitVec 32 := 512#32
  let v371 : BitVec 32 := Scalar.muli arg18 c512_i32_215
  let c64_i32 : BitVec 32 := 64#32
  let v372 : BitVec 32 := Scalar.addi v371 c64_i32
  v372
def k0_mult53 (i : grid0.Coords) (k0_t11 : Fin (k0_t11_loop i).trips) : BitVec 32 :=
  let c0_i32_194 : BitVec 32 := 0#32
  let c1_i32_196 : BitVec 32 := 1#32
  let arg18 : BitVec 32 := Scf.iv c0_i32_194 c1_i32_196 k0_t11
  let c512_i32_219 : BitVec 32 := 512#32
  let v384 : BitVec 32 := Scalar.muli arg18 c512_i32_219
  let c128_i32_220 : BitVec 32 := 128#32
  let v385 : BitVec 32 := Scalar.addi v384 c128_i32_220
  v385
def k0_mult54 (i : grid0.Coords) (k0_t11 : Fin (k0_t11_loop i).trips) : BitVec 32 :=
  let c0_i32_194 : BitVec 32 := 0#32
  let c1_i32_196 : BitVec 32 := 1#32
  let arg18 : BitVec 32 := Scf.iv c0_i32_194 c1_i32_196 k0_t11
  let c512_i32_224 : BitVec 32 := 512#32
  let v397 : BitVec 32 := Scalar.muli arg18 c512_i32_224
  let c192_i32 : BitVec 32 := 192#32
  let v398 : BitVec 32 := Scalar.addi v397 c192_i32
  v398
def k0_mult55 (i : grid0.Coords) (k0_t11 : Fin (k0_t11_loop i).trips) : BitVec 32 :=
  let c0_i32_194 : BitVec 32 := 0#32
  let c1_i32_196 : BitVec 32 := 1#32
  let arg18 : BitVec 32 := Scf.iv c0_i32_194 c1_i32_196 k0_t11
  let c512_i32_228 : BitVec 32 := 512#32
  let v410 : BitVec 32 := Scalar.muli arg18 c512_i32_228
  let c256_i32_229 : BitVec 32 := 256#32
  let v411 : BitVec 32 := Scalar.addi v410 c256_i32_229
  v411
def k0_mult56 (i : grid0.Coords) (k0_t11 : Fin (k0_t11_loop i).trips) : BitVec 32 :=
  let c0_i32_194 : BitVec 32 := 0#32
  let c1_i32_196 : BitVec 32 := 1#32
  let arg18 : BitVec 32 := Scf.iv c0_i32_194 c1_i32_196 k0_t11
  let c512_i32_233 : BitVec 32 := 512#32
  let v423 : BitVec 32 := Scalar.muli arg18 c512_i32_233
  let c320_i32 : BitVec 32 := 320#32
  let v424 : BitVec 32 := Scalar.addi v423 c320_i32
  v424
def k0_mult57 (i : grid0.Coords) (k0_t11 : Fin (k0_t11_loop i).trips) : BitVec 32 :=
  let c0_i32_194 : BitVec 32 := 0#32
  let c1_i32_196 : BitVec 32 := 1#32
  let arg18 : BitVec 32 := Scf.iv c0_i32_194 c1_i32_196 k0_t11
  let c512_i32_237 : BitVec 32 := 512#32
  let v436 : BitVec 32 := Scalar.muli arg18 c512_i32_237
  let c384_i32 : BitVec 32 := 384#32
  let v437 : BitVec 32 := Scalar.addi v436 c384_i32
  v437
def k0_mult58 (i : grid0.Coords) (k0_t11 : Fin (k0_t11_loop i).trips) : BitVec 32 :=
  let c0_i32_194 : BitVec 32 := 0#32
  let c1_i32_196 : BitVec 32 := 1#32
  let arg18 : BitVec 32 := Scf.iv c0_i32_194 c1_i32_196 k0_t11
  let c512_i32_241 : BitVec 32 := 512#32
  let v449 : BitVec 32 := Scalar.muli arg18 c512_i32_241
  let c448_i32 : BitVec 32 := 448#32
  let v450 : BitVec 32 := Scalar.addi v449 c448_i32
  v450
@[reducible] def k0_t12_loop (i : grid0.Coords) : Scf.Loop 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let v338 : BitVec 32 := Scalar.addi c0_i32_194 v337
  let c1_i32_197 : BitVec 32 := 1#32
  ⟨v341, v338, c1_i32_197⟩
def k0_mult59 (i : grid0.Coords) (k0_t12 : Fin (k0_t12_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let c1_i32_197 : BitVec 32 := 1#32
  let arg18 : BitVec 32 := Scf.iv v341 c1_i32_197 k0_t12
  let c512_i32_210 : BitVec 32 := 512#32
  let v358 : BitVec 32 := Scalar.muli arg18 c512_i32_210
  let c0_i32_211 : BitVec 32 := 0#32
  let v359 : BitVec 32 := Scalar.addi v358 c0_i32_211
  v359
def k0_off12 (i : grid0.Coords) (k0_t12 : Fin (k0_t12_loop i).trips) (c0_i32_211 : BitVec 32) : Fin 2 → Nat :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let c1_i32_197 : BitVec 32 := 1#32
  let arg18 : BitVec 32 := Scf.iv v341 c1_i32_197 k0_t12
  let c512_i32_210 : BitVec 32 := 512#32
  let v358 : BitVec 32 := Scalar.muli arg18 c512_i32_210
  let v359 : BitVec 32 := Scalar.addi v358 c0_i32_211
  let v360 : BitVec 32 := v359
  let v361 : Index := Scalar.indexCast v360
  let c0_212 : Index := 0#32
  ![v361.toNat, 0]
def k0_mult60 (i : grid0.Coords) (k0_t12 : Fin (k0_t12_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let c1_i32_197 : BitVec 32 := 1#32
  let arg18 : BitVec 32 := Scf.iv v341 c1_i32_197 k0_t12
  let c512_i32_215 : BitVec 32 := 512#32
  let v371 : BitVec 32 := Scalar.muli arg18 c512_i32_215
  let c64_i32 : BitVec 32 := 64#32
  let v372 : BitVec 32 := Scalar.addi v371 c64_i32
  v372
def k0_mult61 (i : grid0.Coords) (k0_t12 : Fin (k0_t12_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let c1_i32_197 : BitVec 32 := 1#32
  let arg18 : BitVec 32 := Scf.iv v341 c1_i32_197 k0_t12
  let c512_i32_219 : BitVec 32 := 512#32
  let v384 : BitVec 32 := Scalar.muli arg18 c512_i32_219
  let c128_i32_220 : BitVec 32 := 128#32
  let v385 : BitVec 32 := Scalar.addi v384 c128_i32_220
  v385
def k0_mult62 (i : grid0.Coords) (k0_t12 : Fin (k0_t12_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let c1_i32_197 : BitVec 32 := 1#32
  let arg18 : BitVec 32 := Scf.iv v341 c1_i32_197 k0_t12
  let c512_i32_224 : BitVec 32 := 512#32
  let v397 : BitVec 32 := Scalar.muli arg18 c512_i32_224
  let c192_i32 : BitVec 32 := 192#32
  let v398 : BitVec 32 := Scalar.addi v397 c192_i32
  v398
def k0_mult63 (i : grid0.Coords) (k0_t12 : Fin (k0_t12_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let c1_i32_197 : BitVec 32 := 1#32
  let arg18 : BitVec 32 := Scf.iv v341 c1_i32_197 k0_t12
  let c512_i32_228 : BitVec 32 := 512#32
  let v410 : BitVec 32 := Scalar.muli arg18 c512_i32_228
  let c256_i32_229 : BitVec 32 := 256#32
  let v411 : BitVec 32 := Scalar.addi v410 c256_i32_229
  v411
def k0_mult64 (i : grid0.Coords) (k0_t12 : Fin (k0_t12_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let c1_i32_197 : BitVec 32 := 1#32
  let arg18 : BitVec 32 := Scf.iv v341 c1_i32_197 k0_t12
  let c512_i32_233 : BitVec 32 := 512#32
  let v423 : BitVec 32 := Scalar.muli arg18 c512_i32_233
  let c320_i32 : BitVec 32 := 320#32
  let v424 : BitVec 32 := Scalar.addi v423 c320_i32
  v424
def k0_mult65 (i : grid0.Coords) (k0_t12 : Fin (k0_t12_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let c1_i32_197 : BitVec 32 := 1#32
  let arg18 : BitVec 32 := Scf.iv v341 c1_i32_197 k0_t12
  let c512_i32_237 : BitVec 32 := 512#32
  let v436 : BitVec 32 := Scalar.muli arg18 c512_i32_237
  let c384_i32 : BitVec 32 := 384#32
  let v437 : BitVec 32 := Scalar.addi v436 c384_i32
  v437
def k0_mult66 (i : grid0.Coords) (k0_t12 : Fin (k0_t12_loop i).trips) : BitVec 32 :=
  let c0_i32_194 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v337 : BitVec 32 := Scalar.subi v20 c0_i32_194
  let c1_i32_195 : BitVec 32 := 1#32
  let v339 : BitVec 32 := Scalar.divsi v337 c1_i32_195
  let v340 : BitVec 32 := Scalar.muli v339 c1_i32_195
  let v341 : BitVec 32 := Scalar.addi c0_i32_194 v340
  let c1_i32_197 : BitVec 32 := 1#32
  let arg18 : BitVec 32 := Scf.iv v341 c1_i32_197 k0_t12
  let c512_i32_241 : BitVec 32 := 512#32
  let v449 : BitVec 32 := Scalar.muli arg18 c512_i32_241
  let c448_i32 : BitVec 32 := 448#32
  let v450 : BitVec 32 := Scalar.addi v449 c448_i32
  v450
@[reducible] def k0_t13_loop : Scf.Loop 32 :=
  let c0_i32_201 : BitVec 32 := 0#32
  let c13_i32 : BitVec 32 := 13#32
  let v349 : BitVec 32 := Scalar.addi c0_i32_201 c13_i32
  let c1_i32_202 : BitVec 32 := 1#32
  ⟨c0_i32_201, v349, c1_i32_202⟩
@[reducible] def k0_t14_loop (i : grid0.Coords) : Scf.Loop 32 :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let c1_i32_214 : BitVec 32 := 1#32
  ⟨c0_i32_212, v367, c1_i32_214⟩
def k0_mult67 (i : grid0.Coords) (k0_t14 : Fin (k0_t14_loop i).trips) : BitVec 32 :=
  let c0_i32_212 : BitVec 32 := 0#32
  let c1_i32_214 : BitVec 32 := 1#32
  let arg20 : BitVec 32 := Scf.iv c0_i32_212 c1_i32_214 k0_t14
  let c512_i32_217 : BitVec 32 := 512#32
  let v374 : BitVec 32 := Scalar.muli arg20 c512_i32_217
  let c0_i32_218 : BitVec 32 := 0#32
  let v375 : BitVec 32 := Scalar.addi v374 c0_i32_218
  v375
def k0_off13 (i : grid0.Coords) (k0_t14 : Fin (k0_t14_loop i).trips) (c0_i32_218 : BitVec 32) : Fin 2 → Nat :=
  let c0_i32_212 : BitVec 32 := 0#32
  let c1_i32_214 : BitVec 32 := 1#32
  let arg20 : BitVec 32 := Scf.iv c0_i32_212 c1_i32_214 k0_t14
  let c512_i32_217 : BitVec 32 := 512#32
  let v374 : BitVec 32 := Scalar.muli arg20 c512_i32_217
  let v375 : BitVec 32 := Scalar.addi v374 c0_i32_218
  let v376 : BitVec 32 := v375
  let v377 : Index := Scalar.indexCast v376
  let c0_219 : Index := 0#32
  ![v377.toNat, 0]
def k0_mult68 (i : grid0.Coords) (k0_t14 : Fin (k0_t14_loop i).trips) : BitVec 32 :=
  let c0_i32_212 : BitVec 32 := 0#32
  let c1_i32_214 : BitVec 32 := 1#32
  let arg20 : BitVec 32 := Scf.iv c0_i32_212 c1_i32_214 k0_t14
  let c512_i32_222 : BitVec 32 := 512#32
  let v390 : BitVec 32 := Scalar.muli arg20 c512_i32_222
  let c64_i32 : BitVec 32 := 64#32
  let v391 : BitVec 32 := Scalar.addi v390 c64_i32
  v391
def k0_mult69 (i : grid0.Coords) (k0_t14 : Fin (k0_t14_loop i).trips) : BitVec 32 :=
  let c0_i32_212 : BitVec 32 := 0#32
  let c1_i32_214 : BitVec 32 := 1#32
  let arg20 : BitVec 32 := Scf.iv c0_i32_212 c1_i32_214 k0_t14
  let c512_i32_226 : BitVec 32 := 512#32
  let v406 : BitVec 32 := Scalar.muli arg20 c512_i32_226
  let c128_i32_227 : BitVec 32 := 128#32
  let v407 : BitVec 32 := Scalar.addi v406 c128_i32_227
  v407
def k0_mult70 (i : grid0.Coords) (k0_t14 : Fin (k0_t14_loop i).trips) : BitVec 32 :=
  let c0_i32_212 : BitVec 32 := 0#32
  let c1_i32_214 : BitVec 32 := 1#32
  let arg20 : BitVec 32 := Scf.iv c0_i32_212 c1_i32_214 k0_t14
  let c512_i32_231 : BitVec 32 := 512#32
  let v422 : BitVec 32 := Scalar.muli arg20 c512_i32_231
  let c192_i32 : BitVec 32 := 192#32
  let v423 : BitVec 32 := Scalar.addi v422 c192_i32
  v423
def k0_mult71 (i : grid0.Coords) (k0_t14 : Fin (k0_t14_loop i).trips) : BitVec 32 :=
  let c0_i32_212 : BitVec 32 := 0#32
  let c1_i32_214 : BitVec 32 := 1#32
  let arg20 : BitVec 32 := Scf.iv c0_i32_212 c1_i32_214 k0_t14
  let c512_i32_235 : BitVec 32 := 512#32
  let v438 : BitVec 32 := Scalar.muli arg20 c512_i32_235
  let c256_i32_236 : BitVec 32 := 256#32
  let v439 : BitVec 32 := Scalar.addi v438 c256_i32_236
  v439
def k0_mult72 (i : grid0.Coords) (k0_t14 : Fin (k0_t14_loop i).trips) : BitVec 32 :=
  let c0_i32_212 : BitVec 32 := 0#32
  let c1_i32_214 : BitVec 32 := 1#32
  let arg20 : BitVec 32 := Scf.iv c0_i32_212 c1_i32_214 k0_t14
  let c512_i32_240 : BitVec 32 := 512#32
  let v454 : BitVec 32 := Scalar.muli arg20 c512_i32_240
  let c320_i32 : BitVec 32 := 320#32
  let v455 : BitVec 32 := Scalar.addi v454 c320_i32
  v455
def k0_mult73 (i : grid0.Coords) (k0_t14 : Fin (k0_t14_loop i).trips) : BitVec 32 :=
  let c0_i32_212 : BitVec 32 := 0#32
  let c1_i32_214 : BitVec 32 := 1#32
  let arg20 : BitVec 32 := Scf.iv c0_i32_212 c1_i32_214 k0_t14
  let c512_i32_244 : BitVec 32 := 512#32
  let v470 : BitVec 32 := Scalar.muli arg20 c512_i32_244
  let c384_i32 : BitVec 32 := 384#32
  let v471 : BitVec 32 := Scalar.addi v470 c384_i32
  v471
def k0_mult74 (i : grid0.Coords) (k0_t14 : Fin (k0_t14_loop i).trips) : BitVec 32 :=
  let c0_i32_212 : BitVec 32 := 0#32
  let c1_i32_214 : BitVec 32 := 1#32
  let arg20 : BitVec 32 := Scf.iv c0_i32_212 c1_i32_214 k0_t14
  let c512_i32_248 : BitVec 32 := 512#32
  let v486 : BitVec 32 := Scalar.muli arg20 c512_i32_248
  let c448_i32 : BitVec 32 := 448#32
  let v487 : BitVec 32 := Scalar.addi v486 c448_i32
  v487
@[reducible] def k0_t15_loop (i : grid0.Coords) : Scf.Loop 32 :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let v364 : BitVec 32 := Scalar.addi c0_i32_212 v363
  let c1_i32_215 : BitVec 32 := 1#32
  ⟨v367, v364, c1_i32_215⟩
def k0_mult75 (i : grid0.Coords) (k0_t15 : Fin (k0_t15_loop i).trips) : BitVec 32 :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let c1_i32_215 : BitVec 32 := 1#32
  let arg20 : BitVec 32 := Scf.iv v367 c1_i32_215 k0_t15
  let c512_i32_217 : BitVec 32 := 512#32
  let v374 : BitVec 32 := Scalar.muli arg20 c512_i32_217
  let c0_i32_218 : BitVec 32 := 0#32
  let v375 : BitVec 32 := Scalar.addi v374 c0_i32_218
  v375
def k0_off14 (i : grid0.Coords) (k0_t15 : Fin (k0_t15_loop i).trips) (c0_i32_218 : BitVec 32) : Fin 2 → Nat :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let c1_i32_215 : BitVec 32 := 1#32
  let arg20 : BitVec 32 := Scf.iv v367 c1_i32_215 k0_t15
  let c512_i32_217 : BitVec 32 := 512#32
  let v374 : BitVec 32 := Scalar.muli arg20 c512_i32_217
  let v375 : BitVec 32 := Scalar.addi v374 c0_i32_218
  let v376 : BitVec 32 := v375
  let v377 : Index := Scalar.indexCast v376
  let c0_219 : Index := 0#32
  ![v377.toNat, 0]
def k0_mult76 (i : grid0.Coords) (k0_t15 : Fin (k0_t15_loop i).trips) : BitVec 32 :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let c1_i32_215 : BitVec 32 := 1#32
  let arg20 : BitVec 32 := Scf.iv v367 c1_i32_215 k0_t15
  let c512_i32_222 : BitVec 32 := 512#32
  let v390 : BitVec 32 := Scalar.muli arg20 c512_i32_222
  let c64_i32 : BitVec 32 := 64#32
  let v391 : BitVec 32 := Scalar.addi v390 c64_i32
  v391
def k0_mult77 (i : grid0.Coords) (k0_t15 : Fin (k0_t15_loop i).trips) : BitVec 32 :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let c1_i32_215 : BitVec 32 := 1#32
  let arg20 : BitVec 32 := Scf.iv v367 c1_i32_215 k0_t15
  let c512_i32_226 : BitVec 32 := 512#32
  let v406 : BitVec 32 := Scalar.muli arg20 c512_i32_226
  let c128_i32_227 : BitVec 32 := 128#32
  let v407 : BitVec 32 := Scalar.addi v406 c128_i32_227
  v407
def k0_mult78 (i : grid0.Coords) (k0_t15 : Fin (k0_t15_loop i).trips) : BitVec 32 :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let c1_i32_215 : BitVec 32 := 1#32
  let arg20 : BitVec 32 := Scf.iv v367 c1_i32_215 k0_t15
  let c512_i32_231 : BitVec 32 := 512#32
  let v422 : BitVec 32 := Scalar.muli arg20 c512_i32_231
  let c192_i32 : BitVec 32 := 192#32
  let v423 : BitVec 32 := Scalar.addi v422 c192_i32
  v423
def k0_mult79 (i : grid0.Coords) (k0_t15 : Fin (k0_t15_loop i).trips) : BitVec 32 :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let c1_i32_215 : BitVec 32 := 1#32
  let arg20 : BitVec 32 := Scf.iv v367 c1_i32_215 k0_t15
  let c512_i32_235 : BitVec 32 := 512#32
  let v438 : BitVec 32 := Scalar.muli arg20 c512_i32_235
  let c256_i32_236 : BitVec 32 := 256#32
  let v439 : BitVec 32 := Scalar.addi v438 c256_i32_236
  v439
def k0_mult80 (i : grid0.Coords) (k0_t15 : Fin (k0_t15_loop i).trips) : BitVec 32 :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let c1_i32_215 : BitVec 32 := 1#32
  let arg20 : BitVec 32 := Scf.iv v367 c1_i32_215 k0_t15
  let c512_i32_240 : BitVec 32 := 512#32
  let v454 : BitVec 32 := Scalar.muli arg20 c512_i32_240
  let c320_i32 : BitVec 32 := 320#32
  let v455 : BitVec 32 := Scalar.addi v454 c320_i32
  v455
def k0_mult81 (i : grid0.Coords) (k0_t15 : Fin (k0_t15_loop i).trips) : BitVec 32 :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let c1_i32_215 : BitVec 32 := 1#32
  let arg20 : BitVec 32 := Scf.iv v367 c1_i32_215 k0_t15
  let c512_i32_244 : BitVec 32 := 512#32
  let v470 : BitVec 32 := Scalar.muli arg20 c512_i32_244
  let c384_i32 : BitVec 32 := 384#32
  let v471 : BitVec 32 := Scalar.addi v470 c384_i32
  v471
def k0_mult82 (i : grid0.Coords) (k0_t15 : Fin (k0_t15_loop i).trips) : BitVec 32 :=
  let c0_i32_212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v363 : BitVec 32 := Scalar.subi v20 c0_i32_212
  let c1_i32_213 : BitVec 32 := 1#32
  let v365 : BitVec 32 := Scalar.divsi v363 c1_i32_213
  let v366 : BitVec 32 := Scalar.muli v365 c1_i32_213
  let v367 : BitVec 32 := Scalar.addi c0_i32_212 v366
  let c1_i32_215 : BitVec 32 := 1#32
  let arg20 : BitVec 32 := Scf.iv v367 c1_i32_215 k0_t15
  let c512_i32_248 : BitVec 32 := 512#32
  let v486 : BitVec 32 := Scalar.muli arg20 c512_i32_248
  let c448_i32 : BitVec 32 := 448#32
  let v487 : BitVec 32 := Scalar.addi v486 c448_i32
  v487
@[reducible] def k0_t16_loop (i : grid0.Coords) : Scf.Loop 32 :=
  let c0_i32_206 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v353 : BitVec 32 := Scalar.subi v20 c0_i32_206
  let c1_i32_207 : BitVec 32 := 1#32
  let v355 : BitVec 32 := Scalar.divsi v353 c1_i32_207
  let v356 : BitVec 32 := Scalar.muli v355 c1_i32_207
  let v357 : BitVec 32 := Scalar.addi c0_i32_206 v356
  let c1_i32_208 : BitVec 32 := 1#32
  ⟨c0_i32_206, v357, c1_i32_208⟩
def k0_mult83 (i : grid0.Coords) (k0_t16 : Fin (k0_t16_loop i).trips) : BitVec 32 :=
  let c0_i32_206 : BitVec 32 := 0#32
  let c1_i32_208 : BitVec 32 := 1#32
  let arg18 : BitVec 32 := Scf.iv c0_i32_206 c1_i32_208 k0_t16
  let c512_i32_210 : BitVec 32 := 512#32
  let v358 : BitVec 32 := Scalar.muli arg18 c512_i32_210
  v358
def k0_off15 (i : grid0.Coords) (k0_t16 : Fin (k0_t16_loop i).trips) : Fin 2 → Nat :=
  let c0_i32_206 : BitVec 32 := 0#32
  let c1_i32_208 : BitVec 32 := 1#32
  let arg18 : BitVec 32 := Scf.iv c0_i32_206 c1_i32_208 k0_t16
  let c512_i32_210 : BitVec 32 := 512#32
  let v358 : BitVec 32 := Scalar.muli arg18 c512_i32_210
  let v359 : BitVec 32 := v358
  let v360 : Index := Scalar.indexCast v359
  let c0_211 : Index := 0#32
  ![v360.toNat, 0]
@[reducible] def k0_t17_loop (i : grid0.Coords) : Scf.Loop 32 :=
  let c0_i32_206 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v353 : BitVec 32 := Scalar.subi v20 c0_i32_206
  let c1_i32_207 : BitVec 32 := 1#32
  let v355 : BitVec 32 := Scalar.divsi v353 c1_i32_207
  let v356 : BitVec 32 := Scalar.muli v355 c1_i32_207
  let v357 : BitVec 32 := Scalar.addi c0_i32_206 v356
  let v354 : BitVec 32 := Scalar.addi c0_i32_206 v353
  let c1_i32_209 : BitVec 32 := 1#32
  ⟨v357, v354, c1_i32_209⟩
def k0_mult84 (i : grid0.Coords) (k0_t17 : Fin (k0_t17_loop i).trips) : BitVec 32 :=
  let c0_i32_206 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v353 : BitVec 32 := Scalar.subi v20 c0_i32_206
  let c1_i32_207 : BitVec 32 := 1#32
  let v355 : BitVec 32 := Scalar.divsi v353 c1_i32_207
  let v356 : BitVec 32 := Scalar.muli v355 c1_i32_207
  let v357 : BitVec 32 := Scalar.addi c0_i32_206 v356
  let c1_i32_209 : BitVec 32 := 1#32
  let arg18 : BitVec 32 := Scf.iv v357 c1_i32_209 k0_t17
  let c512_i32_210 : BitVec 32 := 512#32
  let v358 : BitVec 32 := Scalar.muli arg18 c512_i32_210
  v358
def k0_off16 (i : grid0.Coords) (k0_t17 : Fin (k0_t17_loop i).trips) : Fin 2 → Nat :=
  let c0_i32_206 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v353 : BitVec 32 := Scalar.subi v20 c0_i32_206
  let c1_i32_207 : BitVec 32 := 1#32
  let v355 : BitVec 32 := Scalar.divsi v353 c1_i32_207
  let v356 : BitVec 32 := Scalar.muli v355 c1_i32_207
  let v357 : BitVec 32 := Scalar.addi c0_i32_206 v356
  let c1_i32_209 : BitVec 32 := 1#32
  let arg18 : BitVec 32 := Scf.iv v357 c1_i32_209 k0_t17
  let c512_i32_210 : BitVec 32 := 512#32
  let v358 : BitVec 32 := Scalar.muli arg18 c512_i32_210
  let v359 : BitVec 32 := v358
  let v360 : Index := Scalar.indexCast v359
  let c0_211 : Index := 0#32
  ![v360.toNat, 0]
def k0_mult85 : BitVec 32 :=
  let c0_i32_100 : BitVec 32 := 0#32
  c0_i32_100
def k0_mult86 : BitVec 32 :=
  let c0_i32_104 : BitVec 32 := 0#32
  c0_i32_104
@[reducible] def k0_t18_loop (i : grid0.Coords) : Scf.Loop 32 :=
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_135 : BitVec 32 := 1#32
  ⟨c0_i32_133, v258, c1_i32_135⟩
def k0_mult87 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_194 : BitVec 32 := 1#32
  let v337 : BitVec 32 := Scalar.addi v336 c1_i32_194
  let c512_i32_195 : BitVec 32 := 512#32
  let v338 : BitVec 32 := Scalar.muli v337 c512_i32_195
  v338
def k0_off17 (i : grid0.Coords) (k0_t18 : Fin (k0_t18_loop i).trips) : Fin 2 → Nat :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_194 : BitVec 32 := 1#32
  let v337 : BitVec 32 := Scalar.addi v336 c1_i32_194
  let c512_i32_195 : BitVec 32 := 512#32
  let v338 : BitVec 32 := Scalar.muli v337 c512_i32_195
  let v339 : BitVec 32 := v338
  let v340 : Index := Scalar.indexCast v339
  let c0_196 : Index := 0#32
  ![v340.toNat, 0]
def k0_mult88 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_194 : BitVec 32 := 1#32
  let v337 : BitVec 32 := Scalar.addi v336 c1_i32_194
  let c512_i32_199 : BitVec 32 := 512#32
  let v348 : BitVec 32 := Scalar.muli v337 c512_i32_199
  v348
def k0_off18 (i : grid0.Coords) (k0_t18 : Fin (k0_t18_loop i).trips) : Fin 3 → Nat :=
  let c0_200 : Index := 0#32
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_194 : BitVec 32 := 1#32
  let v337 : BitVec 32 := Scalar.addi v336 c1_i32_194
  let c512_i32_199 : BitVec 32 := 512#32
  let v348 : BitVec 32 := Scalar.muli v337 c512_i32_199
  let v349 : BitVec 32 := v348
  let v350 : Index := Scalar.indexCast v349
  let c0_201 : Index := 0#32
  ![0, v350.toNat, 0]
def k0_mult89 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c512_i32_206 : BitVec 32 := 512#32
  let v358 : BitVec 32 := Scalar.muli v336 c512_i32_206
  v358
def k0_off19 (i : grid0.Coords) (k0_t18 : Fin (k0_t18_loop i).trips) : Fin 3 → Nat :=
  let c0_290 : Index := 0#32
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c512_i32_206 : BitVec 32 := 512#32
  let v358 : BitVec 32 := Scalar.muli v336 c512_i32_206
  let v359 : BitVec 32 := v358
  let v484 : Index := Scalar.indexCast v359
  let c0_291 : Index := 0#32
  ![0, v484.toNat, 0]
def k0_mult90 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_194 : BitVec 32 := 1#32
  let v337 : BitVec 32 := Scalar.addi v336 c1_i32_194
  let c512_i32_302 : BitVec 32 := 512#32
  let v497 : BitVec 32 := Scalar.muli v337 c512_i32_302
  v497
def k0_mult91 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c512_i32_309 : BitVec 32 := 512#32
  let v507 : BitVec 32 := Scalar.muli v336 c512_i32_309
  v507
def k0_mult92 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_194 : BitVec 32 := 1#32
  let v337 : BitVec 32 := Scalar.addi v336 c1_i32_194
  let c512_i32_409 : BitVec 32 := 512#32
  let v646 : BitVec 32 := Scalar.muli v337 c512_i32_409
  v646
def k0_off20 (i : grid0.Coords) (k0_t18 : Fin (k0_t18_loop i).trips) : Fin 3 → Nat :=
  let c0_410 : Index := 0#32
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_194 : BitVec 32 := 1#32
  let v337 : BitVec 32 := Scalar.addi v336 c1_i32_194
  let c512_i32_409 : BitVec 32 := 512#32
  let v646 : BitVec 32 := Scalar.muli v337 c512_i32_409
  let v647 : BitVec 32 := v646
  let v648 : Index := Scalar.indexCast v647
  let c128_411 : Index := 128#32
  ![0, v648.toNat, 128]
def k0_mult93 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c512_i32_416 : BitVec 32 := 512#32
  let v656 : BitVec 32 := Scalar.muli v336 c512_i32_416
  v656
def k0_off21 (i : grid0.Coords) (k0_t18 : Fin (k0_t18_loop i).trips) : Fin 3 → Nat :=
  let c0_504 : Index := 0#32
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c512_i32_416 : BitVec 32 := 512#32
  let v656 : BitVec 32 := Scalar.muli v336 c512_i32_416
  let v657 : BitVec 32 := v656
  let v782 : Index := Scalar.indexCast v657
  let c128_505 : Index := 128#32
  ![0, v782.toNat, 128]
def k0_mult94 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_194 : BitVec 32 := 1#32
  let v337 : BitVec 32 := Scalar.addi v336 c1_i32_194
  let c512_i32_516 : BitVec 32 := 512#32
  let v795 : BitVec 32 := Scalar.muli v337 c512_i32_516
  v795
def k0_mult95 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c512_i32_523 : BitVec 32 := 512#32
  let v805 : BitVec 32 := Scalar.muli v336 c512_i32_523
  v805
def k0_mult96 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c2_i32_623 : BitVec 32 := 2#32
  let v944 : BitVec 32 := Scalar.addi v336 c2_i32_623
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_624 : BitVec 32 := 1#32
  let v945 : BitVec 32 := Scalar.subi v20 c1_i32_624
  let v946 : BitVec 32 := Scalar.minsi v944 v945
  let c512_i32_626 : BitVec 32 := 512#32
  let v948 : BitVec 32 := Scalar.muli v946 c512_i32_626
  v948
def k0_off22 (i : grid0.Coords) (k0_t18 : Fin (k0_t18_loop i).trips) : Fin 2 → Nat :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c2_i32_623 : BitVec 32 := 2#32
  let v944 : BitVec 32 := Scalar.addi v336 c2_i32_623
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_624 : BitVec 32 := 1#32
  let v945 : BitVec 32 := Scalar.subi v20 c1_i32_624
  let v946 : BitVec 32 := Scalar.minsi v944 v945
  let c512_i32_626 : BitVec 32 := 512#32
  let v948 : BitVec 32 := Scalar.muli v946 c512_i32_626
  let v949 : BitVec 32 := v948
  let v950 : Index := Scalar.indexCast v949
  let c0_627 : Index := 0#32
  ![v950.toNat, 0]
def k0_mult97 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c2_i32_623 : BitVec 32 := 2#32
  let v944 : BitVec 32 := Scalar.addi v336 c2_i32_623
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_624 : BitVec 32 := 1#32
  let v945 : BitVec 32 := Scalar.subi v20 c1_i32_624
  let v946 : BitVec 32 := Scalar.minsi v944 v945
  let c512_i32_630 : BitVec 32 := 512#32
  let v958 : BitVec 32 := Scalar.muli v946 c512_i32_630
  v958
def k0_off23 (i : grid0.Coords) (k0_t18 : Fin (k0_t18_loop i).trips) : Fin 3 → Nat :=
  let c0_631 : Index := 0#32
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c2_i32_623 : BitVec 32 := 2#32
  let v944 : BitVec 32 := Scalar.addi v336 c2_i32_623
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_624 : BitVec 32 := 1#32
  let v945 : BitVec 32 := Scalar.subi v20 c1_i32_624
  let v946 : BitVec 32 := Scalar.minsi v944 v945
  let c512_i32_630 : BitVec 32 := 512#32
  let v958 : BitVec 32 := Scalar.muli v946 c512_i32_630
  let v959 : BitVec 32 := v958
  let v960 : Index := Scalar.indexCast v959
  let c0_632 : Index := 0#32
  ![0, v960.toNat, 0]
def k0_mult98 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_625 : BitVec 32 := 1#32
  let v947 : BitVec 32 := Scalar.addi v336 c1_i32_625
  let c512_i32_637 : BitVec 32 := 512#32
  let v968 : BitVec 32 := Scalar.muli v947 c512_i32_637
  v968
def k0_mult99 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c2_i32_623 : BitVec 32 := 2#32
  let v944 : BitVec 32 := Scalar.addi v336 c2_i32_623
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_624 : BitVec 32 := 1#32
  let v945 : BitVec 32 := Scalar.subi v20 c1_i32_624
  let v946 : BitVec 32 := Scalar.minsi v944 v945
  let c512_i32_737 : BitVec 32 := 512#32
  let v1107 : BitVec 32 := Scalar.muli v946 c512_i32_737
  v1107
def k0_mult100 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_625 : BitVec 32 := 1#32
  let v947 : BitVec 32 := Scalar.addi v336 c1_i32_625
  let c512_i32_744 : BitVec 32 := 512#32
  let v1117 : BitVec 32 := Scalar.muli v947 c512_i32_744
  v1117
def k0_mult101 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c2_i32_623 : BitVec 32 := 2#32
  let v944 : BitVec 32 := Scalar.addi v336 c2_i32_623
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_624 : BitVec 32 := 1#32
  let v945 : BitVec 32 := Scalar.subi v20 c1_i32_624
  let v946 : BitVec 32 := Scalar.minsi v944 v945
  let c512_i32_844 : BitVec 32 := 512#32
  let v1256 : BitVec 32 := Scalar.muli v946 c512_i32_844
  v1256
def k0_off24 (i : grid0.Coords) (k0_t18 : Fin (k0_t18_loop i).trips) : Fin 3 → Nat :=
  let c0_845 : Index := 0#32
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c2_i32_623 : BitVec 32 := 2#32
  let v944 : BitVec 32 := Scalar.addi v336 c2_i32_623
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_624 : BitVec 32 := 1#32
  let v945 : BitVec 32 := Scalar.subi v20 c1_i32_624
  let v946 : BitVec 32 := Scalar.minsi v944 v945
  let c512_i32_844 : BitVec 32 := 512#32
  let v1256 : BitVec 32 := Scalar.muli v946 c512_i32_844
  let v1257 : BitVec 32 := v1256
  let v1258 : Index := Scalar.indexCast v1257
  let c128_846 : Index := 128#32
  ![0, v1258.toNat, 128]
def k0_mult102 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_625 : BitVec 32 := 1#32
  let v947 : BitVec 32 := Scalar.addi v336 c1_i32_625
  let c512_i32_851 : BitVec 32 := 512#32
  let v1266 : BitVec 32 := Scalar.muli v947 c512_i32_851
  v1266
def k0_mult103 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c2_i32_623 : BitVec 32 := 2#32
  let v944 : BitVec 32 := Scalar.addi v336 c2_i32_623
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_624 : BitVec 32 := 1#32
  let v945 : BitVec 32 := Scalar.subi v20 c1_i32_624
  let v946 : BitVec 32 := Scalar.minsi v944 v945
  let c512_i32_951 : BitVec 32 := 512#32
  let v1405 : BitVec 32 := Scalar.muli v946 c512_i32_951
  v1405
def k0_mult104 (i : grid0.Coords) (k0_t18 : Fin (k0_t18_loop i).trips) : BitVec 32 :=
  let c2_i32_193 : BitVec 32 := 2#32
  let c0_i32_133 : BitVec 32 := 0#32
  let c1_i32_135 : BitVec 32 := 1#32
  let arg18 : BitVec 32 := Scf.iv c0_i32_133 c1_i32_135 k0_t18
  let v336 : BitVec 32 := Scalar.muli c2_i32_193 arg18
  let c1_i32_625 : BitVec 32 := 1#32
  let v947 : BitVec 32 := Scalar.addi v336 c1_i32_625
  let c512_i32_958 : BitVec 32 := 512#32
  let v1415 : BitVec 32 := Scalar.muli v947 c512_i32_958
  v1415
@[reducible] def k0_t19_loop (i : grid0.Coords) : Scf.Loop 32 :=
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let v255 : BitVec 32 := Scalar.addi c0_i32_133 v254
  let c1_i32_136 : BitVec 32 := 1#32
  ⟨v258, v255, c1_i32_136⟩
def k0_mult105 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_194 : BitVec 32 := 1#32
  let v337 : BitVec 32 := Scalar.addi v336 c1_i32_194
  let c512_i32_195 : BitVec 32 := 512#32
  let v338 : BitVec 32 := Scalar.muli v337 c512_i32_195
  v338
def k0_off25 (i : grid0.Coords) (k0_t19 : Fin (k0_t19_loop i).trips) : Fin 2 → Nat :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_194 : BitVec 32 := 1#32
  let v337 : BitVec 32 := Scalar.addi v336 c1_i32_194
  let c512_i32_195 : BitVec 32 := 512#32
  let v338 : BitVec 32 := Scalar.muli v337 c512_i32_195
  let v339 : BitVec 32 := v338
  let v340 : Index := Scalar.indexCast v339
  let c0_196 : Index := 0#32
  ![v340.toNat, 0]
def k0_mult106 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_194 : BitVec 32 := 1#32
  let v337 : BitVec 32 := Scalar.addi v336 c1_i32_194
  let c512_i32_199 : BitVec 32 := 512#32
  let v348 : BitVec 32 := Scalar.muli v337 c512_i32_199
  v348
def k0_off26 (i : grid0.Coords) (k0_t19 : Fin (k0_t19_loop i).trips) : Fin 3 → Nat :=
  let c0_200 : Index := 0#32
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_194 : BitVec 32 := 1#32
  let v337 : BitVec 32 := Scalar.addi v336 c1_i32_194
  let c512_i32_199 : BitVec 32 := 512#32
  let v348 : BitVec 32 := Scalar.muli v337 c512_i32_199
  let v349 : BitVec 32 := v348
  let v350 : Index := Scalar.indexCast v349
  let c0_201 : Index := 0#32
  ![0, v350.toNat, 0]
def k0_mult107 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c512_i32_206 : BitVec 32 := 512#32
  let v358 : BitVec 32 := Scalar.muli v336 c512_i32_206
  v358
def k0_off27 (i : grid0.Coords) (k0_t19 : Fin (k0_t19_loop i).trips) : Fin 3 → Nat :=
  let c0_290 : Index := 0#32
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c512_i32_206 : BitVec 32 := 512#32
  let v358 : BitVec 32 := Scalar.muli v336 c512_i32_206
  let v359 : BitVec 32 := v358
  let v484 : Index := Scalar.indexCast v359
  let c0_291 : Index := 0#32
  ![0, v484.toNat, 0]
def k0_mult108 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_194 : BitVec 32 := 1#32
  let v337 : BitVec 32 := Scalar.addi v336 c1_i32_194
  let c512_i32_302 : BitVec 32 := 512#32
  let v497 : BitVec 32 := Scalar.muli v337 c512_i32_302
  v497
def k0_mult109 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c512_i32_309 : BitVec 32 := 512#32
  let v507 : BitVec 32 := Scalar.muli v336 c512_i32_309
  v507
def k0_mult110 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_194 : BitVec 32 := 1#32
  let v337 : BitVec 32 := Scalar.addi v336 c1_i32_194
  let c512_i32_409 : BitVec 32 := 512#32
  let v646 : BitVec 32 := Scalar.muli v337 c512_i32_409
  v646
def k0_off28 (i : grid0.Coords) (k0_t19 : Fin (k0_t19_loop i).trips) : Fin 3 → Nat :=
  let c0_410 : Index := 0#32
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_194 : BitVec 32 := 1#32
  let v337 : BitVec 32 := Scalar.addi v336 c1_i32_194
  let c512_i32_409 : BitVec 32 := 512#32
  let v646 : BitVec 32 := Scalar.muli v337 c512_i32_409
  let v647 : BitVec 32 := v646
  let v648 : Index := Scalar.indexCast v647
  let c128_411 : Index := 128#32
  ![0, v648.toNat, 128]
def k0_mult111 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c512_i32_416 : BitVec 32 := 512#32
  let v656 : BitVec 32 := Scalar.muli v336 c512_i32_416
  v656
def k0_off29 (i : grid0.Coords) (k0_t19 : Fin (k0_t19_loop i).trips) : Fin 3 → Nat :=
  let c0_504 : Index := 0#32
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c512_i32_416 : BitVec 32 := 512#32
  let v656 : BitVec 32 := Scalar.muli v336 c512_i32_416
  let v657 : BitVec 32 := v656
  let v782 : Index := Scalar.indexCast v657
  let c128_505 : Index := 128#32
  ![0, v782.toNat, 128]
def k0_mult112 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_194 : BitVec 32 := 1#32
  let v337 : BitVec 32 := Scalar.addi v336 c1_i32_194
  let c512_i32_516 : BitVec 32 := 512#32
  let v795 : BitVec 32 := Scalar.muli v337 c512_i32_516
  v795
def k0_mult113 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c512_i32_523 : BitVec 32 := 512#32
  let v805 : BitVec 32 := Scalar.muli v336 c512_i32_523
  v805
def k0_mult114 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c2_i32_623 : BitVec 32 := 2#32
  let v944 : BitVec 32 := Scalar.addi v336 c2_i32_623
  let c1_i32_624 : BitVec 32 := 1#32
  let v945 : BitVec 32 := Scalar.subi v20 c1_i32_624
  let v946 : BitVec 32 := Scalar.minsi v944 v945
  let c512_i32_626 : BitVec 32 := 512#32
  let v948 : BitVec 32 := Scalar.muli v946 c512_i32_626
  v948
def k0_off30 (i : grid0.Coords) (k0_t19 : Fin (k0_t19_loop i).trips) : Fin 2 → Nat :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c2_i32_623 : BitVec 32 := 2#32
  let v944 : BitVec 32 := Scalar.addi v336 c2_i32_623
  let c1_i32_624 : BitVec 32 := 1#32
  let v945 : BitVec 32 := Scalar.subi v20 c1_i32_624
  let v946 : BitVec 32 := Scalar.minsi v944 v945
  let c512_i32_626 : BitVec 32 := 512#32
  let v948 : BitVec 32 := Scalar.muli v946 c512_i32_626
  let v949 : BitVec 32 := v948
  let v950 : Index := Scalar.indexCast v949
  let c0_627 : Index := 0#32
  ![v950.toNat, 0]
def k0_mult115 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c2_i32_623 : BitVec 32 := 2#32
  let v944 : BitVec 32 := Scalar.addi v336 c2_i32_623
  let c1_i32_624 : BitVec 32 := 1#32
  let v945 : BitVec 32 := Scalar.subi v20 c1_i32_624
  let v946 : BitVec 32 := Scalar.minsi v944 v945
  let c512_i32_630 : BitVec 32 := 512#32
  let v958 : BitVec 32 := Scalar.muli v946 c512_i32_630
  v958
def k0_off31 (i : grid0.Coords) (k0_t19 : Fin (k0_t19_loop i).trips) : Fin 3 → Nat :=
  let c0_631 : Index := 0#32
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c2_i32_623 : BitVec 32 := 2#32
  let v944 : BitVec 32 := Scalar.addi v336 c2_i32_623
  let c1_i32_624 : BitVec 32 := 1#32
  let v945 : BitVec 32 := Scalar.subi v20 c1_i32_624
  let v946 : BitVec 32 := Scalar.minsi v944 v945
  let c512_i32_630 : BitVec 32 := 512#32
  let v958 : BitVec 32 := Scalar.muli v946 c512_i32_630
  let v959 : BitVec 32 := v958
  let v960 : Index := Scalar.indexCast v959
  let c0_632 : Index := 0#32
  ![0, v960.toNat, 0]
def k0_mult116 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_625 : BitVec 32 := 1#32
  let v947 : BitVec 32 := Scalar.addi v336 c1_i32_625
  let c512_i32_637 : BitVec 32 := 512#32
  let v968 : BitVec 32 := Scalar.muli v947 c512_i32_637
  v968
def k0_mult117 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c2_i32_623 : BitVec 32 := 2#32
  let v944 : BitVec 32 := Scalar.addi v336 c2_i32_623
  let c1_i32_624 : BitVec 32 := 1#32
  let v945 : BitVec 32 := Scalar.subi v20 c1_i32_624
  let v946 : BitVec 32 := Scalar.minsi v944 v945
  let c512_i32_737 : BitVec 32 := 512#32
  let v1107 : BitVec 32 := Scalar.muli v946 c512_i32_737
  v1107
def k0_mult118 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_625 : BitVec 32 := 1#32
  let v947 : BitVec 32 := Scalar.addi v336 c1_i32_625
  let c512_i32_744 : BitVec 32 := 512#32
  let v1117 : BitVec 32 := Scalar.muli v947 c512_i32_744
  v1117
def k0_mult119 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c2_i32_623 : BitVec 32 := 2#32
  let v944 : BitVec 32 := Scalar.addi v336 c2_i32_623
  let c1_i32_624 : BitVec 32 := 1#32
  let v945 : BitVec 32 := Scalar.subi v20 c1_i32_624
  let v946 : BitVec 32 := Scalar.minsi v944 v945
  let c512_i32_844 : BitVec 32 := 512#32
  let v1256 : BitVec 32 := Scalar.muli v946 c512_i32_844
  v1256
def k0_off32 (i : grid0.Coords) (k0_t19 : Fin (k0_t19_loop i).trips) : Fin 3 → Nat :=
  let c0_845 : Index := 0#32
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c2_i32_623 : BitVec 32 := 2#32
  let v944 : BitVec 32 := Scalar.addi v336 c2_i32_623
  let c1_i32_624 : BitVec 32 := 1#32
  let v945 : BitVec 32 := Scalar.subi v20 c1_i32_624
  let v946 : BitVec 32 := Scalar.minsi v944 v945
  let c512_i32_844 : BitVec 32 := 512#32
  let v1256 : BitVec 32 := Scalar.muli v946 c512_i32_844
  let v1257 : BitVec 32 := v1256
  let v1258 : Index := Scalar.indexCast v1257
  let c128_846 : Index := 128#32
  ![0, v1258.toNat, 128]
def k0_mult120 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_625 : BitVec 32 := 1#32
  let v947 : BitVec 32 := Scalar.addi v336 c1_i32_625
  let c512_i32_851 : BitVec 32 := 512#32
  let v1266 : BitVec 32 := Scalar.muli v947 c512_i32_851
  v1266
def k0_mult121 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c2_i32_623 : BitVec 32 := 2#32
  let v944 : BitVec 32 := Scalar.addi v336 c2_i32_623
  let c1_i32_624 : BitVec 32 := 1#32
  let v945 : BitVec 32 := Scalar.subi v20 c1_i32_624
  let v946 : BitVec 32 := Scalar.minsi v944 v945
  let c512_i32_951 : BitVec 32 := 512#32
  let v1405 : BitVec 32 := Scalar.muli v946 c512_i32_951
  v1405
def k0_mult122 (i : grid0.Coords) (k0_t19 : Fin (k0_t19_loop i).trips) : BitVec 32 :=
  let c2_i32_193 : BitVec 32 := 2#32
  let c0_i32_133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_126 : BitVec 32 := 0#32
  let v238 : BitVec 1 := Scalar.cmpi .sgt v20 c0_i32_126
  let v239 : BitVec 32 := Scalar.extui v238
  let c0_i32_127 : BitVec 32 := 0#32
  let v240 : BitVec 1 := Scalar.cmpi .slt v20 c0_i32_127
  let v241 : BitVec 32 := Scalar.extui v240
  let v242 : BitVec 32 := Scalar.subi v239 v241
  let c2_i32 : BitVec 32 := 2#32
  let c0_i32_128 : BitVec 32 := 0#32
  let v243 : BitVec 1 := Scalar.cmpi .sgt c2_i32 c0_i32_128
  let v244 : BitVec 32 := Scalar.extui v243
  let c0_i32_129 : BitVec 32 := 0#32
  let v245 : BitVec 1 := Scalar.cmpi .slt c2_i32 c0_i32_129
  let v246 : BitVec 32 := Scalar.extui v245
  let v247 : BitVec 32 := Scalar.subi v244 v246
  let v248 : BitVec 1 := Scalar.cmpi .ne v242 v247
  let v249 : BitVec 32 := Scalar.remsi v20 c2_i32
  let c0_i32_130 : BitVec 32 := 0#32
  let v250 : BitVec 1 := Scalar.cmpi .ne v249 c0_i32_130
  let v251 : BitVec 1 := Scalar.andi v248 v250
  let v237 : BitVec 32 := Scalar.divsi v20 c2_i32
  let c1_i32_131 : BitVec 32 := 1#32
  let v252 : BitVec 32 := Scalar.subi v237 c1_i32_131
  let v253 : BitVec 32 := Scalar.select v251 v252 v237
  let v254 : BitVec 32 := Scalar.subi v253 c0_i32_133
  let c1_i32_134 : BitVec 32 := 1#32
  let v256 : BitVec 32 := Scalar.divsi v254 c1_i32_134
  let v257 : BitVec 32 := Scalar.muli v256 c1_i32_134
  let v258 : BitVec 32 := Scalar.addi c0_i32_133 v257
  let c1_i32_136 : BitVec 32 := 1#32
  let arg18 : BitVec 32 := Scf.iv v258 c1_i32_136 k0_t19
  let v336 : BitVec 32 := Scalar.muli c2_i32_193 arg18
  let c1_i32_625 : BitVec 32 := 1#32
  let v947 : BitVec 32 := Scalar.addi v336 c1_i32_625
  let c512_i32_958 : BitVec 32 := 512#32
  let v1415 : BitVec 32 := Scalar.muli v947 c512_i32_958
  v1415
def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_137 : BitVec 32 := 2#32
  let c0_i32_138 : BitVec 32 := 0#32
  let v259 : BitVec 1 := Scalar.cmpi .eq c2_i32_137 c0_i32_138
  let c1_i32_139 : BitVec 32 := 1#32
  let v260 : BitVec 32 := Scalar.select v259 c1_i32_139 c2_i32_137
  let v261 : BitVec 32 := Scalar.remsi v20 v260
  let c0_i32_141 : BitVec 32 := 0#32
  let v263 : BitVec 1 := Scalar.cmpi .slt v261 c0_i32_141
  let c0_i32_142 : BitVec 32 := 0#32
  let v264 : BitVec 1 := Scalar.cmpi .slt v260 c0_i32_142
  let v265 : BitVec 1 := Scalar.xori v263 v264
  let c0_i32_140 : BitVec 32 := 0#32
  let v262 : BitVec 1 := Scalar.cmpi .ne v261 c0_i32_140
  let v266 : BitVec 1 := Scalar.andi v265 v262
  let v267 : BitVec 32 := Scalar.addi v261 v260
  let v268 : BitVec 32 := Scalar.select v266 v267 v261
  let c1_i32_143 : BitVec 32 := 1#32
  let v269 : BitVec 1 := Scalar.cmpi .eq v268 c1_i32_143
  let v270 : BitVec 32 := Scalar.extui v269
  let c0_i32_144 : BitVec 32 := 0#32
  let v271 : BitVec 1 := Scalar.cmpi .ne v270 c0_i32_144
  v271

def k0_mult123 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_193 : BitVec 32 := 1#32
  let v336 : BitVec 32 := Scalar.subi v20 c1_i32_193
  let c512_i32_194 : BitVec 32 := 512#32
  let v337 : BitVec 32 := Scalar.muli v336 c512_i32_194
  v337
def k0_off33 (i : grid0.Coords) : Fin 3 → Nat :=
  let c0_278 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_193 : BitVec 32 := 1#32
  let v336 : BitVec 32 := Scalar.subi v20 c1_i32_193
  let c512_i32_194 : BitVec 32 := 512#32
  let v337 : BitVec 32 := Scalar.muli v336 c512_i32_194
  let v338 : BitVec 32 := v337
  let v463 : Index := Scalar.indexCast v338
  let c0_279 : Index := 0#32
  ![0, v463.toNat, 0]
def k0_off34 (i : grid0.Coords) : Fin 3 → Nat :=
  let c0_476 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_193 : BitVec 32 := 1#32
  let v336 : BitVec 32 := Scalar.subi v20 c1_i32_193
  let c512_i32_194 : BitVec 32 := 512#32
  let v337 : BitVec 32 := Scalar.muli v336 c512_i32_194
  let v338 : BitVec 32 := v337
  let v737 : Index := Scalar.indexCast v338
  let c128_477 : Index := 128#32
  ![0, v737.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelFfn.lean ====
abbrev S2x8192x1024 : Shape := ⟨3, ![2, 8192, 1024]⟩
abbrev S2x6144 : Shape := ⟨2, ![2, 6144]⟩
abbrev S1024 : Shape := ⟨1, ![1024]⟩
abbrev S1024x2816 : Shape := ⟨2, ![1024, 2816]⟩
abbrev S2816x1024 : Shape := ⟨2, ![2816, 1024]⟩
abbrev S2x1024 : Shape := ⟨2, ![2, 1024]⟩
abbrev S2x1x1024 : Shape := ⟨3, ![2, 1, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 25
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S1024x2816, .bf16⟩
  | .hbm, ⟨20, _⟩ => ⟨S1024x2816, .bf16⟩
  | .hbm, ⟨21, _⟩ => ⟨S2816x1024, .bf16⟩
  | .hbm, ⟨22, _⟩ => ⟨S1x1024, .f32⟩
  | .hbm, ⟨23, _⟩ => ⟨S1x1024, .f32⟩
  | .hbm, ⟨24, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x256x1024, .f32⟩
  | .local _ .vmem, ⟨14, _⟩ => ⟨S1x256x1024, .f32⟩
  | .local _ .vmem, ⟨15, _⟩ => ⟨S256x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnIdeal.lean ====
abbrev S2x8192x1024 : Shape := ⟨3, ![2, 8192, 1024]⟩
abbrev S2x6144 : Shape := ⟨2, ![2, 6144]⟩
abbrev S1024 : Shape := ⟨1, ![1024]⟩
abbrev S1024x2816 : Shape := ⟨2, ![1024, 2816]⟩
abbrev S2816x1024 : Shape := ⟨2, ![2816, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S_, .f32⟩
  | .hbm, ⟨46, _⟩ => ⟨S2x8192x2816, .f32⟩
  | .hbm, ⟨47, _⟩ => ⟨S2x8192x2816, .f32⟩
  | .hbm, ⟨48, _⟩ => ⟨S_, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x1024, .f32⟩
  | .hbm, ⟨55, _⟩ => ⟨S2x8192x1024, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x1024, .f32⟩
  | .hbm, ⟨67, _⟩ => ⟨S2x8192x1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== KernelOut.lean ====
abbrev S2x8192x1024 : Shape := ⟨3, ![2, 8192, 1024]⟩
abbrev S2x6144 : Shape := ⟨2, ![2, 6144]⟩
abbrev S1024 : Shape := ⟨1, ![1024]⟩
abbrev S1024x1024 : Shape := ⟨2, ![1024, 1024]⟩
abbrev S2x1024 : Shape := ⟨2, ![2, 1024]⟩
abbrev S2x1x1024 : Shape := ⟨3, ![2, 1, 1024]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S2x6144, .f32⟩
  | .hbm, ⟨6, _⟩ => ⟨S1024, .f32⟩
  | .hbm, ⟨7, _⟩ => ⟨S1024x1024, .f32⟩
  | .hbm, ⟨8, _⟩ => ⟨S2x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1024, .f32⟩
  | .hbm, ⟨17, _⟩ => ⟨S2x1x1024, .f32⟩
  | .hbm, ⟨18, _⟩ => ⟨S2x1024, .f32⟩
  | .hbm, ⟨19, _⟩ => ⟨S2x1x1024, .f32⟩
  | .hbm, ⟨20, _⟩ => ⟨S1024x1024, .bf16⟩
  | .hbm, ⟨21, _⟩ => ⟨S1x1024, .f32⟩
  | .hbm, ⟨22, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutMergeIdeal.lean ====
abbrev S2x8192x1024 : Shape := ⟨3, ![2, 8192, 1024]⟩
abbrev S2x6144 : Shape := ⟨2, ![2, 6144]⟩
abbrev S1024 : Shape := ⟨1, ![1024]⟩
abbrev S1024x1024 : Shape := ⟨2, ![1024, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S2x6144, .f32⟩
  | .hbm, ⟨6, _⟩ => ⟨S1024, .f32⟩
  | .hbm, ⟨7, _⟩ => ⟨S1024x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S1x1x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== KernelIn.lean ====
abbrev S2x8192x1024 : Shape := ⟨3, ![2, 8192, 1024]⟩
abbrev S2x6144 : Shape := ⟨2, ![2, 6144]⟩
abbrev S1024 : Shape := ⟨1, ![1024]⟩
abbrev S1024x7240 : Shape := ⟨2, ![1024, 7240]⟩
abbrev S2x8192 : Shape := ⟨2, ![2, 8192]⟩
abbrev S16 : Shape := ⟨1, ![16]⟩
abbrev S8 : Shape := ⟨1, ![8]⟩
abbrev S2x8192x1 : Shape := ⟨3, ![2, 8192, 1]⟩
abbrev S_ : Shape := ⟨0, ![]⟩
abbrev S1x1x16 : Shape := ⟨3, ![1, 1, 16]⟩
abbrev S2x8192x16 : Shape := ⟨3, ![2, 8192, 16]⟩
abbrev S1x1x8 : Shape := ⟨3, ![1, 1, 8]⟩
abbrev S2x8192x8 : Shape := ⟨3, ![2, 8192, 8]⟩
abbrev S2x1024 : Shape := ⟨2, ![2, 1024]⟩
abbrev S2x1x1024 : Shape := ⟨3, ![2, 1, 1024]⟩
abbrev S2x8192x48 : Shape := ⟨3, ![2, 8192, 48]⟩
abbrev S2x8192x64 : Shape := ⟨3, ![2, 8192, 64]⟩
abbrev S2x8192x128 : Shape := ⟨3, ![2, 8192, 128]⟩
abbrev S1024x64 : Shape := ⟨2, ![1024, 64]⟩
abbrev S1024x8 : Shape := ⟨2, ![1024, 8]⟩
abbrev S1024x120 : Shape := ⟨2, ![1024, 120]⟩
abbrev S1024x5120 : Shape := ⟨2, ![1024, 5120]⟩
abbrev S1024x2048 : Shape := ⟨2, ![1024, 2048]⟩
abbrev S1024x7552 : Shape := ⟨2, ![1024, 7552]⟩
abbrev S1x1024 : Shape := ⟨2, ![1, 1024]⟩
abbrev S2x8192x256 : Shape := ⟨3, ![2, 8192, 256]⟩
abbrev S2x8192x512 : Shape := ⟨3, ![2, 8192, 512]⟩
abbrev S1x256x1024 : Shape := ⟨3, ![1, 256, 1024]⟩
abbrev S1x1x1024 : Shape := ⟨3, ![1, 1, 1024]⟩
abbrev S1x256x128 : Shape := ⟨3, ![1, 256, 128]⟩
abbrev S1x256x256 : Shape := ⟨3, ![1, 256, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x128 : Shape := ⟨2, ![256, 128]⟩
abbrev S1024x128 : Shape := ⟨2, ![1024, 128]⟩

abbrev nBuf : Space → Nat
  | .hbm => 66
  | .vmem => 41
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x7240, .f32⟩
  | .hbm, ⟨4, _⟩ => ⟨S2x8192, .i32⟩
  | .hbm, ⟨5, _⟩ => ⟨S16, .f32⟩
  | .hbm, ⟨6, _⟩ => ⟨S8, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S1x1x16, .f32⟩
  | .hbm, ⟨13, _⟩ => ⟨S2x8192x16, .f32⟩
  | .hbm, ⟨14, _⟩ => ⟨S2x8192x16, .f32⟩
  | .hbm, ⟨15, _⟩ => ⟨S2x8192x16, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S1x1x8, .f32⟩
  | .hbm, ⟨20, _⟩ => ⟨S2x8192x8, .f32⟩
  | .hbm, ⟨21, _⟩ => ⟨S2x8192x8, .f32⟩
  | .hbm, ⟨22, _⟩ => ⟨S2x8192x8, .f32⟩
  | .hbm, ⟨23, _⟩ => ⟨S2x8192x16, .f32⟩
  | .hbm, ⟨24, _⟩ => ⟨S2x8192x16, .f32⟩
  | .hbm, ⟨25, _⟩ => ⟨S2x8192x8, .f32⟩
  | .hbm, ⟨26, _⟩ => ⟨S2x8192x8, .f32⟩
  | .hbm, ⟨27, _⟩ => ⟨S2x1024, .f32⟩
  | .hbm, ⟨28, _⟩ => ⟨S2x1x1024, .f32⟩
  | .hbm, ⟨29, _⟩ => ⟨S2x1024, .f32⟩
  | .hbm, ⟨30, _⟩ => ⟨S2x1x1024, .f32⟩
  | .hbm, ⟨31, _⟩ => ⟨S_, .f32⟩
  | .hbm, ⟨32, _⟩ => ⟨S2x8192x48, .f32⟩
  | .hbm, ⟨33, _⟩ => ⟨S_, .f32⟩
  | .hbm, ⟨34, _⟩ => ⟨S2x8192x48, .f32⟩
  | .hbm, ⟨35, _⟩ => ⟨S2x8192x64, .f32⟩
  | .hbm, ⟨36, _⟩ => ⟨S2x8192x8, .f32⟩
  | .hbm, ⟨37, _⟩ => ⟨S2x8192x64, .f32⟩
  | .hbm, ⟨38, _⟩ => ⟨S2x8192x128, .f32⟩
  | .hbm, ⟨39, _⟩ => ⟨S2x8192x16, .f32⟩
  | .hbm, ⟨40, _⟩ => ⟨S2x8192x128, .f32⟩
  | .hbm, ⟨41, _⟩ => ⟨S2x8192x128, .f32⟩
  | .hbm, ⟨42, _⟩ => ⟨S2x8192x128, .f32⟩
  | .hbm, ⟨43, _⟩ => ⟨S1024x7240, .bf16⟩
  | .hbm, ⟨44, _⟩ => ⟨S1024x64, .bf16⟩
  | .hbm, ⟨45, _⟩ => ⟨S_, .bf16⟩
  | .hbm, ⟨46, _⟩ => ⟨S1024x64, .bf16⟩
  | .hbm, ⟨47, _⟩ => ⟨S1024x8, .bf16⟩
  | .hbm, ⟨48, _⟩ => ⟨S_, .bf16⟩
  | .hbm, ⟨49, _⟩ => ⟨S1024x120, .bf16⟩
  | .hbm, ⟨50, _⟩ => ⟨S1024x5120, .bf16⟩
  | .hbm, ⟨51, _⟩ => ⟨S1024x2048, .bf16⟩
  | .hbm, ⟨52, _⟩ => ⟨S1024x7552, .bf16⟩
  | .hbm, ⟨53, _⟩ => ⟨S1x1024, .f32⟩
  | .hbm, ⟨54, _⟩ => ⟨S2x8192x1024, .bf16⟩
  | .hbm, ⟨55, _⟩ => ⟨S2x8192x1024, .bf16⟩
  | .hbm, ⟨56, _⟩ => ⟨S2x8192x1024, .bf16⟩
  | .hbm, ⟨57, _⟩ => ⟨S2x8192x1024, .bf16⟩
  | .hbm, ⟨58, _⟩ => ⟨S2x8192x256, .bf16⟩
  | .hbm, ⟨59, _⟩ => ⟨S2x8192x256, .bf16⟩
  | .hbm, ⟨60, _⟩ => ⟨S2x8192x512, .bf16⟩
  | .hbm, ⟨61, _⟩ => ⟨S2x8192x128, .bf16⟩
  | .hbm, ⟨62, _⟩ => ⟨S2x8192x128, .bf16⟩
  | .hbm, ⟨63, _⟩ => ⟨S2x8192x128, .f32⟩
  | .hbm, ⟨64, _⟩ => ⟨S2x8192x1024, .f32⟩
  | .hbm, ⟨65, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x7552, .bf16⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x256, .bf16⟩
  | .local _ .vmem, ⟨25, _⟩ => ⟨S1x256x256, .bf16⟩
  | .local _ .vmem, ⟨26, _⟩ => ⟨S1x256x256, .bf16⟩
  | .local _ .vmem, ⟨27, _⟩ => ⟨S1x256x256, .bf16⟩
  | .local _ .vmem, ⟨28, _⟩ => ⟨S1x256x512, .bf16⟩
  | .local _ .vmem, ⟨29, _⟩ => ⟨S1x256x512, .bf16⟩
  | .local _ .vmem, ⟨30, _⟩ => ⟨S1x256x128, .bf16⟩
  | .local _ .vmem, ⟨31, _⟩ => ⟨S1x256x128, .bf16⟩
  | .local _ .vmem, ⟨32, _⟩ => ⟨S1x256x128, .bf16⟩
  | .local _ .vmem, ⟨33, _⟩ => ⟨S1x256x128, .bf16⟩
  | .local _ .vmem, ⟨34, _⟩ => ⟨S1x256x128, .f32⟩
  | .local _ .vmem, ⟨35, _⟩ => ⟨S1x256x128, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | .local _ .vmem, ⟨39, _⟩ => ⟨S1x256x1024, .f32⟩
  | .local _ .vmem, ⟨40, _⟩ => ⟨S256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev main_v41_3 : Ref sig .tc := ⟨.hbm, 57, rfl⟩
abbrev main_v41_4 : Ref sig .tc := ⟨.hbm, 58, rfl⟩
abbrev main_v41_5 : Ref sig .tc := ⟨.hbm, 59, rfl⟩
abbrev main_v41_6 : Ref sig .tc := ⟨.hbm, 60, rfl⟩
abbrev main_v41_7 : Ref sig .tc := ⟨.hbm, 61, rfl⟩
abbrev main_v41_8 : Ref sig .tc := ⟨.hbm, 62, rfl⟩
abbrev main_v41_9 : Ref sig .tc := ⟨.hbm, 63, rfl⟩
abbrev main_v41_10 : Ref sig .tc := ⟨.hbm, 64, rfl⟩
abbrev main_v41_11 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x7552 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== InProjIdeal.lean ====
abbrev S2x8192x1024 : Shape := ⟨3, ![2, 8192, 1024]⟩
abbrev S2x6144 : Shape := ⟨2, ![2, 6144]⟩
abbrev S1024 : Shape := ⟨1, ![1024]⟩
abbrev S1024x7240 : Shape := ⟨2, ![1024, 7240]⟩
abbrev S2x8192 : Shape := ⟨2, ![2, 8192]⟩
abbrev S16 : Shape := ⟨1, ![16]⟩
abbrev S8 : Shape := ⟨1, ![8]⟩
abbrev S2x1024 : Shape := ⟨2, ![2, 1024]⟩
abbrev S2x1x1024 : Shape := ⟨3, ![2, 1, 1024]⟩
abbrev S_ : Shape := ⟨0, ![]⟩
abbrev S2x8192x1 : Shape := ⟨3, ![2, 8192, 1]⟩
abbrev S1x1x1024 : Shape := ⟨3, ![1, 1, 1024]⟩
abbrev S2x8192x7240 : Shape := ⟨3, ![2, 8192, 7240]⟩
abbrev S2x8192x256 : Shape := ⟨3, ![2, 8192, 256]⟩
abbrev S2x8192x512 : Shape := ⟨3, ![2, 8192, 512]⟩
abbrev S2x8192x64 : Shape := ⟨3, ![2, 8192, 64]⟩
abbrev S2x8192x8 : Shape := ⟨3, ![2, 8192, 8]⟩
abbrev S1x1x16 : Shape := ⟨3, ![1, 1, 16]⟩
abbrev S2x8192x16 : Shape := ⟨3, ![2, 8192, 16]⟩
abbrev S1x1x8 : Shape := ⟨3, ![1, 1, 8]⟩
abbrev S2x8192x8x128 : Shape := ⟨4, ![2, 8192, 8, 128]⟩
abbrev S2x8192x1x16 : Shape := ⟨4, ![2, 8192, 1, 16]⟩
abbrev S2x8192x8x16 : Shape := ⟨4, ![2, 8192, 8, 16]⟩
abbrev S2x8192x8x96 : Shape := ⟨4, ![2, 8192, 8, 96]⟩
abbrev S2x8192x2x128 : Shape := ⟨4, ![2, 8192, 2, 128]⟩
abbrev S2x8192x2x16 : Shape := ⟨4, ![2, 8192, 2, 16]⟩
abbrev S2x8192x2x96 : Shape := ⟨4, ![2, 8192, 2, 96]⟩
abbrev S2x8192x8x64 : Shape := ⟨4, ![2, 8192, 8, 64]⟩
abbrev S2x8192x1x8 : Shape := ⟨4, ![2, 8192, 1, 8]⟩
abbrev S2x8192x8x8 : Shape := ⟨4, ![2, 8192, 8, 8]⟩
abbrev S2x8192x8x48 : Shape := ⟨4, ![2, 8192, 8, 48]⟩
abbrev S2x8192x1x64 : Shape := ⟨4, ![2, 8192, 1, 64]⟩
abbrev S2x8192x1x48 : Shape := ⟨4, ![2, 8192, 1, 48]⟩
abbrev S2x8192x128 : Shape := ⟨3, ![2, 8192, 128]⟩
abbrev S2x8192x120 : Shape := ⟨3, ![2, 8192, 120]⟩

abbrev nBuf : Space → Nat
  | .hbm => 219
  | .vmem => 0
  | .smem => 0
  | _ => 0

abbrev hbmTy0_0 (i : Nat) : BufTy := match i % 128 with
  | 0 => ⟨S2x8192x1024, .f32⟩
  | 1 => ⟨S2x6144, .f32⟩
  | 2 => ⟨S1024, .f32⟩
  | 3 => ⟨S1024x7240, .f32⟩
  | 4 => ⟨S2x8192, .i32⟩
  | 5 => ⟨S16, .f32⟩
  | 6 => ⟨S8, .f32⟩
  | 7 => ⟨S2x1024, .f32⟩
  | 8 => ⟨S2x1024, .f32⟩
  | 9 => ⟨S2x1024, .f32⟩
  | 10 => ⟨S2x1024, .f32⟩
  | 11 => ⟨S2x1024, .f32⟩
  | 12 => ⟨S2x1024, .f32⟩
  | 13 => ⟨S2x1x1024, .f32⟩
  | 14 => ⟨S2x1x1024, .f32⟩
  | 15 => ⟨S2x1x1024, .f32⟩
  | 16 => ⟨S2x1x1024, .f32⟩
  | 17 => ⟨S2x1x1024, .f32⟩
  | 18 => ⟨S2x1x1024, .f32⟩
  | 19 => ⟨S2x8192x1024, .f32⟩
  | 20 => ⟨S_, .f32⟩
  | 21 => ⟨S2x8192, .f32⟩
  | 22 => ⟨S2x8192x1, .f32⟩
  | 23 => ⟨S_, .f32⟩
  | 24 => ⟨S2x8192x1, .f32⟩
  | 25 => ⟨S2x8192x1, .f32⟩
  | 26 => ⟨S_, .f32⟩
  | 27 => ⟨S2x8192x1, .f32⟩
  | 28 => ⟨S2x8192x1, .f32⟩
  | 29 => ⟨S2x8192x1, .f32⟩
  | 30 => ⟨S2x8192x1024, .f32⟩
  | 31 => ⟨S2x8192x1024, .f32⟩
  | 32 => ⟨S1x1x1024, .f32⟩
  | 33 => ⟨S2x8192x1024, .f32⟩
  | 34 => ⟨S2x8192x1024, .f32⟩
  | 35 => ⟨S_, .f32⟩
  | 36 => ⟨S2x1x1024, .f32⟩
  | 37 => ⟨S2x1x1024, .f32⟩
  | 38 => ⟨S2x8192x1024, .f32⟩
  | 39 => ⟨S2x8192x1024, .f32⟩
  | 40 => ⟨S2x8192x1024, .f32⟩
  | 41 => ⟨S2x8192x1024, .f32⟩
  | 42 => ⟨S2x8192x7240, .f32⟩
  | 43 => ⟨S2x8192x1024, .f32⟩
  | 44 => ⟨S2x8192x1024, .f32⟩
  | 45 => ⟨S2x8192x1024, .f32⟩
  | 46 => ⟨S2x8192x1024, .f32⟩
  | 47 => ⟨S2x8192x256, .f32⟩
  | 48 => ⟨S2x8192x256, .f32⟩
  | 49 => ⟨S2x8192x512, .f32⟩
  | 50 => ⟨S2x8192x64, .f32⟩
  | 51 => ⟨S2x8192x8, .f32⟩
  | 52 => ⟨S2x8192x1024, .f32⟩
  | 53 => ⟨S2x8192x1024, .f32⟩
  | 54 => ⟨S2x8192, .f32⟩
  | 55 => ⟨S2x8192x1, .f32⟩
  | 56 => ⟨S_, .f32⟩
  | 57 => ⟨S16, .f32⟩
  | 58 => ⟨S16, .f32⟩
  | 59 => ⟨S1x1x16, .f32⟩
  | 60 => ⟨S2x8192x16, .f32⟩
  | 61 => ⟨S2x8192x16, .f32⟩
  | 62 => ⟨S2x8192x16, .f32⟩
  | 63 => ⟨S_, .f32⟩
  | 64 => ⟨S8, .f32⟩
  | 65 => ⟨S8, .f32⟩
  | 66 => ⟨S1x1x8, .f32⟩
  | 67 => ⟨S2x8192x8, .f32⟩
  | 68 => ⟨S2x8192x8, .f32⟩
  | 69 => ⟨S2x8192x8, .f32⟩
  | 70 => ⟨S2x8192x16, .f32⟩
  | 71 => ⟨S2x8192x16, .f32⟩
  | 72 => ⟨S2x8192x8, .f32⟩
  | 73 => ⟨S2x8192x8, .f32⟩
  | 74 => ⟨S2x8192x8x128, .f32⟩
  | 75 => ⟨S2x8192x1x16, .f32⟩
  | 76 => ⟨S2x8192x1x16, .f32⟩
  | 77 => ⟨S2x8192x8x16, .f32⟩
  | 78 => ⟨S2x8192x8x16, .f32⟩
  | 79 => ⟨S2x8192x8x16, .f32⟩
  | 80 => ⟨S2x8192x8x16, .f32⟩
  | 81 => ⟨S2x8192x8x16, .f32⟩
  | 82 => ⟨S2x8192x8x16, .f32⟩
  | 83 => ⟨S2x8192x8x16, .f32⟩
  | 84 => ⟨S2x8192x8x16, .f32⟩
  | 85 => ⟨S2x8192x8x16, .f32⟩
  | 86 => ⟨S2x8192x8x16, .f32⟩
  | 87 => ⟨S2x8192x8x16, .f32⟩
  | 88 => ⟨S2x8192x8x16, .f32⟩
  | 89 => ⟨S2x8192x8x96, .f32⟩
  | 90 => ⟨S2x8192x8x128, .f32⟩
  | 91 => ⟨S2x8192x1024, .f32⟩
  | 92 => ⟨S_, .f32⟩
  | 93 => ⟨S2x8192x1024, .f32⟩
  | 94 => ⟨S2x8192x1024, .f32⟩
  | 95 => ⟨S2x8192x8x128, .f32⟩
  | 96 => ⟨S2x8192x1x16, .f32⟩
  | 97 => ⟨S2x8192x1x16, .f32⟩
  | 98 => ⟨S2x8192x8x16, .f32⟩
  | 99 => ⟨S2x8192x8x16, .f32⟩
  | 100 => ⟨S2x8192x8x16, .f32⟩
  | 101 => ⟨S2x8192x8x16, .f32⟩
  | 102 => ⟨S2x8192x8x16, .f32⟩
  | 103 => ⟨S2x8192x8x16, .f32⟩
  | 104 => ⟨S2x8192x8x16, .f32⟩
  | 105 => ⟨S2x8192x8x16, .f32⟩
  | 106 => ⟨S2x8192x8x16, .f32⟩
  | 107 => ⟨S2x8192x8x16, .f32⟩
  | 108 => ⟨S2x8192x8x16, .f32⟩
  | 109 => ⟨S2x8192x8x16, .f32⟩
  | 110 => ⟨S2x8192x8x96, .f32⟩
  | 111 => ⟨S2x8192x8x128, .f32⟩
  | 112 => ⟨S2x8192x1024, .f32⟩
  | 113 => ⟨S2x8192x8x128, .f32⟩
  | 114 => ⟨S2x8192x1x16, .f32⟩
  | 115 => ⟨S2x8192x1x16, .f32⟩
  | 116 => ⟨S2x8192x8x16, .f32⟩
  | 117 => ⟨S2x8192x8x16, .f32⟩
  | 118 => ⟨S2x8192x8x16, .f32⟩
  | 119 => ⟨S2x8192x8x16, .f32⟩
  | 120 => ⟨S2x8192x8x16, .f32⟩
  | 121 => ⟨S2x8192x8x16, .f32⟩
  | 122 => ⟨S2x8192x8x16, .f32⟩
  | 123 => ⟨S2x8192x8x16, .f32⟩
  | 124 => ⟨S2x8192x8x16, .f32⟩
  | 125 => ⟨S2x8192x8x16, .f32⟩
  | 126 => ⟨S2x8192x8x16, .f32⟩
  | 127 => ⟨S2x8192x8x16, .f32⟩
  | _ => ⟨S2x8192x1024, .f32⟩

abbrev hbmTy0_1 (i : Nat) : BufTy := match i % 128 with
  | 0 => ⟨S2x8192x8x96, .f32⟩
  | 1 => ⟨S2x8192x8x128, .f32⟩
  | 2 => ⟨S2x8192x1024, .f32⟩
  | 3 => ⟨S_, .f32⟩
  | 4 => ⟨S2x8192x1024, .f32⟩
  | 5 => ⟨S2x8192x1024, .f32⟩
  | 6 => ⟨S2x8192x2x128, .f32⟩
  | 7 => ⟨S2x8192x1x16, .f32⟩
  | 8 => ⟨S2x8192x1x16, .f32⟩
  | 9 => ⟨S2x8192x2x16, .f32⟩
  | 10 => ⟨S2x8192x2x16, .f32⟩
  | 11 => ⟨S2x8192x2x16, .f32⟩
  | 12 => ⟨S2x8192x2x16, .f32⟩
  | 13 => ⟨S2x8192x2x16, .f32⟩
  | 14 => ⟨S2x8192x2x16, .f32⟩
  | 15 => ⟨S2x8192x2x16, .f32⟩
  | 16 => ⟨S2x8192x2x16, .f32⟩
  | 17 => ⟨S2x8192x2x16, .f32⟩
  | 18 => ⟨S2x8192x2x16, .f32⟩
  | 19 => ⟨S2x8192x2x16, .f32⟩
  | 20 => ⟨S2x8192x2x16, .f32⟩
  | 21 => ⟨S2x8192x2x96, .f32⟩
  | 22 => ⟨S2x8192x2x128, .f32⟩
  | 23 => ⟨S2x8192x256, .f32⟩
  | 24 => ⟨S2x8192x8x64, .f32⟩
  | 25 => ⟨S2x8192x1x8, .f32⟩
  | 26 => ⟨S2x8192x1x8, .f32⟩
  | 27 => ⟨S2x8192x8x8, .f32⟩
  | 28 => ⟨S2x8192x8x8, .f32⟩
  | 29 => ⟨S2x8192x8x8, .f32⟩
  | 30 => ⟨S2x8192x8x8, .f32⟩
  | 31 => ⟨S2x8192x8x8, .f32⟩
  | 32 => ⟨S2x8192x8x8, .f32⟩
  | 33 => ⟨S2x8192x8x8, .f32⟩
  | 34 => ⟨S2x8192x8x8, .f32⟩
  | 35 => ⟨S2x8192x8x8, .f32⟩
  | 36 => ⟨S2x8192x8x8, .f32⟩
  | 37 => ⟨S2x8192x8x8, .f32⟩
  | 38 => ⟨S2x8192x8x8, .f32⟩
  | 39 => ⟨S2x8192x8x48, .f32⟩
  | 40 => ⟨S2x8192x8x64, .f32⟩
  | 41 => ⟨S2x8192x512, .f32⟩
  | 42 => ⟨S2x8192x1x64, .f32⟩
  | 43 => ⟨S2x8192x1x8, .f32⟩
  | 44 => ⟨S2x8192x1x8, .f32⟩
  | 45 => ⟨S2x8192x1x8, .f32⟩
  | 46 => ⟨S2x8192x1x8, .f32⟩
  | 47 => ⟨S2x8192x1x8, .f32⟩
  | 48 => ⟨S2x8192x1x8, .f32⟩
  | 49 => ⟨S2x8192x1x8, .f32⟩
  | 50 => ⟨S2x8192x1x8, .f32⟩
  | 51 => ⟨S2x8192x1x8, .f32⟩
  | 52 => ⟨S2x8192x1x8, .f32⟩
  | 53 => ⟨S2x8192x1x48, .f32⟩
  | 54 => ⟨S2x8192x1x64, .f32⟩
  | 55 => ⟨S2x8192x64, .f32⟩
  | 56 => ⟨S_, .f32⟩
  | 57 => ⟨S2x8192x8, .f32⟩
  | 58 => ⟨S2x8192x8, .f32⟩
  | 59 => ⟨S_, .f32⟩
  | 60 => ⟨S2x8192x64, .f32⟩
  | 61 => ⟨S2x8192x128, .f32⟩
  | 62 => ⟨S2x8192x128, .f32⟩
  | 63 => ⟨S_, .f32⟩
  | 64 => ⟨S2x8192x120, .f32⟩
  | 65 => ⟨S2x8192x128, .f32⟩
  | 66 => ⟨S2x8192x1024, .bf16⟩
  | 67 => ⟨S2x8192x1024, .bf16⟩
  | 68 => ⟨S2x8192x1024, .bf16⟩
  | 69 => ⟨S2x8192x1024, .bf16⟩
  | 70 => ⟨S2x8192x256, .bf16⟩
  | 71 => ⟨S2x8192x256, .bf16⟩
  | 72 => ⟨S2x8192x512, .bf16⟩
  | 73 => ⟨S2x8192x128, .bf16⟩
  | 74 => ⟨S2x8192x128, .bf16⟩
  | 75 => ⟨S2x8192x1024, .f32⟩
  | 76 => ⟨S2x8192x1024, .f32⟩
  | 77 => ⟨S_, .f32⟩
  | 78 => ⟨S2x8192x1024, .f32⟩
  | 79 => ⟨S2x8192x1024, .f32⟩
  | 80 => ⟨S_, .f32⟩
  | 81 => ⟨S2x8192x1024, .f32⟩
  | 82 => ⟨S2x8192x1024, .f32⟩
  | 83 => ⟨S2x8192x1024, .f32⟩
  | 84 => ⟨S2x8192x1024, .f32⟩
  | 85 => ⟨S_, .f32⟩
  | 86 => ⟨S2x8192x1024, .f32⟩
  | 87 => ⟨S2x8192x1024, .f32⟩
  | 88 => ⟨S_, .f32⟩
  | 89 => ⟨S2x8192x1024, .f32⟩
  | 90 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_7 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_cst_8 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_cst_9 : Ref sig .tc := ⟨.hbm, 184, rfl⟩
abbrev main_v169 : Ref sig .tc := ⟨.hbm, 185, rfl⟩
abbrev main_v170 : Ref sig .tc := ⟨.hbm, 186, rfl⟩
abbrev main_cst_10 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_cst_11 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_cst_12 : Ref sig .tc := ⟨.hbm, 205, rfl⟩
abbrev main_v187 : Ref sig .tc := ⟨.hbm, 206, rfl⟩
abbrev main_v188 : Ref sig .tc := ⟨.hbm, 207, rfl⟩
abbrev main_cst_13 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_cst_14 : Ref sig .tc := ⟨.hbm, 213, rfl⟩
abbrev main_v193 : Ref sig .tc := ⟨.hbm, 214, rfl⟩
abbrev main_v194 : Ref sig .tc := ⟨.hbm, 215, rfl⟩
abbrev main_cst_15 : Ref sig .tc := ⟨.hbm, 216, rfl⟩
abbrev main_v195 : Ref sig .tc := ⟨.hbm, 217, rfl⟩
abbrev main_v196 : Ref sig .tc := ⟨.hbm, 218, rfl⟩

abbrev nD : Nat := 1
abbrev τ : Topo := Topo.v7x

variable {F : FTy → Type} [FloatOps F]
-- ==== Proof.Out.Value.lean ====
/- The output merge: each side's result read at one index as one formula over the argument arrays, the kernel's array from
   its blocks, and the claim that the two programs end with the same result. -/
module

public import proofs.«01_k».proof.Defs
public import proofs.«01_k».proof.Proof.Gen.KernelOutIdeal.Value
public import proofs.«01_k».proof.Proof.Gen.OutMergeIdeal.Run
public import Idealize.ShloMosaic.Lib.Pointwise
public import Idealize.ShloMosaic.Lib.Pipeline.ValueKit.Geometry
public import Idealize.ShloMosaic.Lib.Pipeline.ValueKit.Acc

@[expose] public section

noncomputable section

namespace Cert.Proof.Out

open Idealize.ShloMosaic Idealize.ShloMosaic.TcCoe Idealize.SL.Sem

/-- One entry of the merge: the projected row `p` scaled by the inverse root of its mean square and by the gain, and
    added, times the modulation, to the residual entry. -/
def entry (p : Fin 1024 → EReal) (x sc g : EReal) (d : Fin 1024) : EReal :=
  x + sc * (p d * Ideal.rsqrt (Ideal.div (∑ j, p j * p j) (Ideal.ofBits .f32 1149239296#32) + Ideal.ofBits .f32 897988541#32) * g)

theorem entry_congr {p p' : Fin 1024 → EReal} {x x' sc sc' g g' : EReal} {d : Fin 1024} (hp : ∀ j, p j = p' j) (hx : x = x')
    (hsc : sc = sc') (hg : g = g') : entry p x sc g d = entry p' x' sc' g' d := by
  rw [funext hp, hx, hsc, hg]

section
open Cert.KernelOutIdeal Cert.KernelOutIdeal.Gen

set_option maxRecDepth 16384 in
/-- What the body leaves in its output block, at one index. -/
theorem blk_at (x0 x1 x2 x3 x4 : FVec Ideal S1x256x1024 .f32) (x5 : FVec Ideal S1x1x1024 .f32)
    (x6 : FVec Ideal S1x1024 .f32) (x7 : FVec Ideal S1024x1024 .bf16) (r : Fin 256) (d : Fin 1024) :
    (out0_8 (F := Ideal) x0 x1 x2 x3 x4 x5 x6 x7 (ix3 0 r d) : EReal)
      = entry (fun j => ∑ k : Fin 1024, (x2 (ix3 0 r k) * x0 (ix3 0 r k) + x3 (ix3 0 r k) * x1 (ix3 0 r k)) * x7 (ix2 k j))
          (x4 (ix3 0 r d)) (x5 (ix3 0 0 d)) (x6 (ix2 0 d)) d := by
  unfold out0_8
  rw [Value.canon8_eq]
  pointwise [k0_pay4]
  rfl
end

section
open Cert.OutMergeIdeal Cert.OutMergeIdeal.Gen

/-- The merge as the host computes it, a term over the argument arrays. -/
abbrev host (ya yb ga gb x : FVec Ideal S2x8192x1024 .f32) (mod : FVec Ideal S2x6144 .f32) (g : FVec Ideal S1024 .f32)
    (w : FVec Ideal S1024x1024 .f32) : FVec Ideal S2x8192x1024 .f32 :=
  addf x (mulf (broadcastInDim S2x8192x1024 ![0, 1, 2] bcast_S2x1x1024_S2x8192x1024_0_1_2 (broadcastInDim S2x1x1024 ![0, 2] bcast_S2x1024_S2x1x1024_0_2 (extractStridedSlice S2x1024 ![0, 2048] mod slices_S2x6144_S2x1024_0_2048))) (mulf (mulf (Host.dotGeneral dot_S2x8192x1024_S1024x1024_S2x8192x1024_2_0_01_1_n_n none (addf (mulf ga ya) (mulf gb yb)) w) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (Host.dotGeneral dot_S2x8192x1024_S1024x1024_S2x8192x1024_2_0_01_1_n_n none (addf (mulf ga ya) (mulf gb yb)) w) (Host.dotGeneral dot_S2x8192x1024_S1024x1024_S2x8192x1024_2_0_01_1_n_n none (addf (mulf ga ya) (mulf gb yb)) w)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))))

set_option maxRecDepth 16384 in
/-- The host's result at one index. -/
theorem ref_at (ya yb ga gb x : FVec Ideal S2x8192x1024 .f32) (mod : FVec Ideal S2x6144 .f32) (g : FVec Ideal S1024 .f32)
    (w : FVec Ideal S1024x1024 .f32) (b : Fin 2) (s : Fin 8192) (d : Fin 1024) :
    host ya yb ga gb x mod g w (ix3 b s d)
      = entry (fun j => ∑ k : Fin 1024, (ga (ix3 b s k) * ya (ix3 b s k) + gb (ix3 b s k) * yb (ix3 b s k)) * w (ix2 k j))
          (x (ix3 b s d)) (mod (ix2 b ⟨2048 + d.val, by omega⟩)) (g (ix1 d)) d := by
  pointwise
  rfl
end

section
open Cert.KernelOutIdeal Cert.KernelOutIdeal.Gen

variable (m : (ℓ : Loc nD τ sig) → Buf (Elt Ideal) ℓ)

/-- The modulation the region reads: the third of the six rows of the modulation array. -/
theorem V_mod (c : Dev nD) (b : Fin 2) (d : Fin 1024) :
    (V m c main_v5 : FVec Ideal S2x1x1024 .f32) (ix3 b 0 d) = (m ((c : Thread nD τ).loc main_arg5) : FVec Ideal S2x6144 .f32) (ix2 b ⟨2048 + d.val, by omega⟩) := by
  have h : (V m c main_v5 : FVec Ideal S2x1x1024 .f32)
      = shapeCast S2x1x1024 (extractStridedSlice S2x1024 ![0, 2048] (m ((c : Thread nD τ).loc main_arg5) : FVec Ideal S2x6144 .f32) slices_S2x6144_S2x1024_0_2048) shapeCasts_S2x1024_S2x1x1024 := by
    unfold V
    after_results_simp
    try rfl
  rw [h]
  pointwise

/-- The gain the region reads. -/
theorem V_gain (c : Dev nD) (d : Fin 1024) :
    (V m c main_v13 : FVec Ideal S1x1024 .f32) (ix2 0 d) = (m ((c : Thread nD τ).loc main_arg6) : FVec Ideal S1024 .f32) (ix1 d) := by
  have h : (V m c main_v13 : FVec Ideal S1x1024 .f32)
      = shapeCast S1x1024 (m ((c : Thread nD τ).loc main_arg6) : FVec Ideal S1024 .f32) shapeCasts_S1024_S1x1024 := by
    unfold V
    after_results_simp
    try rfl
  rw [h]
  pointwise

/-- The weights the region reads. -/
theorem V_w (c : Dev nD) (k d : Fin 1024) :
    (V m c main_v12 : FVec Ideal S1024x1024 .bf16) (ix2 k d) = (m ((c : Thread nD τ).loc main_arg7) : FVec Ideal S1024x1024 .f32) (ix2 k d) := by
  have h : V m c main_v12
      = (truncf (F := Ideal) .bf16 (m ((c : Thread nD τ).loc main_arg7) : FVec Ideal S1024x1024 .f32) bitsLt_bf16_f32 : FVec Ideal S1024x1024 .bf16) := by
    unfold V
    after_results_simp
    try rfl
  rw [h]
  pointwise

theorem ix_0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem ix_1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem ix_2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem ix_3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])
theorem ix_4 : ∀ t : Fin cfg0.N, win0_4.index t = ![(grid0.coords t 0).val, (grid0.coords t 1).val, 0] :=
  (by decide +kernel : ∀ t : Fin grid0.N, win0_4.index t = ![(grid0.coords t 0).val, (grid0.coords t 1).val, 0])
theorem ix_5 : ∀ t : Fin cfg0.N, win0_5.index t = ![(grid0.coords t 0).val, 0, 0] :=
  (by decide +kernel : ∀ t : Fin grid0.N, win0_5.index t = ![(grid0.coords t 0).val, 0, 0])
theorem ix_6 : ∀ t : Fin cfg0.N, win0_6.index t = ![0, 0] :=
  (by decide +kernel : ∀ t : Fin grid0.N, win0_6.index t = ![0, 0])
theorem ix_7 : ∀ t : Fin cfg0.N, win0_7.index t = ![0, 0] :=
  (by decide +kernel : ∀ t : Fin grid0.N, win0_7.index t = ![0, 0])
theorem ix_8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])

set_option maxHeartbeats 2000000 in
/-- The kernel's result array is the host's term of the argument arrays. -/
theorem final (c : Dev nD) : (dats m 0 c).arrAt 8 cfg0.N
    = host (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  blk_simp
  rw [after0_8]
  obtain ⟨u, r, d, rfl⟩ : ∃ (u : Fin 1) (r : Fin 256) (d : Fin 1024), y = ix3 u r d := ⟨y 0, y 1, y 2, by funext a; match a with | ⟨0, _⟩ => rfl | ⟨1, _⟩ => rfl | ⟨2, _⟩ => rfl⟩
  obtain rfl : u = 0 := Subsingleton.elim _ _
  have hb : (grid0.coords t 0).val < 2 := (grid0.coords t 0).isLt
  have hs : (grid0.coords t 1).val < 32 := (grid0.coords t 1).isLt
  have he : ((win0_8.blk t).view.emb (ix3 0 r d) : S2x8192x1024.Idx)
      = ix3 ⟨(grid0.coords t 0).val, hb⟩ ⟨(grid0.coords t 1).val * 256 + r.val, by omega⟩ d := by
    blk_ext [ix_8]
  rw [he]
  refine (blk_at _ _ _ _ _ _ _ _ r d).trans ?_
  rw [ref_at]
  blk_simp [iblk]
  have e0 : ∀ k : Fin 1024, ((win0_0.blk t).view.emb (ix3 0 r k) : S2x8192x1024.Idx)
      = ix3 ⟨(grid0.coords t 0).val, hb⟩ ⟨(grid0.coords t 1).val * 256 + r.val, by omega⟩ k := fun k => by
    blk_ext [ix_0]
  have e1 : ∀ k : Fin 1024, ((win0_1.blk t).view.emb (ix3 0 r k) : S2x8192x1024.Idx)
      = ix3 ⟨(grid0.coords t 0).val, hb⟩ ⟨(grid0.coords t 1).val * 256 + r.val, by omega⟩ k := fun k => by
    blk_ext [ix_1]
  have e2 : ∀ k : Fin 1024, ((win0_2.blk t).view.emb (ix3 0 r k) : S2x8192x1024.Idx)
      = ix3 ⟨(grid0.coords t 0).val, hb⟩ ⟨(grid0.coords t 1).val * 256 + r.val, by omega⟩ k := fun k => by
    blk_ext [ix_2]
  have e3 : ∀ k : Fin 1024, ((win0_3.blk t).view.emb (ix3 0 r k) : S2x8192x1024.Idx)
      = ix3 ⟨(grid0.coords t 0).val, hb⟩ ⟨(grid0.coords t 1).val * 256 + r.val, by omega⟩ k := fun k => by
    blk_ext [ix_3]
  have e4 : ∀ k : Fin 1024, ((win0_4.blk t).view.emb (ix3 0 r k) : S2x8192x1024.Idx)
      = ix3 ⟨(grid0.coords t 0).val, hb⟩ ⟨(grid0.coords t 1).val * 256 + r.val, by omega⟩ k := fun k => by
    blk_ext [ix_4]
  have e5 : ∀ k : Fin 1024, ((win0_5.blk t).view.emb (ix3 0 0 k) : S2x1x1024.Idx) = ix3 ⟨(grid0.coords t 0).val, hb⟩ 0 k := fun k => by
    blk_ext [ix_5]
  have e6 : ∀ k : Fin 1024, ((win0_6.blk t).view.emb (ix2 0 k) : S1x1024.Idx) = ix2 0 k := fun k => by
    blk_ext [ix_6]
  have e7 : ∀ k j : Fin 1024, ((win0_7.blk t).view.emb (ix2 k j) : S1024x1024.Idx) = ix2 k j := fun k j => by
    blk_ext [ix_7]
  simp only [e0, e1, e2, e3, e4, e5, e6, e7]
  refine entry_congr (fun j => Finset.sum_congr rfl fun k _ => ?_) (congrFun (V_main_arg4 m c) _) (V_mod m c _ d) (V_gain m c d)
  exact congrArg₂ (· * ·) (congrArg₂ (· + ·) (congrArg₂ (· * ·) (congrFun (V_main_arg2 m c) _) (congrFun (V_main_arg0 m c) _))
    (congrArg₂ (· * ·) (congrFun (V_main_arg3 m c) _) (congrFun (V_main_arg1 m c) _))) (V_w m c k j)
end

/-- The two programs end with the same result. -/
theorem algebraic : Cert.algebraic_KernelOutIdeal_OutMergeIdeal := by
  intro m ρ m' ρ' _ hagree
  refine ⟨fun c => (Cert.KernelOutIdeal.Gen.dats m 0 c).arrAt 8 Cert.KernelOutIdeal.cfg0.N, Cert.KernelOutIdeal.Value.run_blocks m ρ, ?_⟩
  refine (θ_run Cert.OutMergeIdeal.defs _ _).mono (fun _ h c => ⟨(h c).1.trans ?_, (h c).2⟩) (Cert.OutMergeIdeal.Value.run m' ρ')
  obtain ⟨h0, h1, h2, h3, h4, h5, h6, h7⟩ := hagree c
  refine Eq.trans ?_ (final m c).symm
  rw [h0, h1, h2, h3, h4, h5, h6, h7]

end Cert.Proof.Out
end
-- ==== Proof.In.Rope.lean ====
/- The rotary step of the input projection: the kernel's slab of 128 lanes read at one index. -/
module

public import proofs.«01_k».proof.Proof.Gen.KernelInIdeal.Skeleton
public import Idealize.ShloMosaic.Lib.Pointwise

@[expose] public section

noncomputable section

namespace Cert.Proof.In

open Idealize.ShloMosaic Idealize.ShloMosaic.TcCoe Idealize.SL.Sem
open Cert.KernelInIdeal Cert.KernelInIdeal.Gen

/-- A row `T` of projected entries, `n` of them from the column `o` on, turned in groups of `P` lanes by half a group
    width `H`: entry `c` times the first table plus its partner times the second. -/
def turned (P H : ℕ) {N : ℕ} (n o : ℕ) (hN : o + n ≤ N) (hn : n % 128 = 0) (T : Fin N → EReal) (cs sn : Fin 128 → EReal) (c : Fin n) : EReal :=
  T ⟨o + c.val, by omega⟩ * cs ⟨c.val % 128, by omega⟩
    + (if c.val % 128 % P < H then T ⟨o + (c.val / 128 * 128 + (c.val % 128 + H) % 128), by omega⟩
        else T ⟨o + (c.val / 128 * 128 + (c.val % 128 + (128 - H)) % 128), by omega⟩) * sn ⟨c.val % 128, by omega⟩

theorem turned_shift (P H : ℕ) {N : ℕ} (n o i w : ℕ) (hN : o + n ≤ N) (hn : n % 128 = 0) (hw : w % 128 = 0) (hi : i % 128 = 0) (T : Fin N → EReal) (T' : Fin w → EReal)
    (cs sn : Fin 128 → EReal) (j : Fin w) (c : Fin n) (hin : i + w ≤ n) (hc : c.val = i + j.val) (hT : ∀ j : Fin w, T' j = T ⟨o + (i + j.val), by omega⟩) :
    turned P H w 0 (by omega) hw T' cs sn j = turned P H n o hN hn T cs sn c := by
  have e1 : c.val % 128 = j.val % 128 := by omega
  have e2 : c.val / 128 * 128 = i + j.val / 128 * 128 := by omega
  unfold turned
  simp only [hT, e1, e2, zero_add, add_assoc]
  simp only [hc]

/-- The lanes of a slab, each within its group of `p`. -/
def lanes (p : BitVec 32) : IVec S256x128 32 :=
  have l : IVec S256x128 32 := iota .tc S256x128 32 [1] iota_S256x128_d1_w32
  let q : BitVec 32 := Scalar.select (Scalar.cmpi .eq p 0#32) 1#32 p
  have r : IVec S256x128 32 := remsi l (broadcast S256x128 q)
  have a : IVec S256x128 1 := cmpi .ne r (broadcast S256x128 0#32)
  have b : IVec S256x128 1 := cmpi .slt r (broadcast S256x128 0#32)
  have d : IVec S256x128 1 := broadcastTo S256x128 (broadcast S256x128 (Scalar.cmpi .slt q 0#32)) broadcasts_S256x128_S256x128
  select (andi (xori b d) a) (addi r (broadcast S256x128 q)) r

/-- The rotary step on a slab of 128 lanes. -/
def slab (p hw back : BitVec 32) (t c s : FVec Ideal S256x128 .f32) : FVec Ideal S256x128 .f32 :=
  addf (mulf t c) (mulf (select (cmpi .slt (lanes p) (broadcast S256x128 hw)) (dynamicRotate 1 back none t rotates_S256x128_d1)
    (dynamicRotate 1 hw none t rotates_S256x128_d1)) s)

theorem first16 : ∀ l : Fin 128, ((cmpi .slt (lanes 128#32) (broadcast S256x128 16#32) : IVec S256x128 1) (ix2 0 l)) = if l.val < 16 then 1#1 else 0#1 := by
  decide +kernel
theorem first8 : ∀ l : Fin 128, ((cmpi .slt (lanes 64#32) (broadcast S256x128 8#32) : IVec S256x128 1) (ix2 0 l)) = if l.val % 64 < 8 then 1#1 else 0#1 := by
  decide +kernel

/-- The groups' first 16 lanes, on every row. -/
theorem mask16 (r : Fin 256) (l : Fin 128) : (cmpi .slt (lanes 128#32) (broadcast S256x128 16#32) : IVec S256x128 1) (ix2 r l) = if l.val < 16 then 1#1 else 0#1 :=
  (show _ = (cmpi .slt (lanes 128#32) (broadcast S256x128 16#32) : IVec S256x128 1) (ix2 0 l) from rfl).trans (first16 l)

theorem mask8 (r : Fin 256) (l : Fin 128) : (cmpi .slt (lanes 64#32) (broadcast S256x128 8#32) : IVec S256x128 1) (ix2 r l) = if l.val % 64 < 8 then 1#1 else 0#1 :=
  (show _ = (cmpi .slt (lanes 64#32) (broadcast S256x128 8#32) : IVec S256x128 1) (ix2 0 l) from rfl).trans (first8 l)

theorem pick16 (k : IVec S256x128 1) (t c s : FVec Ideal S256x128 .f32) (r : Fin 256) (l : Fin 128) :
    (addf (mulf t c) (mulf (select k (dynamicRotate 1 112#32 none t rotates_S256x128_d1) (dynamicRotate 1 16#32 none t rotates_S256x128_d1)) s) (ix2 r l) : EReal)
      = t (ix2 r l) * c (ix2 r l) + (if k (ix2 r l) = 1#1 then t (ix2 r ⟨(l.val + 16) % 128, by omega⟩) else t (ix2 r ⟨(l.val + (128 - 16)) % 128, by omega⟩)) * s (ix2 r l) := by
  pointwise
  simp only [show l.val + 128 - 112 = l.val + 16 by omega, show l.val + 128 - 16 = l.val + 112 by omega]
  rfl

theorem slab16 (t c s : FVec Ideal S256x128 .f32) (r : Fin 256) (l : Fin 128) : (slab 128#32 16#32 112#32 t c s (ix2 r l) : EReal)
    = turned 128 16 128 0 (by omega) (by omega) (fun j => t (ix2 r j)) (fun j => c (ix2 r j)) (fun j => s (ix2 r j)) l := by
  refine (pick16 _ t c s r l).trans ?_
  rw [mask16 r l]
  have e1 : l.val % 128 = l.val := by omega
  have e2 : l.val / 128 = 0 := by omega
  unfold turned
  simp only [e1, e2, zero_add, zero_mul]
  by_cases h : l.val % 128 < 16
  · have h' : l.val  < 16 := by omega
    rw [if_pos h', if_pos rfl, if_pos h']
  · have h' : ¬ l.val  < 16 := by omega
    rw [if_neg h', if_neg (by decide), if_neg h']

theorem pick8 (k : IVec S256x128 1) (t c s : FVec Ideal S256x128 .f32) (r : Fin 256) (l : Fin 128) :
    (addf (mulf t c) (mulf (select k (dynamicRotate 1 120#32 none t rotates_S256x128_d1) (dynamicRotate 1 8#32 none t rotates_S256x128_d1)) s) (ix2 r l) : EReal)
      = t (ix2 r l) * c (ix2 r l) + (if k (ix2 r l) = 1#1 then t (ix2 r ⟨(l.val + 8) % 128, by omega⟩) else t (ix2 r ⟨(l.val + (128 - 8)) % 128, by omega⟩)) * s (ix2 r l) := by
  pointwise
  simp only [show l.val + 128 - 120 = l.val + 8 by omega, show l.val + 128 - 8 = l.val + 120 by omega]
  rfl

theorem slab8 (t c s : FVec Ideal S256x128 .f32) (r : Fin 256) (l : Fin 128) : (slab 64#32 8#32 120#32 t c s (ix2 r l) : EReal)
    = turned 64 8 128 0 (by omega) (by omega) (fun j => t (ix2 r j)) (fun j => c (ix2 r j)) (fun j => s (ix2 r j)) l := by
  refine (pick8 _ t c s r l).trans ?_
  rw [mask8 r l]
  have e1 : l.val % 128 = l.val := by omega
  have e2 : l.val / 128 = 0 := by omega
  unfold turned
  simp only [e1, e2, zero_add, zero_mul]
  by_cases h : l.val % 64 < 8
  · have h' : l.val % 64 < 8 := by omega
    rw [if_pos h', if_pos rfl, if_pos h]
  · have h' : ¬ l.val % 64 < 8 := by omega
    rw [if_neg h', if_neg (by decide), if_neg h]

/-- The product of the rows `h` with 256 columns. -/
def prod (h : FVec Ideal S256x1024 .bf16) (w : FVec Ideal S1024x256 .bf16) : FVec Ideal S256x256 .f32 :=
  matmul dot_S256x1024_S1024x256_S256x256_1_0_0_1_n_n none h (shapeCast S1024x256 w shapeCasts_S1024x256_S1024x256) (constant S256x256 .f32 0x00000000#32)

def prodN (h : FVec Ideal S256x1024 .bf16) (w : FVec Ideal S1024x128 .bf16) : FVec Ideal S256x128 .f32 :=
  matmul dot_S256x1024_S1024x128_S256x128_1_0_0_1_n_n none h (shapeCast S1024x128 w shapeCasts_S1024x128_S1024x128) (constant S256x128 .f32 0x00000000#32)

theorem prod_at (h : FVec Ideal S256x1024 .bf16) (w : FVec Ideal S1024x256 .bf16) (r j : Fin 256) :
    (prod h w (ix2 r j) : EReal) = ∑ k : Fin 1024, h (ix2 r k) * w (ix2 k j) := by
  unfold prod
  pointwise
  try rfl

theorem prodN_at (h : FVec Ideal S256x1024 .bf16) (w : FVec Ideal S1024x128 .bf16) (r : Fin 256) (j : Fin 128) :
    (prodN h w (ix2 r j) : EReal) = ∑ k : Fin 1024, h (ix2 r k) * w (ix2 k j) := by
  unfold prodN
  pointwise
  try rfl

/-- The rotary step on 256 columns, two slabs side by side. -/
def two (p hw back : BitVec 32) (z : FVec Ideal S256x256 .f32) (c s : FVec Ideal S1x256x128 .f32) : FVec Ideal S256x256 .f32 :=
  concatenate S256x256 1
    [⟨S256x128, slab p hw back (extractStridedSlice S256x128 ![0, 0] z slices_S256x256_o0_0_S256x128) (shapeCast S256x128 c shapeCasts_S1x256x128_S256x128) (shapeCast S256x128 s shapeCasts_S1x256x128_S256x128)⟩,
     ⟨S256x128, slab p hw back (extractStridedSlice S256x128 ![0, 128] z slices_S256x256_o0_128_S256x128) (shapeCast S256x128 c shapeCasts_S1x256x128_S256x128) (shapeCast S256x128 s shapeCasts_S1x256x128_S256x128)⟩]
    concatenates_S256x128_S256x128_S256x256_d1

theorem sides (A B : FVec Ideal S256x128 .f32) (r j : Fin 256) :
    (concatenate S256x256 1 [⟨S256x128, A⟩, ⟨S256x128, B⟩] concatenates_S256x128_S256x128_S256x256_d1 (ix2 r j) : EReal)
      = if h : j.val < 128 then A (ix2 r ⟨j.val, h⟩) else B (ix2 r ⟨j.val - 128, by omega⟩) := by
  pointwise

theorem cut0 (z : FVec Ideal S256x256 .f32) (r : Fin 256) (j : Fin 128) :
    (extractStridedSlice S256x128 ![0, 0] z slices_S256x256_o0_0_S256x128 (ix2 r j) : EReal) = z (ix2 r ⟨0 + j.val, by omega⟩) := by
  simp only [zero_add]
  pointwise
  try rfl

theorem cut128 (z : FVec Ideal S256x256 .f32) (r : Fin 256) (j : Fin 128) :
    (extractStridedSlice S256x128 ![0, 128] z slices_S256x256_o0_128_S256x128 (ix2 r j) : EReal) = z (ix2 r ⟨128 + j.val, by omega⟩) := by
  pointwise
  try rfl

theorem row_at (c : FVec Ideal S1x256x128 .f32) (r : Fin 256) (j : Fin 128) :
    (shapeCast S256x128 c shapeCasts_S1x256x128_S256x128 (ix2 r j) : EReal) = c (ix3 0 r j) := by
  pointwise
  try rfl

theorem two16 (z : FVec Ideal S256x256 .f32) (c s : FVec Ideal S1x256x128 .f32) (r j : Fin 256) :
    (two 128#32 16#32 112#32 z c s (ix2 r j) : EReal)
      = turned 128 16 256 0 (by omega) (by omega) (fun j => z (ix2 r j)) (fun j => c (ix3 0 r j)) (fun j => s (ix3 0 r j)) j := by
  unfold two
  refine (sides _ _ r j).trans ?_
  by_cases h : j.val < 128
  · rw [dif_pos h]
    refine (slab16 _ _ _ r ⟨j.val, h⟩).trans ?_
    simp only [row_at]
    refine turned_shift 128 16 256 0 0 128 (by omega) (by omega) (by omega) (by omega) _ _ _ _ _ _ (by omega) (by simp) fun k => ?_
    refine (cut0 z r k).trans ?_
    simp only [zero_add]
  · rw [dif_neg h]
    refine (slab16 _ _ _ r ⟨j.val - 128, by omega⟩).trans ?_
    simp only [row_at]
    refine turned_shift 128 16 256 0 128 128 (by omega) (by omega) (by omega) (by omega) _ _ _ _ _ _ (by omega) (show j.val = 128 + (j.val - 128) by omega) fun k => ?_
    refine (cut128 z r k).trans ?_
    simp only [zero_add]

theorem two8 (z : FVec Ideal S256x256 .f32) (c s : FVec Ideal S1x256x128 .f32) (r j : Fin 256) :
    (two 64#32 8#32 120#32 z c s (ix2 r j) : EReal)
      = turned 64 8 256 0 (by omega) (by omega) (fun j => z (ix2 r j)) (fun j => c (ix3 0 r j)) (fun j => s (ix3 0 r j)) j := by
  unfold two
  refine (sides _ _ r j).trans ?_
  by_cases h : j.val < 128
  · rw [dif_pos h]
    refine (slab8 _ _ _ r ⟨j.val, h⟩).trans ?_
    simp only [row_at]
    refine turned_shift 64 8 256 0 0 128 (by omega) (by omega) (by omega) (by omega) _ _ _ _ _ _ (by omega) (by simp) fun k => ?_
    refine (cut0 z r k).trans ?_
    simp only [zero_add]
  · rw [dif_neg h]
    refine (slab8 _ _ _ r ⟨j.val - 128, by omega⟩).trans ?_
    simp only [row_at]
    refine turned_shift 64 8 256 0 128 128 (by omega) (by omega) (by omega) (by omega) _ _ _ _ _ _ (by omega) (show j.val = 128 + (j.val - 128) by omega) fun k => ?_
    refine (cut128 z r k).trans ?_
    simp only [zero_add]

/-- The tiles the body stores: 256 columns turned and scaled, turned, plain, turned in the narrow groups, under the logistic. -/
def tileQ (h : FVec Ideal S256x1024 .bf16) (w : FVec Ideal S1024x256 .bf16) (c s : FVec Ideal S1x256x128 .f32) : FVec Ideal S1x256x256 .bf16 :=
  shapeCast S1x256x256 (truncf .bf16 (mulf (two 128#32 16#32 112#32 (prod h w) c s) (broadcast S256x256 (Scalar.ofBits (F := Ideal) .f32 0x3E0293EE#32)))
    bitsLt_bf16_f32) shapeCasts_S256x256_S1x256x256
def tileM (h : FVec Ideal S256x1024 .bf16) (w : FVec Ideal S1024x256 .bf16) (c s : FVec Ideal S1x256x128 .f32) : FVec Ideal S1x256x256 .bf16 :=
  shapeCast S1x256x256 (truncf .bf16 (two 128#32 16#32 112#32 (prod h w) c s) bitsLt_bf16_f32) shapeCasts_S256x256_S1x256x256
def tileI (h : FVec Ideal S256x1024 .bf16) (w : FVec Ideal S1024x256 .bf16) (c s : FVec Ideal S1x256x128 .f32) : FVec Ideal S1x256x256 .bf16 :=
  shapeCast S1x256x256 (truncf .bf16 (two 64#32 8#32 120#32 (prod h w) c s) bitsLt_bf16_f32) shapeCasts_S256x256_S1x256x256
def tileK (h : FVec Ideal S256x1024 .bf16) (w : FVec Ideal S1024x128 .bf16) (c s : FVec Ideal S1x256x128 .f32) : FVec Ideal S1x256x128 .bf16 :=
  shapeCast S1x256x128 (truncf .bf16 (slab 64#32 8#32 120#32 (prodN h w) (shapeCast S256x128 c shapeCasts_S1x256x128_S256x128) (shapeCast S256x128 s shapeCasts_S1x256x128_S256x128))
    bitsLt_bf16_f32) shapeCasts_S256x128_S1x256x128
def tileV (h : FVec Ideal S256x1024 .bf16) (w : FVec Ideal S1024x256 .bf16) : FVec Ideal S1x256x256 .bf16 :=
  shapeCast S1x256x256 (truncf .bf16 (prod h w) bitsLt_bf16_f32) shapeCasts_S256x256_S1x256x256
def tileW (h : FVec Ideal S256x1024 .bf16) (w : FVec Ideal S1024x128 .bf16) : FVec Ideal S1x256x128 .f32 :=
  shapeCast S1x256x128 (mulf (prodN h w) (broadcast S256x128 (Scalar.ofBits (F := Ideal) .f32 0x3EB504F3#32))) shapeCasts_S256x128_S1x256x128
def tileG (h : FVec Ideal S256x1024 .bf16) (w : FVec Ideal S1024x256 .bf16) : FVec Ideal S1x256x256 .f32 :=
  shapeCast S1x256x256 (logistic (prod h w)) shapeCasts_S256x256_S1x256x256

/-- A tile's product row. -/
def dots (h : FVec Ideal S256x1024 .bf16) {n : ℕ} (w : Fin 1024 → Fin n → EReal) (r : Fin 256) (j : Fin n) : EReal := ∑ k : Fin 1024, (h (ix2 r k) : EReal) * w k j

theorem drop (z : FVec Ideal S256x256 .bf16) (r j : Fin 256) :
    (shapeCast S1x256x256 z shapeCasts_S256x256_S1x256x256 (ix3 0 r j) : EReal) = z (ix2 r j) := by
  pointwise
theorem dropF (z : FVec Ideal S256x256 .f32) (r j : Fin 256) :
    (shapeCast S1x256x256 z shapeCasts_S256x256_S1x256x256 (ix3 0 r j) : EReal) = z (ix2 r j) := by
  pointwise
theorem dropN (z : FVec Ideal S256x128 .bf16) (r : Fin 256) (j : Fin 128) :
    (shapeCast S1x256x128 z shapeCasts_S256x128_S1x256x128 (ix3 0 r j) : EReal) = z (ix2 r j) := by
  pointwise
theorem dropNF (z : FVec Ideal S256x128 .f32) (r : Fin 256) (j : Fin 128) :
    (shapeCast S1x256x128 z shapeCasts_S256x128_S1x256x128 (ix3 0 r j) : EReal) = z (ix2 r j) := by
  pointwise

theorem tileM_at (h : FVec Ideal S256x1024 .bf16) (w : FVec Ideal S1024x256 .bf16) (c s : FVec Ideal S1x256x128 .f32) (r j : Fin 256) :
    (tileM h w c s (ix3 0 r j) : EReal)
      = turned 128 16 256 0 (by omega) (by omega) (dots h (fun k j => w (ix2 k j)) r) (fun j => c (ix3 0 r j)) (fun j => s (ix3 0 r j)) j := by
  refine (drop _ r j).trans ((two16 (prod h w) c s r j).trans ?_)
  simp only [prod_at]
  rfl
theorem tileI_at (h : FVec Ideal S256x1024 .bf16) (w : FVec Ideal S1024x256 .bf16) (c s : FVec Ideal S1x256x128 .f32) (r j : Fin 256) :
    (tileI h w c s (ix3 0 r j) : EReal)
      = turned 64 8 256 0 (by omega) (by omega) (dots h (fun k j => w (ix2 k j)) r) (fun j => c (ix3 0 r j)) (fun j => s (ix3 0 r j)) j := by
  refine (drop _ r j).trans ((two8 (prod h w) c s r j).trans ?_)
  simp only [prod_at]
  rfl
theorem tileQ_at (h : FVec Ideal S256x1024 .bf16) (w : FVec Ideal S1024x256 .bf16) (c s : FVec Ideal S1x256x128 .f32) (r j : Fin 256) :
    (tileQ h w c s (ix3 0 r j) : EReal)
      = turned 128 16 256 0 (by omega) (by omega) (dots h (fun k j => w (ix2 k j)) r) (fun j => c (ix3 0 r j)) (fun j => s (ix3 0 r j)) j * Ideal.ofBits .f32 0x3E0293EE#32 := by
  refine (drop _ r j).trans (congrArg (fun z : EReal => z * Ideal.ofBits .f32 0x3E0293EE#32) ((two16 (prod h w) c s r j).trans ?_))
  simp only [prod_at]
  rfl
theorem tileK_at (h : FVec Ideal S256x1024 .bf16) (w : FVec Ideal S1024x128 .bf16) (c s : FVec Ideal S1x256x128 .f32) (r : Fin 256) (j : Fin 128) :
    (tileK h w c s (ix3 0 r j) : EReal)
      = turned 64 8 128 0 (by omega) (by omega) (dots h (fun k j => w (ix2 k j)) r) (fun j => c (ix3 0 r j)) (fun j => s (ix3 0 r j)) j := by
  refine (dropN _ r j).trans ((slab8 (prodN h w) _ _ r j).trans ?_)
  simp only [prodN_at, row_at]
  rfl
theorem tileV_at (h : FVec Ideal S256x1024 .bf16) (w : FVec Ideal S1024x256 .bf16) (r j : Fin 256) :
    (tileV h w (ix3 0 r j) : EReal) = dots h (fun k j => w (ix2 k j)) r j :=
  (drop _ r j).trans (prod_at h w r j)
theorem tileG_at (h : FVec Ideal S256x1024 .bf16) (w : FVec Ideal S1024x256 .bf16) (r j : Fin 256) :
    (tileG h w (ix3 0 r j) : EReal) = Ideal.logistic (dots h (fun k j => w (ix2 k j)) r j) :=
  (dropF _ r j).trans (congrArg Ideal.logistic (prod_at h w r j))
theorem tileW_at (h : FVec Ideal S256x1024 .bf16) (w : FVec Ideal S1024x128 .bf16) (r : Fin 256) (j : Fin 128) :
    (tileW h w (ix3 0 r j) : EReal) = dots h (fun k j => w (ix2 k j)) r j * Ideal.ofBits .f32 0x3EB504F3#32 :=
  (dropNF _ r j).trans (congrArg (fun z : EReal => z * Ideal.ofBits .f32 0x3EB504F3#32) (prodN_at h w r j))

end Cert.Proof.In
end
-- ==== Proof.Ffn.Block.lean ====
/- The feed-forward kernel's output block read at one index. -/
module

public import proofs.«01_k».proof.Proof.Gen.KernelFfnIdeal.Value
public import Idealize.ShloMosaic.Lib.Pointwise
public import Idealize.ShloMosaic.Lib.Pipeline.ValueKit.Geometry
public import Idealize.ShloMosaic.Lib.Pipeline.ValueKit.Acc
public import Idealize.ShloMosaic.Lib.Pipeline.ValueKit.Tiles

@[expose] public section

noncomputable section

namespace Cert.Proof.Ffn

open Idealize.ShloMosaic Idealize.ShloMosaic.TcCoe Idealize.SL.Sem

/-- One hidden unit: the gate product times its logistic, times the other product. -/
def unit (a b : EReal) : EReal := a * Ideal.logistic a * b

/-- The inverse root of the mean square of a row of 1024, with the small constant added. -/
def invRms (p : Fin 1024 → EReal) : EReal :=
  Ideal.rsqrt (Ideal.div (∑ j, p j * p j) (Ideal.ofBits .f32 1149239296#32) + Ideal.ofBits .f32 897988541#32)

/-- A row normalised, scaled by the gain and modulated by scale and shift, at one place. -/
def normed (x g sc sh : Fin 1024 → EReal) (k : Fin 1024) : EReal :=
  x k * invRms x * g k * (1 + sc k) + sh k

/-- The projected row `p` normalised, scaled by the gain and, times the modulation, added to the residual entry. -/
def merge (p : Fin 1024 → EReal) (x sc g : EReal) (d : Fin 1024) : EReal :=
  x + sc * (p d * invRms p * g)

/-- One entry of the feed-forward part from one row of its input, the weights and the modulations. -/
def entry (x g sc sh : Fin 1024 → EReal) (wg wu : Fin 1024 → Fin 2816 → EReal) (wd : Fin 2816 → Fin 1024 → EReal)
    (gt gp : EReal) (d : Fin 1024) : EReal :=
  merge (fun j => ∑ l : Fin 2816, unit (∑ k : Fin 1024, normed x g sc sh k * wg k l) (∑ k : Fin 1024, normed x g sc sh k * wu k l) * wd l j)
    (x d) gt gp d

theorem entry_congr {x x' g g' sc sc' sh sh' : Fin 1024 → EReal} {wg wg' wu wu' : Fin 1024 → Fin 2816 → EReal}
    {wd wd' : Fin 2816 → Fin 1024 → EReal} {gt gt' gp gp' : EReal} {d : Fin 1024} (hx : ∀ k, x k = x' k) (hg : ∀ k, g k = g' k)
    (hsc : ∀ k, sc k = sc' k) (hsh : ∀ k, sh k = sh' k) (hwg : ∀ k l, wg k l = wg' k l) (hwu : ∀ k l, wu k l = wu' k l)
    (hwd : ∀ l j, wd l j = wd' l j) (hgt : gt = gt') (hgp : gp = gp') :
    entry x g sc sh wg wu wd gt gp d = entry x' g' sc' sh' wg' wu' wd' gt' gp' d := by
  rw [funext hx, funext hg, funext hsc, funext hsh, funext fun k => funext (hwg k), funext fun k => funext (hwu k),
    funext fun l => funext (hwd l), hgt, hgp]

open Cert.KernelFfnIdeal Cert.KernelFfnIdeal.Gen

variable (m : (ℓ : Loc nD τ sig) → Buf (Elt Ideal) ℓ)

/-- The hidden units of a block of rows `v`: column `q 1` of row `q 0`. -/
def hidden (v : FVec Ideal S256x1024 .bf16) (a b : FVec Ideal S1024x2816 .bf16) : FVec Ideal S256x2816 .bf16 :=
  fun q => unit (∑ k : Fin 1024, v (ix2 (q 0) k) * a (ix2 k (q 1))) (∑ k : Fin 1024, v (ix2 (q 0) k) * b (ix2 k (q 1)))

set_option maxRecDepth 16384 in
theorem tile_at (v : FVec Ideal S256x1024 .bf16) (a b : FVec Ideal S1024x256 .bf16) (r j : Fin 256) :
    (k0_pay19 v a b (ix2 r j) : EReal)
      = unit (∑ k : Fin 1024, v (ix2 r k) * a (ix2 k j)) (∑ k : Fin 1024, v (ix2 r k) * b (ix2 k j)) := by
  unfold k0_pay19
  pointwise
  rfl

/-- A tile of 256 hidden columns, read where the whole block of them is read. -/
theorem tile_hidden (v : FVec Ideal S256x1024 .bf16) (a b : FVec Ideal S1024x256 .bf16) (x6 x7 : FVec Ideal S1024x2816 .bf16)
    (x : S256x256.Idx) (q : S256x2816.Idx) (h0 : (q 0 : Fin 256) = x 0)
    (ha : ∀ k : Fin 1024, a (ix2 k (x 1)) = x6 (ix2 k (q 1))) (hb : ∀ k : Fin 1024, b (ix2 k (x 1)) = x7 (ix2 k (q 1))) :
    k0_pay19 v a b x = hidden v x6 x7 q := by
  have e : x = ix2 (x 0) (x 1) := by funext a; fin_cases a <;> rfl
  rw [e]
  refine (tile_at v a b (x 0) (x 1)).trans ?_
  unfold hidden
  exact congrArg₂ unit (Finset.sum_congr rfl fun k _ => congrArg₂ (fun s t : EReal => s * t) (congrArg (fun z => v (ix2 z k)) h0.symm) (ha k))
    (Finset.sum_congr rfl fun k _ => congrArg₂ (fun s t : EReal => s * t) (congrArg (fun z => v (ix2 z k)) h0.symm) (hb k))

/-- The kernel's normalised and modulated rows, at one index. -/
theorem norm_at (x0 : FVec Ideal S1x256x1024 .f32) (x4 : FVec Ideal S1x1024 .f32) (x1 x2 : FVec Ideal S1x1x1024 .f32) (r : Fin 256) (k : Fin 1024) :
    (k0_pay3 (F := Ideal) x0 x4 x1 x2 (ix2 r k) : EReal)
      = normed (fun j => x0 (ix3 0 r j)) (fun j => x4 (ix2 0 j)) (fun j => x1 (ix3 0 0 j)) (fun j => x2 (ix3 0 0 j)) k := by
  unfold k0_pay3 k0_pay2
  pointwise
  rfl

/-- What the body leaves in its output block, at one index, from the hidden units. -/
theorem out_at (x0 : FVec Ideal S1x256x1024 .f32) (h : FVec Ideal S256x2816 .bf16) (x8 : FVec Ideal S2816x1024 .bf16)
    (x3 : FVec Ideal S1x1x1024 .f32) (x5 : FVec Ideal S1x1024 .f32) (r : Fin 256) (d : Fin 1024) :
    (k0_pay1 (F := Ideal) (k0_pay2 x0) (k0_pay20 h x8) (k0_pay21 x3) x5 (ix3 0 r d) : EReal)
      = merge (fun j => ∑ l : Fin 2816, h (ix2 r l) * x8 (ix2 l j)) (x0 (ix3 0 r d)) (x3 (ix3 0 0 d)) (x5 (ix2 0 d)) d := by
  unfold k0_pay1 k0_pay2 k0_pay20 k0_pay21
  pointwise
  rfl

set_option maxRecDepth 16384 in
set_option maxHeartbeats 2000000 in
theorem blk_at (c : Dev nD) (t : Fin cfg0.N) : outsAt0 m c t
    = k0_pay1 (k0_pay2 (iblk m c 0 t)) (k0_pay20 (hidden (k0_pay3 (iblk m c 0 t) (iblk m c 4 t) (iblk m c 1 t) (iblk m c 2 t)) (iblk m c 6 t) (iblk m c 7 t)) (iblk m c 8 t))
      (k0_pay21 (iblk m c 3 t)) (iblk m c 5 t) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  refine congrArg (fun z => k0_pay1 (k0_pay2 x0) (k0_pay20 z x8) (k0_pay21 x3) x5) ?_
  rw [View.readCov_eq_canon']
  funext q
  rw [show (Rect.unit ![0, 0] ![256, 2816] inb_S256x2816_S256x2816_0_0).toLoadRect.idx q = q from
    funext fun a => Fin.ext (by rw [Rect.idx_unit_val]; fin_cases a <;> simp)]
  canon_tiles x h
  all_goals refine tile_hidden (k0_pay3 x0 x4 x1 x2) _ _ x6 x7 x q (Fin.ext h0) (fun k => ?_) (fun k => ?_)
  all_goals
    refine View.ld_unit_apply_of _ _ _ _ _ _ fun a => ?_
    fin_cases a
    · simp
    · simpa using h1

/-- What the body leaves in its output block, at one index, from the blocks it reads. -/
theorem blk_entry (x0 : FVec Ideal S1x256x1024 .f32) (x1 x2 x3 : FVec Ideal S1x1x1024 .f32) (x4 x5 : FVec Ideal S1x1024 .f32)
    (x6 x7 : FVec Ideal S1024x2816 .bf16) (x8 : FVec Ideal S2816x1024 .bf16) (r : Fin 256) (d : Fin 1024) :
    (k0_pay1 (F := Ideal) (k0_pay2 x0) (k0_pay20 (hidden (k0_pay3 x0 x4 x1 x2) x6 x7) x8) (k0_pay21 x3) x5 (ix3 0 r d) : EReal)
      = entry (fun k => x0 (ix3 0 r k)) (fun k => x4 (ix2 0 k)) (fun k => x1 (ix3 0 0 k)) (fun k => x2 (ix3 0 0 k))
          (fun k l => x6 (ix2 k l)) (fun k l => x7 (ix2 k l)) (fun l j => x8 (ix2 l j)) (x3 (ix3 0 0 d)) (x5 (ix2 0 d)) d := by
  refine (out_at _ _ _ _ _ r d).trans ?_
  unfold entry
  refine congrArg (fun p => merge p (x0 (ix3 0 r d)) (x3 (ix3 0 0 d)) (x5 (ix2 0 d)) d) (funext fun j => Finset.sum_congr rfl fun l _ => ?_)
  refine congrArg (fun s : EReal => s * x8 (ix2 l j)) ?_
  unfold hidden
  exact congrArg₂ unit (Finset.sum_congr rfl fun k _ => congrArg (fun s : EReal => s * x6 (ix2 k l)) (norm_at x0 x4 x1 x2 r k))
    (Finset.sum_congr rfl fun k _ => congrArg (fun s : EReal => s * x7 (ix2 k l)) (norm_at x0 x4 x1 x2 r k))

end Cert.Proof.Ffn
end
-- ==== Proof.In.Host.lean ====
/- The input projection as the host computes it, each result at one index. -/
module

public import proofs.«01_k».proof.Proof.Gen.InProjIdeal.Run
public import proofs.«01_k».proof.Proof.Ffn.Block

@[expose] public section

noncomputable section

namespace Cert.Proof.In

open Idealize.ShloMosaic Idealize.ShloMosaic.TcCoe Idealize.SL.Sem
open Cert.InProjIdeal Cert.InProjIdeal.Gen
open Cert.Proof.Ffn (normed invRms)

/-- A finite row continued by zero. -/
def up {n : ℕ} (f : Fin n → EReal) (i : ℕ) : EReal := if h : i < n then f ⟨i, h⟩ else 0

theorem up_eq {n : ℕ} (f : Fin n → EReal) (j : Fin n) (i : ℕ) (h : j.val = i) : f j = up f i := by
  subst h
  unfold up
  rw [dif_pos j.isLt]

/-- The rotary step as a formula: of the entries from `o` on, in groups of `P`, the first `R` of a group are mixed with the next `R`, the others kept. -/
def spun (P R o : ℕ) (T cs sn : ℕ → EReal) (d : ℕ) : EReal :=
  if d % P < R then T (o + d) * cs (d % P) - T (o + (d + R)) * sn (d % P)
  else if d % P - R < R then T (o + d) * cs (d % P - R) + T (o + (d - R)) * sn (d % P - R)
  else T (o + d)

theorem sub_congr {a a' b b' c c' d d' : EReal} (ha : a = a') (hb : b = b') (hc : c = c') (hd : d = d') : a * b - c * d = a' * b' - c' * d' := by
  rw [ha, hb, hc, hd]
theorem add_congr {a a' b b' c c' d d' : EReal} (ha : a = a') (hb : b = b') (hc : c = c') (hd : d = d') : a * b + c * d = a' * b' + c' * d' := by
  rw [ha, hb, hc, hd]

/-- The rotary angles of the attention heads: each position times the frequencies. -/
def angM (p : IVec S2x8192 32) : FVec Ideal S2x8192x16 .f32 :=
  mulf (broadcastInDim S2x8192x16 ![0, 1, 2] bcast_S2x8192x1_S2x8192x16_0_1_2 (broadcastInDim S2x8192x1 ![0, 1] bcast_S2x8192_S2x8192x1_0_1 (sitofp .f32 (p)))) (broadcastInDim S2x8192x16 ![0, 1, 2] bcast_S1x1x16_S2x8192x16_0_1_2 (broadcastInDim S1x1x16 ![2] bcast_S16_S1x1x16_2 (Host.powf (broadcastInDim S16 ![] bcast_S_S16 (constant S_ .f32 0x48F42400#32)) ((fun i => FloatOps.ofBits .f32 (lit0 (S16.rowMajor i)))))))
/-- The rotary angles of the index heads. -/
def angI (p : IVec S2x8192 32) : FVec Ideal S2x8192x8 .f32 :=
  mulf (broadcastInDim S2x8192x8 ![0, 1, 2] bcast_S2x8192x1_S2x8192x8_0_1_2 (broadcastInDim S2x8192x1 ![0, 1] bcast_S2x8192_S2x8192x1_0_1 (sitofp .f32 (p)))) (broadcastInDim S2x8192x8 ![0, 1, 2] bcast_S1x1x8_S2x8192x8_0_1_2 (broadcastInDim S1x1x8 ![2] bcast_S8_S1x1x8_2 (Host.powf (broadcastInDim S8 ![] bcast_S_S8 (constant S_ .f32 0x48F42400#32)) ((fun i => FloatOps.ofBits .f32 (lit1 (S8.rowMajor i)))))))

/-- The projected rows as the host computes them. -/
abbrev hostProj (x : FVec Ideal S2x8192x1024 .f32) (mod : FVec Ideal S2x6144 .f32) (g : FVec Ideal S1024 .f32) (w : FVec Ideal S1024x7240 .f32) : FVec Ideal S2x8192x7240 .f32 :=
  Host.dotGeneral dot_S2x8192x1024_S1024x7240_S2x8192x7240_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 1024] mod slices_S2x6144_S2x1024_0_1024))))) (broadcastInDim S2x8192x1024 ![0, 1, 2] bcast_S2x1x1024_S2x8192x1024_0_1_2 (broadcastInDim S2x1x1024 ![0, 2] bcast_S2x1024_S2x1x1024_0_2 (extractStridedSlice S2x1024 ![0, 0] mod slices_S2x6144_S2x1024_0_0)))) w

/-- One row of the normalised and modulated input. -/
def nrm (x : FVec Ideal S2x8192x1024 .f32) (mod : FVec Ideal S2x6144 .f32) (g : FVec Ideal S1024 .f32) (b : Fin 2) (s : Fin 8192) : Fin 1024 → EReal :=
  normed (fun k => x (ix3 b s k)) (fun k => g (ix1 k)) (fun k => mod (ix2 b ⟨1024 + k.val, by omega⟩)) (fun k => mod (ix2 b ⟨0 + k.val, by omega⟩))

theorem proj_at (x : FVec Ideal S2x8192x1024 .f32) (mod : FVec Ideal S2x6144 .f32) (g : FVec Ideal S1024 .f32) (w : FVec Ideal S1024x7240 .f32)
    (b : Fin 2) (s : Fin 8192) (j : Fin 7240) : (hostProj x mod g w (ix3 b s j) : EReal) = ∑ k : Fin 1024, nrm x mod g b s k * w (ix2 k j) := by
  unfold nrm normed invRms
  simp only [zero_add]
  pointwise
  try rfl

end Cert.Proof.In
end
-- ==== Proof.In.Match.lean ====
/- The two forms of the rotary step, the kernel's with rotated lanes and the host's by halves, give the same entry. -/
module

public import proofs.«01_k».proof.Proof.In.Rope
public import proofs.«01_k».proof.Proof.In.Host

@[expose] public section

noncomputable section

namespace Cert.Proof.In

open Idealize.ShloMosaic Idealize.ShloMosaic.TcCoe Idealize.SL.Sem

/-- The first table of a group of `P` lanes: the cosines twice, then ones. -/
def ones (P R : ℕ) (c : ℕ → EReal) (l : ℕ) : EReal := if l % P < R then c (l % P) else if l % P - R < R then c (l % P - R) else 1

/-- The second table of a group of `P` lanes: the sines negated, the sines, then zeros. -/
def signs (P R : ℕ) (s : ℕ → EReal) (l : ℕ) : EReal := if l % P < R then -(s (l % P)) else if l % P - R < R then s (l % P - R) else 0

theorem turned_spun16 (n o u : ℕ) {N : ℕ} (hN : o + n ≤ N) (hn : n % 128 = 0) (T : Fin N → EReal) (U : ℕ → EReal) (cs sn : Fin 128 → EReal) (c s : ℕ → EReal)
    (hT : ∀ (i : ℕ) (h : i < n), T ⟨o + i, by omega⟩ = U (u + i)) (hc : ∀ l : Fin 128, cs l = ones 128 16 c l.val) (hs : ∀ l : Fin 128, sn l = signs 128 16 s l.val)
    (d : Fin n) : turned 128 16 n o hN hn T cs sn d = spun 128 16 u U c s d.val := by
  have e : d.val % 128 % 128 = d.val % 128 := by omega
  have hd := d.isLt
  unfold turned spun
  rw [hc, hs]
  unfold ones signs
  dsimp only
  simp only [e]
  by_cases h1 : d.val % 128 < 16
  · have e2 : d.val / 128 * 128 + (d.val % 128 + 16) % 128 = d.val + 16 := by omega
    simp only [h1, if_true, e2]
    rw [hT _ hd, hT (d.val + 16) (by omega), mul_neg, sub_eq_add_neg]
  · simp only [h1, if_false]
    by_cases h2 : d.val % 128 - 16 < 16
    · have e2 : d.val / 128 * 128 + (d.val % 128 + (128 - 16)) % 128 = d.val - 16 := by omega
      simp only [h2, if_true, e2]
      rw [hT _ hd, hT (d.val - 16) (by omega)]
    · simp only [h2, if_false]
      rw [hT _ hd, mul_one, mul_zero, add_zero]

theorem turned_spun8 (n o u : ℕ) {N : ℕ} (hN : o + n ≤ N) (hn : n % 128 = 0) (T : Fin N → EReal) (U : ℕ → EReal) (cs sn : Fin 128 → EReal) (c s : ℕ → EReal)
    (hT : ∀ (i : ℕ) (h : i < n), T ⟨o + i, by omega⟩ = U (u + i)) (hc : ∀ l : Fin 128, cs l = ones 64 8 c l.val) (hs : ∀ l : Fin 128, sn l = signs 64 8 s l.val)
    (d : Fin n) : turned 64 8 n o hN hn T cs sn d = spun 64 8 u U c s d.val := by
  have e : d.val % 128 % 64 = d.val % 64 := by omega
  have hd := d.isLt
  unfold turned spun
  rw [hc, hs]
  unfold ones signs
  dsimp only
  simp only [e]
  by_cases h1 : d.val % 64 < 8
  · have e2 : d.val / 128 * 128 + (d.val % 128 + 8) % 128 = d.val + 8 := by omega
    simp only [h1, if_true, e2]
    rw [hT _ hd, hT (d.val + 8) (by omega), mul_neg, sub_eq_add_neg]
  · simp only [h1, if_false]
    by_cases h2 : d.val % 64 - 8 < 8
    · have e2 : d.val / 128 * 128 + (d.val % 128 + (128 - 8)) % 128 = d.val - 8 := by omega
      simp only [h2, if_true, e2]
      rw [hT _ hd, hT (d.val - 8) (by omega)]
    · simp only [h2, if_false]
      rw [hT _ hd, mul_one, mul_zero, add_zero]

/-- The 64 entries from the column 5120 on, then 64 zeros. -/
def lo (U : ℕ → EReal) (i : ℕ) : EReal := if i < 64 then U (5120 + i) else 0

/-- 64 zeros, then the 64 entries from the column 5120 on. -/
def hi (U : ℕ → EReal) (i : ℕ) : EReal := if i < 64 then 0 else U (5120 + (i - 64))

theorem spun_lo (U c s : ℕ → EReal) (d : ℕ) (hd : d < 128) : spun 64 8 0 (lo U) c s d = if d < 64 then spun 64 8 5120 U c s d else 0 := by
  unfold spun lo
  by_cases h : d < 64
  · rw [if_pos h]
    by_cases h1 : d % 64 < 8
    · rw [if_pos h1, if_pos h1, if_pos (by omega), if_pos (by omega)]
      simp only [zero_add]
    · rw [if_neg h1, if_neg h1]
      by_cases h2 : d % 64 - 8 < 8
      · rw [if_pos h2, if_pos h2, if_pos (by omega), if_pos (by omega)]
        simp only [zero_add]
      · rw [if_neg h2, if_neg h2, if_pos (by omega)]
        simp only [zero_add]
  · rw [if_neg h]
    by_cases h1 : d % 64 < 8
    · rw [if_pos h1, if_neg (by omega), if_neg (by omega), zero_mul, zero_mul, sub_zero]
    · rw [if_neg h1]
      by_cases h2 : d % 64 - 8 < 8
      · rw [if_pos h2, if_neg (by omega), if_neg (by omega), zero_mul, zero_mul, add_zero]
      · rw [if_neg h2, if_neg (by omega)]

theorem spun_hi (U c s : ℕ → EReal) (d : ℕ) (hd : d < 128) : spun 64 8 0 (hi U) c s d = if d < 64 then 0 else spun 64 8 5120 U c s (d - 64) := by
  unfold spun hi
  by_cases h : d < 64
  · rw [if_pos h]
    by_cases h1 : d % 64 < 8
    · rw [if_pos h1, if_pos (by omega), if_pos (by omega), zero_mul, zero_mul, sub_zero]
    · rw [if_neg h1]
      by_cases h2 : d % 64 - 8 < 8
      · rw [if_pos h2, if_pos (by omega), if_pos (by omega), zero_mul, zero_mul, add_zero]
      · rw [if_neg h2, if_pos (by omega)]
  · have e : (d - 64) % 64 = d % 64 := by omega
    rw [if_neg h, e]
    by_cases h1 : d % 64 < 8
    · have e2 : 0 + (d + 8) - 64 = d - 64 + 8 := by omega
      rw [if_pos h1, if_pos h1, if_neg (by omega), if_neg (by omega), e2]
      simp only [zero_add]
    · rw [if_neg h1, if_neg h1]
      by_cases h2 : d % 64 - 8 < 8
      · have e2 : 0 + (d - 8) - 64 = d - 64 - 8 := by omega
        rw [if_pos h2, if_pos h2, if_neg (by omega), if_neg (by omega), e2]
        simp only [zero_add]
      · rw [if_neg h2, if_neg h2, if_neg (by omega)]
        simp only [zero_add]

/-- The columns of the arranged weights, each a column of the given weights or zero. -/
def pick (W : ℕ → EReal) (j : ℕ) : EReal :=
  if j < 5184 then W j else if j < 5312 then 0 else if j < 5384 then W (j - 192) else if j < 5504 then 0 else W (j - 312)

theorem sum_up {K n : ℕ} (f : Fin K → EReal) (W : Fin K → Fin n → EReal) (i : ℕ) :
    ∑ k, f k * up (W k) i = up (fun j => ∑ k, f k * W k j) i := by
  unfold up
  by_cases h : i < n
  · simp only [dif_pos h]
  · simp only [dif_neg h, mul_zero, Finset.sum_const_zero]

theorem sum_pick {K n : ℕ} (f : Fin K → EReal) (W : Fin K → Fin n → EReal) (j : ℕ) :
    ∑ k, f k * pick (up (W k)) j = pick (up fun j => ∑ k, f k * W k j) j := by
  unfold pick
  by_cases h1 : j < 5184
  · simp only [if_pos h1, sum_up]
  by_cases h2 : j < 5312
  · simp only [if_neg h1, if_pos h2, mul_zero, Finset.sum_const_zero]
  by_cases h3 : j < 5384
  · simp only [if_neg h1, if_neg h2, if_pos h3, sum_up]
  by_cases h4 : j < 5504
  · simp only [if_neg h1, if_neg h2, if_neg h3, if_pos h4, mul_zero, Finset.sum_const_zero]
  · simp only [if_neg h1, if_neg h2, if_neg h3, if_neg h4, sum_up]

theorem pick_lt (U : ℕ → EReal) (j : ℕ) (h : j < 5184) : pick U j = U j := by
  unfold pick
  rw [if_pos h]

theorem pick_lo (U : ℕ → EReal) (i : ℕ) (h : i < 128) : pick U (5120 + i) = lo U (0 + i) := by
  unfold pick lo
  by_cases h1 : i < 64
  · rw [if_pos (by omega : 5120 + i < 5184), if_pos (by omega : 0 + i < 64), zero_add]
  · rw [if_neg (by omega : ¬5120 + i < 5184), if_pos (by omega : 5120 + i < 5312), if_neg (by omega : ¬0 + i < 64)]

theorem pick_hi (U : ℕ → EReal) (i : ℕ) (h : i < 128) : pick U (5248 + i) = hi U (0 + i) := by
  unfold pick hi
  by_cases h1 : i < 64
  · rw [if_neg (by omega : ¬5248 + i < 5184), if_pos (by omega : 5248 + i < 5312), if_pos (by omega : 0 + i < 64)]
  · rw [if_neg (by omega : ¬5248 + i < 5184), if_neg (by omega : ¬5248 + i < 5312), if_pos (by omega : 5248 + i < 5384), if_neg (by omega : ¬0 + i < 64)]
    exact congrArg U (by omega)

theorem pick_wi (U : ℕ → EReal) (f : EReal) (i : ℕ) (h : i < 128) : pick U (5376 + i) * f = if i < 8 then U (5184 + i) * f else 0 := by
  unfold pick
  by_cases h1 : i < 8
  · rw [if_neg (by omega : ¬5376 + i < 5184), if_neg (by omega : ¬5376 + i < 5312), if_pos (by omega : 5376 + i < 5384), if_pos h1]
    exact congrArg (fun j => U j * f) (by omega)
  · rw [if_neg (by omega : ¬5376 + i < 5184), if_neg (by omega : ¬5376 + i < 5312), if_neg (by omega : ¬5376 + i < 5384), if_pos (by omega : 5376 + i < 5504), if_neg h1, zero_mul]

theorem pick_gate (U : ℕ → EReal) (o u i : ℕ) (ho : 5504 ≤ o) (hu : o = u + 312) : pick U (o + i) = U (u + i) := by
  unfold pick
  rw [if_neg (by omega : ¬o + i < 5184), if_neg (by omega : ¬o + i < 5312), if_neg (by omega : ¬o + i < 5384), if_neg (by omega : ¬o + i < 5504)]
  exact congrArg U (by omega)

end Cert.Proof.In
end
-- ==== Proof.In.Tiles.lean ====
/- Each tile the body stores is one of the standard ones. -/
module

public import proofs.«01_k».proof.Proof.In.Rope

@[expose] public section

noncomputable section

namespace Cert.Proof.In

open Idealize.ShloMosaic Idealize.ShloMosaic.TcCoe Idealize.SL.Sem
open Cert.KernelInIdeal Cert.KernelInIdeal.Gen

set_option maxHeartbeats 1000000 in
theorem tile_qa0 (h : FVec Ideal S256x1024 .bf16) (w : FVec Ideal S1024x256 .bf16) (c s : FVec Ideal S1x256x128 .f32) :
    k0_pay11 (k0_pay4 c) (k0_pay5 s) (k0_pay6 (k0_pay3 h w) c s) (k0_pay7 (k0_pay3 h w)) (128#32) k0_pay8 k0_pay9 k0_pay10 0#32 = tileQ h w c s := by
  unfold k0_pay11 k0_pay10 k0_pay9 k0_pay8 k0_pay7 k0_pay6 k0_pay5 k0_pay4 k0_pay3 tileQ two slab lanes prod
  rfl

set_option maxHeartbeats 1000000 in
theorem tile_qa256 (h : FVec Ideal S256x1024 .bf16) (w : FVec Ideal S1024x256 .bf16) (c s : FVec Ideal S1x256x128 .f32) :
    k0_pay19 (k0_pay17 (k0_pay13 c) (k0_pay14 s) (k0_pay15 h w) (128#32) k0_pay16 0#32) (k0_pay18 (k0_pay12 h w) (k0_pay13 c) (k0_pay14 s)) = tileQ h w c s := by
  unfold k0_pay19 k0_pay18 k0_pay17 k0_pay16 k0_pay15 k0_pay14 k0_pay13 k0_pay12 tileQ two slab lanes prod
  rfl

set_option maxHeartbeats 1000000 in
theorem tile_qa512 (h : FVec Ideal S256x1024 .bf16) (w : FVec Ideal S1024x256 .bf16) (c s : FVec Ideal S1x256x128 .f32) :
    k0_pay26 (k0_pay20 h w) (k0_pay21 c) (k0_pay22 s) (k0_pay23 h w) k0_pay24 (k0_pay25 h w) = tileQ h w c s := by
  unfold k0_pay26 k0_pay25 k0_pay24 k0_pay23 k0_pay22 k0_pay21 k0_pay20 tileQ two slab lanes prod
  rfl

set_option maxHeartbeats 1000000 in
theorem tile_qa768 (h : FVec Ideal S256x1024 .bf16) (w : FVec Ideal S1024x256 .bf16) (c s : FVec Ideal S1x256x128 .f32) :
    k0_pay35 (k0_pay29 c) (k0_pay30 s) (k0_pay31 h (k0_pay27 w) c s) (k0_pay32 h (k0_pay27 w)) (128#32) k0_pay33 k0_pay34 0#32 = tileQ h w c s := by
  unfold k0_pay35 k0_pay34 k0_pay33 k0_pay32 k0_pay31 k0_pay30 k0_pay29 k0_pay28 k0_pay27 tileQ two slab lanes prod
  rfl

set_option maxHeartbeats 1000000 in
theorem tile_ka0 (h : FVec Ideal S256x1024 .bf16) (w : FVec Ideal S1024x256 .bf16) (c s : FVec Ideal S1x256x128 .f32) :
    k0_pay43 (k0_pay37 c) (k0_pay38 s) (k0_pay40 (k0_pay37 c) (k0_pay38 s) (k0_pay39 h w) (iota .tc S256x128 32 [1] iota_S256x128_d1_w32) 128#32) (k0_pay41 (k0_pay36 h w)) (k0_pay42 (k0_pay36 h w)) = tileM h w c s := by
  unfold k0_pay43 k0_pay42 k0_pay41 k0_pay40 k0_pay39 k0_pay38 k0_pay37 k0_pay36 tileM two slab lanes prod
  rfl

set_option maxHeartbeats 1000000 in
theorem tile_ka256 (h : FVec Ideal S256x1024 .bf16) (w : FVec Ideal S1024x256 .bf16) (c s : FVec Ideal S1x256x128 .f32) :
    k0_pay50 (k0_pay44 h w) (k0_pay45 c) (k0_pay46 s) (k0_pay47 h w) k0_pay48 (k0_pay49 h w) = tileM h w c s := by
  unfold k0_pay50 k0_pay49 k0_pay48 k0_pay47 k0_pay46 k0_pay45 k0_pay44 tileM two slab lanes prod
  rfl

set_option maxHeartbeats 1000000 in
theorem tile_ka512 (h : FVec Ideal S256x1024 .bf16) (w : FVec Ideal S1024x256 .bf16) (c s : FVec Ideal S1x256x128 .f32) :
    k0_pay59 (k0_pay52 c) (k0_pay53 s) (k0_pay54 (k0_pay51 h w) c s) (k0_pay55 (k0_pay51 h w)) (128#32) k0_pay56 k0_pay57 k0_pay58 0#32 = tileM h w c s := by
  unfold k0_pay59 k0_pay58 k0_pay57 k0_pay56 k0_pay55 k0_pay54 k0_pay53 k0_pay52 k0_pay51 tileM two slab lanes prod
  rfl

set_option maxHeartbeats 1000000 in
theorem tile_ka768 (h : FVec Ideal S256x1024 .bf16) (w : FVec Ideal S1024x256 .bf16) (c s : FVec Ideal S1x256x128 .f32) :
    k0_pay67 (k0_pay66 (k0_pay60 h w) (k0_pay61 c) (k0_pay62 s) (k0_pay63 h w) (128#32) k0_pay64 k0_pay65 0#32) = tileM h w c s := by
  unfold k0_pay67 k0_pay66 k0_pay65 k0_pay64 k0_pay63 k0_pay62 k0_pay61 k0_pay60 tileM two slab lanes prod
  rfl

theorem tile_va0 (h : FVec Ideal S256x1024 .bf16) (w : FVec Ideal S1024x256 .bf16) :
    k0_pay68 h w = tileV h w := by
  unfold k0_pay68 tileV prod
  rfl

theorem tile_va256 (h : FVec Ideal S256x1024 .bf16) (w : FVec Ideal S1024x256 .bf16) :
    k0_pay69 h w = tileV h w := by
  unfold k0_pay69 tileV prod
  rfl

theorem tile_va512 (h : FVec Ideal S256x1024 .bf16) (w : FVec Ideal S1024x256 .bf16) :
    k0_pay70 h w = tileV h w := by
  unfold k0_pay70 tileV prod
  rfl

theorem tile_va768 (h : FVec Ideal S256x1024 .bf16) (w : FVec Ideal S1024x256 .bf16) :
    k0_pay71 h w = tileV h w := by
  unfold k0_pay71 tileV prod
  rfl

set_option maxHeartbeats 1000000 in
theorem tile_qb0 (h : FVec Ideal S256x1024 .bf16) (w : FVec Ideal S1024x256 .bf16) (c s : FVec Ideal S1x256x128 .f32) :
    k0_pay77 (k0_pay72 h w) (k0_pay73 c) (k0_pay74 s) (k0_pay75 h w) k0_pay76 = tileQ h w c s := by
  unfold k0_pay77 k0_pay76 k0_pay75 k0_pay74 k0_pay73 k0_pay72 tileQ two slab lanes prod
  rfl

set_option maxHeartbeats 1000000 in
theorem tile_qb256 (h : FVec Ideal S256x1024 .bf16) (w : FVec Ideal S1024x256 .bf16) (c s : FVec Ideal S1x256x128 .f32) :
    k0_pay85 (k0_pay79 c) (k0_pay80 s) (k0_pay81 h w c s) (k0_pay82 h w) (128#32) k0_pay83 k0_pay84 = tileQ h w c s := by
  unfold k0_pay85 k0_pay84 k0_pay83 k0_pay82 k0_pay81 k0_pay80 k0_pay79 k0_pay78 tileQ two slab lanes prod
  rfl

set_option maxHeartbeats 1000000 in
theorem tile_qb512 (h : FVec Ideal S256x1024 .bf16) (w : FVec Ideal S1024x256 .bf16) (c s : FVec Ideal S1x256x128 .f32) :
    k0_pay94 (k0_pay87 c) (k0_pay88 s) (k0_pay90 (k0_pay87 c) (k0_pay88 s) (k0_pay89 h w) (iota .tc S256x128 32 [1] iota_S256x128_d1_w32) 128#32 0#1) (k0_pay91 (k0_pay86 h w)) k0_pay92 (k0_pay93 (k0_pay86 h w)) 16#32 = tileQ h w c s := by
  unfold k0_pay94 k0_pay93 k0_pay92 k0_pay91 k0_pay90 k0_pay89 k0_pay88 k0_pay87 k0_pay86 tileQ two slab lanes prod
  rfl

set_option maxHeartbeats 1000000 in
theorem tile_qb768 (h : FVec Ideal S256x1024 .bf16) (w : FVec Ideal S1024x256 .bf16) (c s : FVec Ideal S1x256x128 .f32) :
    k0_pay100 (k0_pay95 h w) (k0_pay96 c) (k0_pay97 s) (k0_pay98 h w) k0_pay99 = tileQ h w c s := by
  unfold k0_pay100 k0_pay99 k0_pay98 k0_pay97 k0_pay96 k0_pay95 tileQ two slab lanes prod
  rfl

set_option maxHeartbeats 1000000 in
theorem tile_kb0 (h : FVec Ideal S256x1024 .bf16) (w : FVec Ideal S1024x256 .bf16) (c s : FVec Ideal S1x256x128 .f32) :
    k0_pay107 (k0_pay102 c) (k0_pay103 s) (k0_pay104 h w c s) (k0_pay105 h w) (iota .tc S256x128 32 [1] iota_S256x128_d1_w32) (128#32) k0_pay106 = tileM h w c s := by
  unfold k0_pay107 k0_pay106 k0_pay105 k0_pay104 k0_pay103 k0_pay102 k0_pay101 tileM two slab lanes prod
  rfl

theorem tile_vb0 (h : FVec Ideal S256x1024 .bf16) (w : FVec Ideal S1024x256 .bf16) :
    k0_pay108 h w = tileV h w := by
  unfold k0_pay108 tileV prod
  rfl

set_option maxHeartbeats 1000000 in
theorem tile_qi0 (h : FVec Ideal S256x1024 .bf16) (w : FVec Ideal S1024x256 .bf16) (c s : FVec Ideal S1x256x128 .f32) :
    k0_pay117 (k0_pay111 c) (k0_pay112 s) (k0_pay113 h (k0_pay109 w) c s) (k0_pay114 h (k0_pay109 w)) (64#32) k0_pay115 k0_pay116 0#32 = tileI h w c s := by
  unfold k0_pay117 k0_pay116 k0_pay115 k0_pay114 k0_pay113 k0_pay112 k0_pay111 k0_pay110 k0_pay109 tileI two slab lanes prod
  rfl

set_option maxHeartbeats 1000000 in
theorem tile_qi256 (h : FVec Ideal S256x1024 .bf16) (w : FVec Ideal S1024x256 .bf16) (c s : FVec Ideal S1x256x128 .f32) :
    k0_pay125 (k0_pay123 (k0_pay119 c) (k0_pay120 s) (k0_pay121 h w) (64#32) k0_pay122 0#32) (k0_pay124 (k0_pay118 h w) (k0_pay119 c) (k0_pay120 s)) = tileI h w c s := by
  unfold k0_pay125 k0_pay124 k0_pay123 k0_pay122 k0_pay121 k0_pay120 k0_pay119 k0_pay118 tileI two slab lanes prod
  rfl

set_option maxHeartbeats 1000000 in
theorem tile_klo0 (h : FVec Ideal S256x1024 .bf16) (w : FVec Ideal S1024x128 .bf16) (c s : FVec Ideal S1x256x128 .f32) :
    k0_pay130 (k0_pay127 s) (k0_pay128 h w) (k0_pay129 h w c) = tileK h w c s := by
  unfold k0_pay130 k0_pay129 k0_pay128 k0_pay127 k0_pay126 tileK slab lanes prodN
  rfl

set_option maxHeartbeats 1000000 in
theorem tile_khi0 (h : FVec Ideal S256x1024 .bf16) (w : FVec Ideal S1024x128 .bf16) (c s : FVec Ideal S1x256x128 .f32) :
    k0_pay135 (k0_pay131 h w) (k0_pay132 c) (k0_pay133 s) (k0_pay134 h w) = tileK h w c s := by
  unfold k0_pay135 k0_pay134 k0_pay133 k0_pay132 k0_pay131 tileK slab lanes prodN
  rfl

theorem tile_wi0 (h : FVec Ideal S256x1024 .bf16) (w : FVec Ideal S1024x128 .bf16) :
    k0_pay136 h w = tileW h w := by
  unfold k0_pay136 tileW prodN
  rfl

theorem tile_ga0 (h : FVec Ideal S256x1024 .bf16) (w : FVec Ideal S1024x256 .bf16) :
    k0_pay137 h w = tileG h w := by
  unfold k0_pay137 tileG prod
  rfl

theorem tile_ga256 (h : FVec Ideal S256x1024 .bf16) (w : FVec Ideal S1024x256 .bf16) :
    k0_pay139 (k0_pay138 h w) = tileG h w := by
  unfold k0_pay139 k0_pay138 tileG prod
  rfl

theorem tile_ga512 (h : FVec Ideal S256x1024 .bf16) (w : FVec Ideal S1024x256 .bf16) :
    k0_pay140 h w = tileG h w := by
  unfold k0_pay140 tileG prod
  rfl

theorem tile_ga768 (h : FVec Ideal S256x1024 .bf16) (w : FVec Ideal S1024x256 .bf16) :
    k0_pay141 h w = tileG h w := by
  unfold k0_pay141 tileG prod
  rfl

theorem tile_gb0 (h : FVec Ideal S256x1024 .bf16) (w : FVec Ideal S1024x256 .bf16) :
    k0_pay142 h w = tileG h w := by
  unfold k0_pay142 tileG prod
  rfl

theorem tile_gb256 (h : FVec Ideal S256x1024 .bf16) (w : FVec Ideal S1024x256 .bf16) :
    k0_pay143 h w = tileG h w := by
  unfold k0_pay143 tileG prod
  rfl

theorem tile_gb512 (h : FVec Ideal S256x1024 .bf16) (w : FVec Ideal S1024x256 .bf16) :
    k0_pay144 h w = tileG h w := by
  unfold k0_pay144 tileG prod
  rfl

theorem tile_gb768 (h : FVec Ideal S256x1024 .bf16) (w : FVec Ideal S1024x256 .bf16) :
    k0_pay1 h w = tileG h w := by
  unfold k0_pay1 tileG prod
  rfl

end Cert.Proof.In
end
-- ==== Proof.In.Block.lean ====
/- The input projection's output blocks read at one index. -/
module

public import proofs.«01_k».proof.Proof.Gen.KernelInIdeal.Value
public import proofs.«01_k».proof.Proof.In.Rope
public import proofs.«01_k».proof.Proof.In.Tiles
public import proofs.«01_k».proof.Proof.Ffn.Block
public import Idealize.ShloMosaic.Lib.Pipeline.ValueKit.Geometry
public import Idealize.ShloMosaic.Lib.Pipeline.ValueKit.Acc
public import Idealize.ShloMosaic.Lib.Pipeline.ValueKit.Tiles

@[expose] public section

noncomputable section

namespace Cert.Proof.In

open Idealize.ShloMosaic Idealize.ShloMosaic.TcCoe Idealize.SL.Sem
open Cert.KernelInIdeal Cert.KernelInIdeal.Gen
open Cert.Proof.Ffn (normed invRms)

variable (m : (ℓ : Loc nD τ sig) → Buf (Elt Ideal) ℓ)

theorem eta (x : S1x256x256.Idx) : x = ix3 0 (x 1) (x 2) := by
  funext a
  have h : x 0 = (⟨0, by decide⟩ : Fin 1) := Fin.ext (show (x 0 : Fin 1).val = 0 from by have h : (x 0 : Fin 1).val < 1 := (x 0 : Fin 1).isLt; omega)
  fin_cases a
  · exact h
  · rfl
  · rfl

theorem etaN (x : S1x256x128.Idx) : x = ix3 0 (x 1) (x 2) := by
  funext a
  have h : x 0 = (⟨0, by decide⟩ : Fin 1) := Fin.ext (show (x 0 : Fin 1).val = 0 from by have h : (x 0 : Fin 1).val < 1 := (x 0 : Fin 1).isLt; omega)
  fin_cases a
  · exact h
  · rfl
  · rfl

/-- A block of rows' products with `n` columns of the weights, from column `o` on. -/
abbrev row (h : FVec Ideal S256x1024 .bf16) (x4 : FVec Ideal S1024x7552 .bf16) (r : Fin 256) : Fin 7552 → EReal := dots h (fun k j => x4 (ix2 k j)) r

abbrev line (c : FVec Ideal S1x256x128 .f32) (r : Fin 256) : Fin 128 → EReal := fun l => c (ix3 0 r l)

theorem moveQ (n o i : ℕ) (hN : o + n ≤ 7552) (hn : n % 128 = 0) (hi : i % 128 = 0) (hin : i + 256 ≤ n) (h : FVec Ideal S256x1024 .bf16) (w : FVec Ideal S1024x256 .bf16)
    (x4 : FVec Ideal S1024x7552 .bf16) (c s : FVec Ideal S1x256x128 .f32) (x : S1x256x256.Idx) (r : Fin 256) (d : Fin n) (h1 : r.val = (x 1 : Fin 256).val)
    (h2 : d.val = i + (x 2 : Fin 256).val) (hw : ∀ (k : Fin 1024) (j : Fin 256), (w (ix2 k j) : EReal) = x4 (ix2 k ⟨o + (i + j.val), by omega⟩)) :
    (tileQ h w c s x : EReal) = turned 128 16 n o hN hn (row h x4 r) (line c r) (line s r) d * Ideal.ofBits .f32 0x3E0293EE#32 := by
  obtain rfl : r = x 1 := Fin.ext h1
  generalize hr : (x 1 : Fin 256) = r at *
  refine (congrArg (tileQ h w c s) ((eta x).trans (congrArg (fun r => ix3 0 r (x 2)) hr))).trans ((tileQ_at h w c s r (x 2)).trans ?_)
  exact congrArg (fun z : EReal => z * Ideal.ofBits .f32 0x3E0293EE#32) (turned_shift 128 16 n o i 256 hN hn (by omega) hi (row h x4 r) _ (line c r) (line s r) (x 2) d hin h2 fun j => Finset.sum_congr rfl fun k _ => congrArg (fun z : EReal => (h (ix2 r k) : EReal) * z) (hw k j))

theorem moveM (n o i : ℕ) (hN : o + n ≤ 7552) (hn : n % 128 = 0) (hi : i % 128 = 0) (hin : i + 256 ≤ n) (h : FVec Ideal S256x1024 .bf16) (w : FVec Ideal S1024x256 .bf16)
    (x4 : FVec Ideal S1024x7552 .bf16) (c s : FVec Ideal S1x256x128 .f32) (x : S1x256x256.Idx) (r : Fin 256) (d : Fin n) (h1 : r.val = (x 1 : Fin 256).val)
    (h2 : d.val = i + (x 2 : Fin 256).val) (hw : ∀ (k : Fin 1024) (j : Fin 256), (w (ix2 k j) : EReal) = x4 (ix2 k ⟨o + (i + j.val), by omega⟩)) :
    (tileM h w c s x : EReal) = turned 128 16 n o hN hn (row h x4 r) (line c r) (line s r) d := by
  obtain rfl : r = x 1 := Fin.ext h1
  generalize hr : (x 1 : Fin 256) = r at *
  refine (congrArg (tileM h w c s) ((eta x).trans (congrArg (fun r => ix3 0 r (x 2)) hr))).trans ((tileM_at h w c s r (x 2)).trans ?_)
  exact turned_shift 128 16 n o i 256 hN hn (by omega) hi (row h x4 r) _ (line c r) (line s r) (x 2) d hin h2 fun j => Finset.sum_congr rfl fun k _ => congrArg (fun z : EReal => (h (ix2 r k) : EReal) * z) (hw k j)

theorem moveI (n o i : ℕ) (hN : o + n ≤ 7552) (hn : n % 128 = 0) (hi : i % 128 = 0) (hin : i + 256 ≤ n) (h : FVec Ideal S256x1024 .bf16) (w : FVec Ideal S1024x256 .bf16)
    (x4 : FVec Ideal S1024x7552 .bf16) (c s : FVec Ideal S1x256x128 .f32) (x : S1x256x256.Idx) (r : Fin 256) (d : Fin n) (h1 : r.val = (x 1 : Fin 256).val)
    (h2 : d.val = i + (x 2 : Fin 256).val) (hw : ∀ (k : Fin 1024) (j : Fin 256), (w (ix2 k j) : EReal) = x4 (ix2 k ⟨o + (i + j.val), by omega⟩)) :
    (tileI h w c s x : EReal) = turned 64 8 n o hN hn (row h x4 r) (line c r) (line s r) d := by
  obtain rfl : r = x 1 := Fin.ext h1
  generalize hr : (x 1 : Fin 256) = r at *
  refine (congrArg (tileI h w c s) ((eta x).trans (congrArg (fun r => ix3 0 r (x 2)) hr))).trans ((tileI_at h w c s r (x 2)).trans ?_)
  exact turned_shift 64 8 n o i 256 hN hn (by omega) hi (row h x4 r) _ (line c r) (line s r) (x 2) d hin h2 fun j => Finset.sum_congr rfl fun k _ => congrArg (fun z : EReal => (h (ix2 r k) : EReal) * z) (hw k j)

theorem moveV (n o i : ℕ) (hN : o + n ≤ 7552) (hin : i + 256 ≤ n) (h : FVec Ideal S256x1024 .bf16) (w : FVec Ideal S1024x256 .bf16)
    (x4 : FVec Ideal S1024x7552 .bf16) (x : S1x256x256.Idx) (r : Fin 256) (d : Fin n) (h1 : r.val = (x 1 : Fin 256).val)
    (h2 : d.val = i + (x 2 : Fin 256).val) (hw : ∀ (k : Fin 1024) (j : Fin 256), (w (ix2 k j) : EReal) = x4 (ix2 k ⟨o + (i + j.val), by omega⟩)) :
    (tileV h w x : EReal) = row h x4 r ⟨o + d.val, by omega⟩ := by
  obtain rfl : r = x 1 := Fin.ext h1
  generalize hr : (x 1 : Fin 256) = r at *
  refine (congrArg (tileV h w) ((eta x).trans (congrArg (fun r => ix3 0 r (x 2)) hr))).trans ((tileV_at h w r (x 2)).trans ?_)
  exact Finset.sum_congr rfl fun k _ => congrArg (fun z : EReal => (h (ix2 r k) : EReal) * z) ((hw k (x 2)).trans (congrArg (fun z => (x4 (ix2 k z) : EReal)) (Fin.ext (by simp only [h2]))))

theorem moveG (n o i : ℕ) (hN : o + n ≤ 7552) (hin : i + 256 ≤ n) (h : FVec Ideal S256x1024 .bf16) (w : FVec Ideal S1024x256 .bf16)
    (x4 : FVec Ideal S1024x7552 .bf16) (x : S1x256x256.Idx) (r : Fin 256) (d : Fin n) (h1 : r.val = (x 1 : Fin 256).val)
    (h2 : d.val = i + (x 2 : Fin 256).val) (hw : ∀ (k : Fin 1024) (j : Fin 256), (w (ix2 k j) : EReal) = x4 (ix2 k ⟨o + (i + j.val), by omega⟩)) :
    (tileG h w x : EReal) = Ideal.logistic (row h x4 r ⟨o + d.val, by omega⟩) := by
  obtain rfl : r = x 1 := Fin.ext h1
  generalize hr : (x 1 : Fin 256) = r at *
  refine (congrArg (tileG h w) ((eta x).trans (congrArg (fun r => ix3 0 r (x 2)) hr))).trans ((tileG_at h w r (x 2)).trans ?_)
  exact congrArg Ideal.logistic (Finset.sum_congr rfl fun k _ => congrArg (fun z : EReal => (h (ix2 r k) : EReal) * z) ((hw k (x 2)).trans (congrArg (fun z => (x4 (ix2 k z) : EReal)) (Fin.ext (by simp only [h2])))))

theorem moveK (o : ℕ) (hN : o + 128 ≤ 7552) (h : FVec Ideal S256x1024 .bf16) (w : FVec Ideal S1024x128 .bf16)
    (x4 : FVec Ideal S1024x7552 .bf16) (c s : FVec Ideal S1x256x128 .f32) (x : S1x256x128.Idx) (hw : ∀ (k : Fin 1024) (j : Fin 128), (w (ix2 k j) : EReal) = x4 (ix2 k ⟨o + j.val, by omega⟩)) :
    (tileK h w c s x : EReal) = turned 64 8 128 o hN (by omega) (row h x4 (x 1)) (line c (x 1)) (line s (x 1)) (x 2) := by
  refine (congrArg (tileK h w c s) (etaN x)).trans ((tileK_at h w c s (x 1) (x 2)).trans ?_)
  exact turned_shift 64 8 128 o 0 128 hN (by omega) (by omega) (by omega) (row h x4 (x 1)) _ (line c (x 1)) (line s (x 1)) (x 2) (x 2) (by omega) (by omega) fun j => Finset.sum_congr rfl fun k _ => congrArg (fun z : EReal => (h (ix2 (x 1) k) : EReal) * z) ((hw k j).trans (congrArg (fun z => (x4 (ix2 k z) : EReal)) (Fin.ext (by simp only [zero_add]))))

theorem moveW (o : ℕ) (hN : o + 128 ≤ 7552) (h : FVec Ideal S256x1024 .bf16) (w : FVec Ideal S1024x128 .bf16)
    (x4 : FVec Ideal S1024x7552 .bf16) (x : S1x256x128.Idx) (hw : ∀ (k : Fin 1024) (j : Fin 128), (w (ix2 k j) : EReal) = x4 (ix2 k ⟨o + j.val, by omega⟩)) :
    (tileW h w x : EReal) = row h x4 (x 1) ⟨o + (x 2 : Fin 128).val, by have h : (x 2 : Fin 128).val < 128 := (x 2 : Fin 128).isLt; omega⟩ * Ideal.ofBits .f32 0x3EB504F3#32 := by
  refine (congrArg (tileW h w) (etaN x)).trans ((tileW_at h w (x 1) (x 2)).trans ?_)
  exact congrArg (fun z : EReal => z * Ideal.ofBits .f32 0x3EB504F3#32) (Finset.sum_congr rfl fun k _ => congrArg (fun z : EReal => (h (ix2 (x 1) k) : EReal) * z) (hw k (x 2)))

set_option maxRecDepth 16384 in
set_option maxHeartbeats 4000000 in
theorem blk_qa (c : Dev nD) (t : Fin cfg0.N) : (outsAt0 m c t).1
    = fun q => (turned 128 16 1024 0 (by omega) (by omega) (row (k0_pay2 (iblk m c 0 t) (iblk m c 3 t) (iblk m c 1 t) (iblk m c 2 t)) (iblk m c 4 t) (q 1)) (line (iblk m c 5 t) (q 1)) (line (iblk m c 6 t) (q 1)) (q 2) * Ideal.ofBits .f32 0x3E0293EE#32 : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  canon_tiles x h
  · refine (congrFun (tile_qa768 (k0_pay2 x0 x3 x1 x2) (View.ld x4 (Rect.unit ![0, 768] ![1024, 256] inb_S1024x7552_S1024x256_0_768)) x5 x6) x).trans (moveQ 1024 0 768 (by omega) (by omega) (by omega) (by omega) (k0_pay2 x0 x3 x1 x2) (View.ld x4 (Rect.unit ![0, 768] ![1024, 256] inb_S1024x7552_S1024x256_0_768)) x4 x5 x6 x (q 1) (q 2) h1 (by omega) fun k j => ?_)
    refine View.ld_unit_apply_of _ _ _ _ _ _ fun a => ?_
    fin_cases a
    · simp
    · show _ = _ + _
      simp
      try omega
  · refine (congrFun (tile_qa512 (k0_pay2 x0 x3 x1 x2) (View.ld x4 (Rect.unit ![0, 512] ![1024, 256] inb_S1024x7552_S1024x256_0_512)) x5 x6) x).trans (moveQ 1024 0 512 (by omega) (by omega) (by omega) (by omega) (k0_pay2 x0 x3 x1 x2) (View.ld x4 (Rect.unit ![0, 512] ![1024, 256] inb_S1024x7552_S1024x256_0_512)) x4 x5 x6 x (q 1) (q 2) h1 (by omega) fun k j => ?_)
    refine View.ld_unit_apply_of _ _ _ _ _ _ fun a => ?_
    fin_cases a
    · simp
    · show _ = _ + _
      simp
      try omega
  · refine (congrFun (tile_qa256 (k0_pay2 x0 x3 x1 x2) (View.ld x4 (Rect.unit ![0, 256] ![1024, 256] inb_S1024x7552_S1024x256_0_256)) x5 x6) x).trans (moveQ 1024 0 256 (by omega) (by omega) (by omega) (by omega) (k0_pay2 x0 x3 x1 x2) (View.ld x4 (Rect.unit ![0, 256] ![1024, 256] inb_S1024x7552_S1024x256_0_256)) x4 x5 x6 x (q 1) (q 2) h1 (by omega) fun k j => ?_)
    refine View.ld_unit_apply_of _ _ _ _ _ _ fun a => ?_
    fin_cases a
    · simp
    · show _ = _ + _
      simp
      try omega
  · refine (congrFun (tile_qa0 (k0_pay2 x0 x3 x1 x2) (View.ld x4 (Rect.unit ![0, 0] ![1024, 256] inb_S1024x7552_S1024x256_0_0)) x5 x6) x).trans (moveQ 1024 0 0 (by omega) (by omega) (by omega) (by omega) (k0_pay2 x0 x3 x1 x2) (View.ld x4 (Rect.unit ![0, 0] ![1024, 256] inb_S1024x7552_S1024x256_0_0)) x4 x5 x6 x (q 1) (q 2) h1 (by omega) fun k j => ?_)
    refine View.ld_unit_apply_of _ _ _ _ _ _ fun a => ?_
    fin_cases a
    · simp
    · show _ = _ + _
      simp
      try omega

set_option maxRecDepth 16384 in
set_option maxHeartbeats 4000000 in
theorem blk_ka (c : Dev nD) (t : Fin cfg0.N) : (outsAt0 m c t).2.1
    = fun q => (turned 128 16 1024 1024 (by omega) (by omega) (row (k0_pay2 (iblk m c 0 t) (iblk m c 3 t) (iblk m c 1 t) (iblk m c 2 t)) (iblk m c 4 t) (q 1)) (line (iblk m c 5 t) (q 1)) (line (iblk m c 6 t) (q 1)) (q 2) : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  canon_tiles x h
  · refine (congrFun (tile_ka768 (k0_pay2 x0 x3 x1 x2) (View.ld x4 (Rect.unit ![0, 1792] ![1024, 256] inb_S1024x7552_S1024x256_0_1792)) x5 x6) x).trans (moveM 1024 1024 768 (by omega) (by omega) (by omega) (by omega) (k0_pay2 x0 x3 x1 x2) (View.ld x4 (Rect.unit ![0, 1792] ![1024, 256] inb_S1024x7552_S1024x256_0_1792)) x4 x5 x6 x (q 1) (q 2) h1 (by omega) fun k j => ?_)
    refine View.ld_unit_apply_of _ _ _ _ _ _ fun a => ?_
    fin_cases a
    · simp
    · show _ = _ + _
      simp
      try omega
  · refine (congrFun (tile_ka512 (k0_pay2 x0 x3 x1 x2) (View.ld x4 (Rect.unit ![0, 1536] ![1024, 256] inb_S1024x7552_S1024x256_0_1536)) x5 x6) x).trans (moveM 1024 1024 512 (by omega) (by omega) (by omega) (by omega) (k0_pay2 x0 x3 x1 x2) (View.ld x4 (Rect.unit ![0, 1536] ![1024, 256] inb_S1024x7552_S1024x256_0_1536)) x4 x5 x6 x (q 1) (q 2) h1 (by omega) fun k j => ?_)
    refine View.ld_unit_apply_of _ _ _ _ _ _ fun a => ?_
    fin_cases a
    · simp
    · show _ = _ + _
      simp
      try omega
  · refine (congrFun (tile_ka256 (k0_pay2 x0 x3 x1 x2) (View.ld x4 (Rect.unit ![0, 1280] ![1024, 256] inb_S1024x7552_S1024x256_0_1280)) x5 x6) x).trans (moveM 1024 1024 256 (by omega) (by omega) (by omega) (by omega) (k0_pay2 x0 x3 x1 x2) (View.ld x4 (Rect.unit ![0, 1280] ![1024, 256] inb_S1024x7552_S1024x256_0_1280)) x4 x5 x6 x (q 1) (q 2) h1 (by omega) fun k j => ?_)
    refine View.ld_unit_apply_of _ _ _ _ _ _ fun a => ?_
    fin_cases a
    · simp
    · show _ = _ + _
      simp
      try omega
  · refine (congrFun (tile_ka0 (k0_pay2 x0 x3 x1 x2) (View.ld x4 (Rect.unit ![0, 1024] ![1024, 256] inb_S1024x7552_S1024x256_0_1024)) x5 x6) x).trans (moveM 1024 1024 0 (by omega) (by omega) (by omega) (by omega) (k0_pay2 x0 x3 x1 x2) (View.ld x4 (Rect.unit ![0, 1024] ![1024, 256] inb_S1024x7552_S1024x256_0_1024)) x4 x5 x6 x (q 1) (q 2) h1 (by omega) fun k j => ?_)
    refine View.ld_unit_apply_of _ _ _ _ _ _ fun a => ?_
    fin_cases a
    · simp
    · show _ = _ + _
      simp
      try omega

set_option maxRecDepth 16384 in
set_option maxHeartbeats 4000000 in
theorem blk_va (c : Dev nD) (t : Fin cfg0.N) : (outsAt0 m c t).2.2.1
    = fun q => ((row (k0_pay2 (iblk m c 0 t) (iblk m c 3 t) (iblk m c 1 t) (iblk m c 2 t)) (iblk m c 4 t) (q 1)) ⟨2048 + (q 2 : Fin 1024).val, by have h : (q 2 : Fin 1024).val < 1024 := (q 2 : Fin 1024).isLt; omega⟩ : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  canon_tiles x h
  · refine (congrFun (tile_va768 (k0_pay2 x0 x3 x1 x2) (View.ld x4 (Rect.unit ![0, 2816] ![1024, 256] inb_S1024x7552_S1024x256_0_2816))) x).trans (moveV 1024 2048 768 (by omega) (by omega) (k0_pay2 x0 x3 x1 x2) (View.ld x4 (Rect.unit ![0, 2816] ![1024, 256] inb_S1024x7552_S1024x256_0_2816)) x4 x (q 1) (q 2) h1 (by omega) fun k j => ?_)
    refine View.ld_unit_apply_of _ _ _ _ _ _ fun a => ?_
    fin_cases a
    · simp
    · show _ = _ + _
      simp
      try omega
  · refine (congrFun (tile_va512 (k0_pay2 x0 x3 x1 x2) (View.ld x4 (Rect.unit ![0, 2560] ![1024, 256] inb_S1024x7552_S1024x256_0_2560))) x).trans (moveV 1024 2048 512 (by omega) (by omega) (k0_pay2 x0 x3 x1 x2) (View.ld x4 (Rect.unit ![0, 2560] ![1024, 256] inb_S1024x7552_S1024x256_0_2560)) x4 x (q 1) (q 2) h1 (by omega) fun k j => ?_)
    refine View.ld_unit_apply_of _ _ _ _ _ _ fun a => ?_
    fin_cases a
    · simp
    · show _ = _ + _
      simp
      try omega
  · refine (congrFun (tile_va256 (k0_pay2 x0 x3 x1 x2) (View.ld x4 (Rect.unit ![0, 2304] ![1024, 256] inb_S1024x7552_S1024x256_0_2304))) x).trans (moveV 1024 2048 256 (by omega) (by omega) (k0_pay2 x0 x3 x1 x2) (View.ld x4 (Rect.unit ![0, 2304] ![1024, 256] inb_S1024x7552_S1024x256_0_2304)) x4 x (q 1) (q 2) h1 (by omega) fun k j => ?_)
    refine View.ld_unit_apply_of _ _ _ _ _ _ fun a => ?_
    fin_cases a
    · simp
    · show _ = _ + _
      simp
      try omega
  · refine (congrFun (tile_va0 (k0_pay2 x0 x3 x1 x2) (View.ld x4 (Rect.unit ![0, 2048] ![1024, 256] inb_S1024x7552_S1024x256_0_2048))) x).trans (moveV 1024 2048 0 (by omega) (by omega) (k0_pay2 x0 x3 x1 x2) (View.ld x4 (Rect.unit ![0, 2048] ![1024, 256] inb_S1024x7552_S1024x256_0_2048)) x4 x (q 1) (q 2) h1 (by omega) fun k j => ?_)
    refine View.ld_unit_apply_of _ _ _ _ _ _ fun a => ?_
    fin_cases a
    · simp
    · show _ = _ + _
      simp
      try omega

set_option maxRecDepth 16384 in
set_option maxHeartbeats 4000000 in
theorem blk_qb (c : Dev nD) (t : Fin cfg0.N) : (outsAt0 m c t).2.2.2.1
    = fun q => (turned 128 16 1024 3072 (by omega) (by omega) (row (k0_pay2 (iblk m c 0 t) (iblk m c 3 t) (iblk m c 1 t) (iblk m c 2 t)) (iblk m c 4 t) (q 1)) (line (iblk m c 5 t) (q 1)) (line (iblk m c 6 t) (q 1)) (q 2) * Ideal.ofBits .f32 0x3E0293EE#32 : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  canon_tiles x h
  · refine (congrFun (tile_qb768 (k0_pay2 x0 x3 x1 x2) (View.ld x4 (Rect.unit ![0, 3840] ![1024, 256] inb_S1024x7552_S1024x256_0_3840)) x5 x6) x).trans (moveQ 1024 3072 768 (by omega) (by omega) (by omega) (by omega) (k0_pay2 x0 x3 x1 x2) (View.ld x4 (Rect.unit ![0, 3840] ![1024, 256] inb_S1024x7552_S1024x256_0_3840)) x4 x5 x6 x (q 1) (q 2) h1 (by omega) fun k j => ?_)
    refine View.ld_unit_apply_of _ _ _ _ _ _ fun a => ?_
    fin_cases a
    · simp
    · show _ = _ + _
      simp
      try omega
  · refine (congrFun (tile_qb512 (k0_pay2 x0 x3 x1 x2) (View.ld x4 (Rect.unit ![0, 3584] ![1024, 256] inb_S1024x7552_S1024x256_0_3584)) x5 x6) x).trans (moveQ 1024 3072 512 (by omega) (by omega) (by omega) (by omega) (k0_pay2 x0 x3 x1 x2) (View.ld x4 (Rect.unit ![0, 3584] ![1024, 256] inb_S1024x7552_S1024x256_0_3584)) x4 x5 x6 x (q 1) (q 2) h1 (by omega) fun k j => ?_)
    refine View.ld_unit_apply_of _ _ _ _ _ _ fun a => ?_
    fin_cases a
    · simp
    · show _ = _ + _
      simp
      try omega
  · refine (congrFun (tile_qb256 (k0_pay2 x0 x3 x1 x2) (View.ld x4 (Rect.unit ![0, 3328] ![1024, 256] inb_S1024x7552_S1024x256_0_3328)) x5 x6) x).trans (moveQ 1024 3072 256 (by omega) (by omega) (by omega) (by omega) (k0_pay2 x0 x3 x1 x2) (View.ld x4 (Rect.unit ![0, 3328] ![1024, 256] inb_S1024x7552_S1024x256_0_3328)) x4 x5 x6 x (q 1) (q 2) h1 (by omega) fun k j => ?_)
    refine View.ld_unit_apply_of _ _ _ _ _ _ fun a => ?_
    fin_cases a
    · simp
    · show _ = _ + _
      simp
      try omega
  · refine (congrFun (tile_qb0 (k0_pay2 x0 x3 x1 x2) (View.ld x4 (Rect.unit ![0, 3072] ![1024, 256] inb_S1024x7552_S1024x256_0_3072)) x5 x6) x).trans (moveQ 1024 3072 0 (by omega) (by omega) (by omega) (by omega) (k0_pay2 x0 x3 x1 x2) (View.ld x4 (Rect.unit ![0, 3072] ![1024, 256] inb_S1024x7552_S1024x256_0_3072)) x4 x5 x6 x (q 1) (q 2) h1 (by omega) fun k j => ?_)
    refine View.ld_unit_apply_of _ _ _ _ _ _ fun a => ?_
    fin_cases a
    · simp
    · show _ = _ + _
      simp
      try omega

set_option maxRecDepth 16384 in
set_option maxHeartbeats 4000000 in
theorem blk_kb (c : Dev nD) (t : Fin cfg0.N) : (outsAt0 m c t).2.2.2.2.1
    = fun q => (turned 128 16 256 4096 (by omega) (by omega) (row (k0_pay2 (iblk m c 0 t) (iblk m c 3 t) (iblk m c 1 t) (iblk m c 2 t)) (iblk m c 4 t) (q 1)) (line (iblk m c 5 t) (q 1)) (line (iblk m c 6 t) (q 1)) (q 2) : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  refine (congrFun (tile_kb0 (k0_pay2 x0 x3 x1 x2) (View.ld x4 (Rect.unit ![0, 4096] ![1024, 256] inb_S1024x7552_S1024x256_0_4096)) x5 x6) q).trans (moveM 256 4096 0 (by omega) (by omega) (by omega) (by omega) (k0_pay2 x0 x3 x1 x2) (View.ld x4 (Rect.unit ![0, 4096] ![1024, 256] inb_S1024x7552_S1024x256_0_4096)) x4 x5 x6 q (q 1) (q 2) rfl (by omega) fun k j => ?_)
  refine View.ld_unit_apply_of _ _ _ _ _ _ fun a => ?_
  fin_cases a
  · simp
  · simp

set_option maxRecDepth 16384 in
set_option maxHeartbeats 4000000 in
theorem blk_vb (c : Dev nD) (t : Fin cfg0.N) : (outsAt0 m c t).2.2.2.2.2.1
    = fun q => ((row (k0_pay2 (iblk m c 0 t) (iblk m c 3 t) (iblk m c 1 t) (iblk m c 2 t)) (iblk m c 4 t) (q 1)) ⟨4352 + (q 2 : Fin 256).val, by have h : (q 2 : Fin 256).val < 256 := (q 2 : Fin 256).isLt; omega⟩ : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  refine (congrFun (tile_vb0 (k0_pay2 x0 x3 x1 x2) (View.ld x4 (Rect.unit ![0, 4352] ![1024, 256] inb_S1024x7552_S1024x256_0_4352))) q).trans (moveV 256 4352 0 (by omega) (by omega) (k0_pay2 x0 x3 x1 x2) (View.ld x4 (Rect.unit ![0, 4352] ![1024, 256] inb_S1024x7552_S1024x256_0_4352)) x4 q (q 1) (q 2) rfl (by omega) fun k j => ?_)
  refine View.ld_unit_apply_of _ _ _ _ _ _ fun a => ?_
  fin_cases a
  · simp
  · simp

set_option maxRecDepth 16384 in
set_option maxHeartbeats 4000000 in
theorem blk_qi (c : Dev nD) (t : Fin cfg0.N) : (outsAt0 m c t).2.2.2.2.2.2.1
    = fun q => (turned 64 8 512 4608 (by omega) (by omega) (row (k0_pay2 (iblk m c 0 t) (iblk m c 3 t) (iblk m c 1 t) (iblk m c 2 t)) (iblk m c 4 t) (q 1)) (line (iblk m c 7 t) (q 1)) (line (iblk m c 8 t) (q 1)) (q 2) : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  canon_tiles x h
  · refine (congrFun (tile_qi256 (k0_pay2 x0 x3 x1 x2) (View.ld x4 (Rect.unit ![0, 4864] ![1024, 256] inb_S1024x7552_S1024x256_0_4864)) x7 x8) x).trans (moveI 512 4608 256 (by omega) (by omega) (by omega) (by omega) (k0_pay2 x0 x3 x1 x2) (View.ld x4 (Rect.unit ![0, 4864] ![1024, 256] inb_S1024x7552_S1024x256_0_4864)) x4 x7 x8 x (q 1) (q 2) h1 (by omega) fun k j => ?_)
    refine View.ld_unit_apply_of _ _ _ _ _ _ fun a => ?_
    fin_cases a
    · simp
    · show _ = _ + _
      simp
      try omega
  · refine (congrFun (tile_qi0 (k0_pay2 x0 x3 x1 x2) (View.ld x4 (Rect.unit ![0, 4608] ![1024, 256] inb_S1024x7552_S1024x256_0_4608)) x7 x8) x).trans (moveI 512 4608 0 (by omega) (by omega) (by omega) (by omega) (k0_pay2 x0 x3 x1 x2) (View.ld x4 (Rect.unit ![0, 4608] ![1024, 256] inb_S1024x7552_S1024x256_0_4608)) x4 x7 x8 x (q 1) (q 2) h1 (by omega) fun k j => ?_)
    refine View.ld_unit_apply_of _ _ _ _ _ _ fun a => ?_
    fin_cases a
    · simp
    · show _ = _ + _
      simp
      try omega

set_option maxRecDepth 16384 in
set_option maxHeartbeats 4000000 in
theorem blk_klo (c : Dev nD) (t : Fin cfg0.N) : (outsAt0 m c t).2.2.2.2.2.2.2.1
    = fun q => (turned 64 8 128 5120 (by omega) (by omega) (row (k0_pay2 (iblk m c 0 t) (iblk m c 3 t) (iblk m c 1 t) (iblk m c 2 t)) (iblk m c 4 t) (q 1)) (line (iblk m c 7 t) (q 1)) (line (iblk m c 8 t) (q 1)) (q 2) : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  refine (congrFun (tile_klo0 (k0_pay2 x0 x3 x1 x2) (View.ld x4 (Rect.unit ![0, 5120] ![1024, 128] inb_S1024x7552_S1024x128_0_5120)) x7 x8) q).trans (moveK 5120 (by omega) (k0_pay2 x0 x3 x1 x2) (View.ld x4 (Rect.unit ![0, 5120] ![1024, 128] inb_S1024x7552_S1024x128_0_5120)) x4 x7 x8 q fun k j => ?_)
  refine View.ld_unit_apply_of _ _ _ _ _ _ fun a => ?_
  fin_cases a
  · simp
  · simp

set_option maxRecDepth 16384 in
set_option maxHeartbeats 4000000 in
theorem blk_khi (c : Dev nD) (t : Fin cfg0.N) : (outsAt0 m c t).2.2.2.2.2.2.2.2.1
    = fun q => (turned 64 8 128 5248 (by omega) (by omega) (row (k0_pay2 (iblk m c 0 t) (iblk m c 3 t) (iblk m c 1 t) (iblk m c 2 t)) (iblk m c 4 t) (q 1)) (line (iblk m c 7 t) (q 1)) (line (iblk m c 8 t) (q 1)) (q 2) : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  refine (congrFun (tile_khi0 (k0_pay2 x0 x3 x1 x2) (View.ld x4 (Rect.unit ![0, 5248] ![1024, 128] inb_S1024x7552_S1024x128_0_5248)) x7 x8) q).trans (moveK 5248 (by omega) (k0_pay2 x0 x3 x1 x2) (View.ld x4 (Rect.unit ![0, 5248] ![1024, 128] inb_S1024x7552_S1024x128_0_5248)) x4 x7 x8 q fun k j => ?_)
  refine View.ld_unit_apply_of _ _ _ _ _ _ fun a => ?_
  fin_cases a
  · simp
  · simp

set_option maxRecDepth 16384 in
set_option maxHeartbeats 4000000 in
theorem blk_wi (c : Dev nD) (t : Fin cfg0.N) : (outsAt0 m c t).2.2.2.2.2.2.2.2.2.1
    = fun q => ((row (k0_pay2 (iblk m c 0 t) (iblk m c 3 t) (iblk m c 1 t) (iblk m c 2 t)) (iblk m c 4 t) (q 1)) ⟨5376 + (q 2 : Fin 128).val, by have h : (q 2 : Fin 128).val < 128 := (q 2 : Fin 128).isLt; omega⟩ * Ideal.ofBits .f32 0x3EB504F3#32 : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  refine (congrFun (tile_wi0 (k0_pay2 x0 x3 x1 x2) (View.ld x4 (Rect.unit ![0, 5376] ![1024, 128] inb_S1024x7552_S1024x128_0_5376))) q).trans (moveW 5376 (by omega) (k0_pay2 x0 x3 x1 x2) (View.ld x4 (Rect.unit ![0, 5376] ![1024, 128] inb_S1024x7552_S1024x128_0_5376)) x4 q fun k j => ?_)
  refine View.ld_unit_apply_of _ _ _ _ _ _ fun a => ?_
  fin_cases a
  · simp
  · simp

set_option maxRecDepth 16384 in
set_option maxHeartbeats 4000000 in
theorem blk_ga (c : Dev nD) (t : Fin cfg0.N) : (outsAt0 m c t).2.2.2.2.2.2.2.2.2.2.1
    = fun q => (Ideal.logistic ((row (k0_pay2 (iblk m c 0 t) (iblk m c 3 t) (iblk m c 1 t) (iblk m c 2 t)) (iblk m c 4 t) (q 1)) ⟨5504 + (q 2 : Fin 1024).val, by have h : (q 2 : Fin 1024).val < 1024 := (q 2 : Fin 1024).isLt; omega⟩) : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  canon_tiles x h
  · refine (congrFun (tile_ga768 (k0_pay2 x0 x3 x1 x2) (View.ld x4 (Rect.unit ![0, 6272] ![1024, 256] inb_S1024x7552_S1024x256_0_6272))) x).trans (moveG 1024 5504 768 (by omega) (by omega) (k0_pay2 x0 x3 x1 x2) (View.ld x4 (Rect.unit ![0, 6272] ![1024, 256] inb_S1024x7552_S1024x256_0_6272)) x4 x (q 1) (q 2) h1 (by omega) fun k j => ?_)
    refine View.ld_unit_apply_of _ _ _ _ _ _ fun a => ?_
    fin_cases a
    · simp
    · show _ = _ + _
      simp
      try omega
  · refine (congrFun (tile_ga512 (k0_pay2 x0 x3 x1 x2) (View.ld x4 (Rect.unit ![0, 6016] ![1024, 256] inb_S1024x7552_S1024x256_0_6016))) x).trans (moveG 1024 5504 512 (by omega) (by omega) (k0_pay2 x0 x3 x1 x2) (View.ld x4 (Rect.unit ![0, 6016] ![1024, 256] inb_S1024x7552_S1024x256_0_6016)) x4 x (q 1) (q 2) h1 (by omega) fun k j => ?_)
    refine View.ld_unit_apply_of _ _ _ _ _ _ fun a => ?_
    fin_cases a
    · simp
    · show _ = _ + _
      simp
      try omega
  · refine (congrFun (tile_ga256 (k0_pay2 x0 x3 x1 x2) (View.ld x4 (Rect.unit ![0, 5760] ![1024, 256] inb_S1024x7552_S1024x256_0_5760))) x).trans (moveG 1024 5504 256 (by omega) (by omega) (k0_pay2 x0 x3 x1 x2) (View.ld x4 (Rect.unit ![0, 5760] ![1024, 256] inb_S1024x7552_S1024x256_0_5760)) x4 x (q 1) (q 2) h1 (by omega) fun k j => ?_)
    refine View.ld_unit_apply_of _ _ _ _ _ _ fun a => ?_
    fin_cases a
    · simp
    · show _ = _ + _
      simp
      try omega
  · refine (congrFun (tile_ga0 (k0_pay2 x0 x3 x1 x2) (View.ld x4 (Rect.unit ![0, 5504] ![1024, 256] inb_S1024x7552_S1024x256_0_5504))) x).trans (moveG 1024 5504 0 (by omega) (by omega) (k0_pay2 x0 x3 x1 x2) (View.ld x4 (Rect.unit ![0, 5504] ![1024, 256] inb_S1024x7552_S1024x256_0_5504)) x4 x (q 1) (q 2) h1 (by omega) fun k j => ?_)
    refine View.ld_unit_apply_of _ _ _ _ _ _ fun a => ?_
    fin_cases a
    · simp
    · show _ = _ + _
      simp
      try omega

set_option maxRecDepth 16384 in
set_option maxHeartbeats 4000000 in
theorem blk_gb (c : Dev nD) (t : Fin cfg0.N) : (outsAt0 m c t).2.2.2.2.2.2.2.2.2.2.2
    = fun q => (Ideal.logistic ((row (k0_pay2 (iblk m c 0 t) (iblk m c 3 t) (iblk m c 1 t) (iblk m c 2 t)) (iblk m c 4 t) (q 1)) ⟨6528 + (q 2 : Fin 1024).val, by have h : (q 2 : Fin 1024).val < 1024 := (q 2 : Fin 1024).isLt; omega⟩) : EReal) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  funext q
  canon_tiles x h
  · refine (congrFun (tile_gb768 (k0_pay2 x0 x3 x1 x2) (View.ld x4 (Rect.unit ![0, 7296] ![1024, 256] inb_S1024x7552_S1024x256_0_7296))) x).trans (moveG 1024 6528 768 (by omega) (by omega) (k0_pay2 x0 x3 x1 x2) (View.ld x4 (Rect.unit ![0, 7296] ![1024, 256] inb_S1024x7552_S1024x256_0_7296)) x4 x (q 1) (q 2) h1 (by omega) fun k j => ?_)
    refine View.ld_unit_apply_of _ _ _ _ _ _ fun a => ?_
    fin_cases a
    · simp
    · show _ = _ + _
      simp
      try omega
  · refine (congrFun (tile_gb512 (k0_pay2 x0 x3 x1 x2) (View.ld x4 (Rect.unit ![0, 7040] ![1024, 256] inb_S1024x7552_S1024x256_0_7040))) x).trans (moveG 1024 6528 512 (by omega) (by omega) (k0_pay2 x0 x3 x1 x2) (View.ld x4 (Rect.unit ![0, 7040] ![1024, 256] inb_S1024x7552_S1024x256_0_7040)) x4 x (q 1) (q 2) h1 (by omega) fun k j => ?_)
    refine View.ld_unit_apply_of _ _ _ _ _ _ fun a => ?_
    fin_cases a
    · simp
    · show _ = _ + _
      simp
      try omega
  · refine (congrFun (tile_gb256 (k0_pay2 x0 x3 x1 x2) (View.ld x4 (Rect.unit ![0, 6784] ![1024, 256] inb_S1024x7552_S1024x256_0_6784))) x).trans (moveG 1024 6528 256 (by omega) (by omega) (k0_pay2 x0 x3 x1 x2) (View.ld x4 (Rect.unit ![0, 6784] ![1024, 256] inb_S1024x7552_S1024x256_0_6784)) x4 x (q 1) (q 2) h1 (by omega) fun k j => ?_)
    refine View.ld_unit_apply_of _ _ _ _ _ _ fun a => ?_
    fin_cases a
    · simp
    · show _ = _ + _
      simp
      try omega
  · refine (congrFun (tile_gb0 (k0_pay2 x0 x3 x1 x2) (View.ld x4 (Rect.unit ![0, 6528] ![1024, 256] inb_S1024x7552_S1024x256_0_6528))) x).trans (moveG 1024 6528 0 (by omega) (by omega) (k0_pay2 x0 x3 x1 x2) (View.ld x4 (Rect.unit ![0, 6528] ![1024, 256] inb_S1024x7552_S1024x256_0_6528)) x4 x (q 1) (q 2) h1 (by omega) fun k j => ?_)
    refine View.ld_unit_apply_of _ _ _ _ _ _ fun a => ?_
    fin_cases a
    · simp
    · show _ = _ + _
      simp
      try omega

end Cert.Proof.In
end
-- ==== Proof.In.Operands.lean ====
/- The input projection: the values the kernel's region reads. -/
module

public import proofs.«01_k».proof.Proof.Gen.KernelInIdeal.Value
public import proofs.«01_k».proof.Proof.In.Match
public import proofs.«01_k».proof.Proof.In.Block

@[expose] public section

noncomputable section

namespace Cert.Proof.In

open Idealize.ShloMosaic Idealize.ShloMosaic.TcCoe Idealize.SL.Sem
open Cert.KernelInIdeal Cert.KernelInIdeal.Gen
open Cert.Proof.Ffn (normed invRms)

/-- The arranged weights, a term over the given ones. -/
def arranged (W : FVec Ideal S1024x7240 .f32) : FVec Ideal S1024x7552 .bf16 :=
  concatenate S1024x7552 1 [⟨S1024x5120, (extractStridedSlice S1024x5120 ![0, 0] (truncf .bf16 W bitsLt_bf16_f32) slices_S1024x7240_S1024x5120_0_0)⟩, ⟨S1024x64, (extractStridedSlice S1024x64 ![0, 5120] (truncf .bf16 W bitsLt_bf16_f32) slices_S1024x7240_S1024x64_0_5120)⟩, ⟨S1024x64, (broadcastInDim S1024x64 ![] bcast_S_S1024x64 (constant S_ .bf16 0x0000#16))⟩, ⟨S1024x64, (broadcastInDim S1024x64 ![] bcast_S_S1024x64 (constant S_ .bf16 0x0000#16))⟩, ⟨S1024x64, (extractStridedSlice S1024x64 ![0, 5120] (truncf .bf16 W bitsLt_bf16_f32) slices_S1024x7240_S1024x64_0_5120)⟩, ⟨S1024x8, (extractStridedSlice S1024x8 ![0, 5184] (truncf .bf16 W bitsLt_bf16_f32) slices_S1024x7240_S1024x8_0_5184)⟩, ⟨S1024x120, (broadcastInDim S1024x120 ![] bcast_S_S1024x120 (constant S_ .bf16 0x0000#16))⟩, ⟨S1024x2048, (extractStridedSlice S1024x2048 ![0, 5192] (truncf .bf16 W bitsLt_bf16_f32) slices_S1024x7240_S1024x2048_0_5192)⟩] concatenates_S1024x5120_S1024x64_S1024x64_S1024x64_S1024x64_S1024x8_S1024x120_S1024x2048_S1024x7552_d1

theorem arranged_form (W : FVec Ideal S1024x7240 .f32) (k : Fin 1024) (j : Fin 7552) :
    (arranged W (ix2 k j) : EReal) =
      if h1 : j.val < 5120 then W (ix2 k ⟨j.val, by omega⟩)
      else if h2 : j.val - 5120 < 64 then W (ix2 k ⟨5120 + (j.val - 5120), by omega⟩)
      else if h3 : j.val - 5120 - 64 < 64 then 0
      else if h4 : j.val - 5120 - 64 - 64 < 64 then 0
      else if h5 : j.val - 5120 - 64 - 64 - 64 < 64 then W (ix2 k ⟨5120 + (j.val - 5120 - 64 - 64 - 64), by omega⟩)
      else if h6 : j.val - 5120 - 64 - 64 - 64 - 64 < 8 then W (ix2 k ⟨5184 + (j.val - 5120 - 64 - 64 - 64 - 64), by omega⟩)
      else if h7 : j.val - 5120 - 64 - 64 - 64 - 64 - 8 < 120 then 0
      else W (ix2 k ⟨5192 + (j.val - 5120 - 64 - 64 - 64 - 64 - 8 - 120), by omega⟩) := by
  unfold arranged
  pointwise

theorem arranged_at (W : FVec Ideal S1024x7240 .f32) (k : Fin 1024) (j : Fin 7552) :
    (arranged W (ix2 k j) : EReal) = pick (up fun i => (W (ix2 k i) : EReal)) j.val := by
  rw [arranged_form]
  unfold pick
  have hj := j.isLt
  by_cases h1 : j.val < 5120
  · rw [dif_pos h1, if_pos (by omega)]
    exact up_eq (fun i => (W (ix2 k i) : EReal)) _ _ rfl
  rw [dif_neg h1]
  by_cases h2 : j.val - 5120 < 64
  · rw [dif_pos h2, if_pos (by omega)]
    exact up_eq (fun i => (W (ix2 k i) : EReal)) _ _ (by show 5120 + (j.val - 5120) = j.val; omega)
  rw [dif_neg h2, if_neg (by omega)]
  by_cases h3 : j.val - 5120 - 64 < 64
  · rw [dif_pos h3, if_pos (by omega)]
  rw [dif_neg h3]
  by_cases h4 : j.val - 5120 - 64 - 64 < 64
  · rw [dif_pos h4, if_pos (by omega)]
  rw [dif_neg h4, if_neg (by omega)]
  by_cases h5 : j.val - 5120 - 64 - 64 - 64 < 64
  · rw [dif_pos h5, if_pos (by omega)]
    exact up_eq (fun i => (W (ix2 k i) : EReal)) _ _ (by show 5120 + (j.val - 5120 - 64 - 64 - 64) = j.val - 192; omega)
  rw [dif_neg h5]
  by_cases h6 : j.val - 5120 - 64 - 64 - 64 - 64 < 8
  · rw [dif_pos h6, if_pos (by omega)]
    exact up_eq (fun i => (W (ix2 k i) : EReal)) _ _ (by show 5184 + (j.val - 5120 - 64 - 64 - 64 - 64) = j.val - 192; omega)
  rw [dif_neg h6, if_neg (by omega)]
  by_cases h7 : j.val - 5120 - 64 - 64 - 64 - 64 - 8 < 120
  · rw [dif_pos h7, if_pos (by omega)]
  rw [dif_neg h7, if_neg (by omega)]
  exact up_eq (fun i => (W (ix2 k i) : EReal)) _ _ (by show 5192 + (j.val - 5120 - 64 - 64 - 64 - 64 - 8 - 120) = j.val - 312; omega)

def tab_cm (c : FVec Ideal S2x8192x16 .f32) : FVec Ideal S2x8192x128 .f32 :=
  concatenate S2x8192x128 2 [⟨S2x8192x16, c⟩, ⟨S2x8192x16, c⟩, ⟨S2x8192x48, (broadcastInDim S2x8192x48 ![] bcast_S_S2x8192x48 (constant S_ .f32 0x3F800000#32))⟩, ⟨S2x8192x48, (broadcastInDim S2x8192x48 ![] bcast_S_S2x8192x48 (constant S_ .f32 0x3F800000#32))⟩] concatenates_S2x8192x16_S2x8192x16_S2x8192x48_S2x8192x48_S2x8192x128_d2

theorem tab_cm_at (c : FVec Ideal S2x8192x16 .f32) (b : Fin 2) (s : Fin 8192) (l : Fin 128) :
    (tab_cm c (ix3 b s l) : EReal) = ones 128 16 (up fun i => (c (ix3 b s i) : EReal)) l.val := by
  unfold tab_cm
  pointwise
  unfold ones
  have hl : l.val % 128 = l.val := by omega
  rw [hl]
  by_cases h1 : l.val < 16
  · rw [dif_pos h1, if_pos h1]
    exact up_eq (fun i => (c (ix3 b s i) : EReal)) _ _ rfl
  · rw [dif_neg h1, if_neg h1]
    by_cases h2 : l.val - 16 < 16
    · rw [dif_pos h2, if_pos h2]
      exact up_eq (fun i => (c (ix3 b s i) : EReal)) _ _ rfl
    · rw [dif_neg h2, if_neg h2, dite_eq_ite, ite_self]

def tab_sm (c : FVec Ideal S2x8192x16 .f32) : FVec Ideal S2x8192x128 .f32 :=
  concatenate S2x8192x128 2 [⟨S2x8192x16, (Host.negf c)⟩, ⟨S2x8192x16, c⟩, ⟨S2x8192x48, (broadcastInDim S2x8192x48 ![] bcast_S_S2x8192x48 (constant S_ .f32 0x00000000#32))⟩, ⟨S2x8192x48, (broadcastInDim S2x8192x48 ![] bcast_S_S2x8192x48 (constant S_ .f32 0x00000000#32))⟩] concatenates_S2x8192x16_S2x8192x16_S2x8192x48_S2x8192x48_S2x8192x128_d2

theorem tab_sm_at (c : FVec Ideal S2x8192x16 .f32) (b : Fin 2) (s : Fin 8192) (l : Fin 128) :
    (tab_sm c (ix3 b s l) : EReal) = signs 128 16 (up fun i => (c (ix3 b s i) : EReal)) l.val := by
  unfold tab_sm
  pointwise
  unfold signs
  have hl : l.val % 128 = l.val := by omega
  rw [hl]
  by_cases h1 : l.val < 16
  · rw [dif_pos h1, if_pos h1]
    exact congrArg (fun y : EReal => -y) (up_eq (fun i => (c (ix3 b s i) : EReal)) _ _ rfl)
  · rw [dif_neg h1, if_neg h1]
    by_cases h2 : l.val - 16 < 16
    · rw [dif_pos h2, if_pos h2]
      exact up_eq (fun i => (c (ix3 b s i) : EReal)) _ _ rfl
    · rw [dif_neg h2, if_neg h2, dite_eq_ite, ite_self]

def half_ci (c : FVec Ideal S2x8192x8 .f32) : FVec Ideal S2x8192x64 .f32 :=
  concatenate S2x8192x64 2 [⟨S2x8192x8, c⟩, ⟨S2x8192x8, c⟩, ⟨S2x8192x48, (broadcastInDim S2x8192x48 ![] bcast_S_S2x8192x48 (constant S_ .f32 0x3F800000#32))⟩] concatenates_S2x8192x8_S2x8192x8_S2x8192x48_S2x8192x64_d2

theorem half_ci_at (c : FVec Ideal S2x8192x8 .f32) (b : Fin 2) (s : Fin 8192) (l : Fin 64) :
    (half_ci c (ix3 b s l) : EReal) = ones 64 8 (up fun i => (c (ix3 b s i) : EReal)) l.val := by
  unfold half_ci
  pointwise
  unfold ones
  have hl : l.val % 64 = l.val := by omega
  rw [hl]
  by_cases h1 : l.val < 8
  · rw [dif_pos h1, if_pos h1]
    exact up_eq (fun i => (c (ix3 b s i) : EReal)) _ _ rfl
  · rw [dif_neg h1, if_neg h1]
    by_cases h2 : l.val - 8 < 8
    · rw [dif_pos h2, if_pos h2]
      exact up_eq (fun i => (c (ix3 b s i) : EReal)) _ _ rfl
    · rw [dif_neg h2, if_neg h2]

def tab_ci (c : FVec Ideal S2x8192x8 .f32) : FVec Ideal S2x8192x128 .f32 :=
  concatenate S2x8192x128 2 [⟨S2x8192x64, half_ci c⟩, ⟨S2x8192x64, half_ci c⟩] concatenates_S2x8192x64_S2x8192x64_S2x8192x128_d2

theorem tab_ci_at (c : FVec Ideal S2x8192x8 .f32) (b : Fin 2) (s : Fin 8192) (l : Fin 128) :
    (tab_ci c (ix3 b s l) : EReal) = ones 64 8 (up fun i => (c (ix3 b s i) : EReal)) l.val := by
  unfold tab_ci
  generalize hA : half_ci c = A
  pointwise
  by_cases h : l.val < 64
  · rw [dif_pos h, ← hA, half_ci_at]
  · rw [dif_neg h, ← hA, half_ci_at]
    have e : (l.val - 64) % 64 = l.val % 64 := by omega
    unfold ones
    dsimp only
    rw [e]

def half_si (c : FVec Ideal S2x8192x8 .f32) : FVec Ideal S2x8192x64 .f32 :=
  concatenate S2x8192x64 2 [⟨S2x8192x8, (Host.negf c)⟩, ⟨S2x8192x8, c⟩, ⟨S2x8192x48, (broadcastInDim S2x8192x48 ![] bcast_S_S2x8192x48 (constant S_ .f32 0x00000000#32))⟩] concatenates_S2x8192x8_S2x8192x8_S2x8192x48_S2x8192x64_d2

theorem half_si_at (c : FVec Ideal S2x8192x8 .f32) (b : Fin 2) (s : Fin 8192) (l : Fin 64) :
    (half_si c (ix3 b s l) : EReal) = signs 64 8 (up fun i => (c (ix3 b s i) : EReal)) l.val := by
  unfold half_si
  pointwise
  unfold signs
  have hl : l.val % 64 = l.val := by omega
  rw [hl]
  by_cases h1 : l.val < 8
  · rw [dif_pos h1, if_pos h1]
    exact congrArg (fun y : EReal => -y) (up_eq (fun i => (c (ix3 b s i) : EReal)) _ _ rfl)
  · rw [dif_neg h1, if_neg h1]
    by_cases h2 : l.val - 8 < 8
    · rw [dif_pos h2, if_pos h2]
      exact up_eq (fun i => (c (ix3 b s i) : EReal)) _ _ rfl
    · rw [dif_neg h2, if_neg h2]

def tab_si (c : FVec Ideal S2x8192x8 .f32) : FVec Ideal S2x8192x128 .f32 :=
  concatenate S2x8192x128 2 [⟨S2x8192x64, half_si c⟩, ⟨S2x8192x64, half_si c⟩] concatenates_S2x8192x64_S2x8192x64_S2x8192x128_d2

theorem tab_si_at (c : FVec Ideal S2x8192x8 .f32) (b : Fin 2) (s : Fin 8192) (l : Fin 128) :
    (tab_si c (ix3 b s l) : EReal) = signs 64 8 (up fun i => (c (ix3 b s i) : EReal)) l.val := by
  unfold tab_si
  generalize hA : half_si c = A
  pointwise
  by_cases h : l.val < 64
  · rw [dif_pos h, ← hA, half_si_at]
  · rw [dif_neg h, ← hA, half_si_at]
    have e : (l.val - 64) % 64 = l.val % 64 := by omega
    unfold signs
    dsimp only
    rw [e]

end Cert.Proof.In
end
-- ==== Proof.In.Parts.lean ====
/- The input projection: the values the kernel's region reads, each block at one index. -/
module

public import proofs.«01_k».proof.Proof.Gen.KernelInIdeal.Value
public import proofs.«01_k».proof.Proof.In.Operands

@[expose] public section

noncomputable section

namespace Cert.Proof.In

open Idealize.ShloMosaic Idealize.ShloMosaic.TcCoe Idealize.SL.Sem
open Cert.KernelInIdeal Cert.KernelInIdeal.Gen
open Cert.Proof.Ffn (normed invRms)

variable (m : (ℓ : Loc nD τ sig) → Buf (Elt Ideal) ℓ)

/-- The program's arguments, by name. -/
abbrev X (c : Dev nD) : FVec Ideal S2x8192x1024 .f32 := m ((c : Thread nD τ).loc main_arg0)
abbrev MOD (c : Dev nD) : FVec Ideal S2x6144 .f32 := m ((c : Thread nD τ).loc main_arg1)
abbrev GAIN (c : Dev nD) : FVec Ideal S1024 .f32 := m ((c : Thread nD τ).loc main_arg2)
abbrev WT (c : Dev nD) : FVec Ideal S1024x7240 .f32 := m ((c : Thread nD τ).loc main_arg3)
abbrev POS (c : Dev nD) : IVec S2x8192 32 := m ((c : Thread nD τ).loc main_arg4)

/-- The cosines and sines of the rotary angles, of the attention heads and of the index heads. -/
abbrev CM (c : Dev nD) : FVec Ideal S2x8192x16 .f32 := Host.cos (angM (POS m c))
abbrev SM (c : Dev nD) : FVec Ideal S2x8192x16 .f32 := Host.sin (angM (POS m c))
abbrev CI (c : Dev nD) : FVec Ideal S2x8192x8 .f32 := Host.cos (angI (POS m c))
abbrev SI (c : Dev nD) : FVec Ideal S2x8192x8 .f32 := Host.sin (angI (POS m c))

/-- The modulation's scale row the region reads. -/
theorem V_scale (c : Dev nD) (b : Fin 2) (d : Fin 1024) :
    (V m c main_v21 : FVec Ideal S2x1x1024 .f32) (ix3 b 0 d) = MOD m c (ix2 b ⟨1024 + d.val, by omega⟩) := by
  have h : (V m c main_v21 : FVec Ideal S2x1x1024 .f32)
      = shapeCast S2x1x1024 (extractStridedSlice S2x1024 ![0, 1024] (MOD m c) slices_S2x6144_S2x1024_0_1024) shapeCasts_S2x1024_S2x1x1024 := by
    unfold V
    after_results_simp
    try rfl
  rw [h]
  pointwise

/-- The modulation's shift row the region reads. -/
theorem V_shift (c : Dev nD) (b : Fin 2) (d : Fin 1024) :
    (V m c main_v19 : FVec Ideal S2x1x1024 .f32) (ix3 b 0 d) = MOD m c (ix2 b ⟨0 + d.val, by omega⟩) := by
  have h : (V m c main_v19 : FVec Ideal S2x1x1024 .f32)
      = shapeCast S2x1x1024 (extractStridedSlice S2x1024 ![0, 0] (MOD m c) slices_S2x6144_S2x1024_0_0) shapeCasts_S2x1024_S2x1x1024 := by
    unfold V
    after_results_simp
    try rfl
  rw [h]
  simp only [zero_add]
  pointwise

/-- The gain the region reads. -/
theorem V_gain (c : Dev nD) (d : Fin 1024) : (V m c main_v40 : FVec Ideal S1x1024 .f32) (ix2 0 d) = GAIN m c (ix1 d) := by
  have h : (V m c main_v40 : FVec Ideal S1x1024 .f32) = shapeCast S1x1024 (GAIN m c) shapeCasts_S1024_S1x1024 := by
    unfold V
    after_results_simp
    try rfl
  rw [h]
  pointwise

/-- The two programs name the same exponents. -/
theorem lit0_eq : Cert.KernelInIdeal.lit0 = Cert.InProjIdeal.lit0 := funext (by decide)
theorem lit1_eq : Cert.KernelInIdeal.lit1 = Cert.InProjIdeal.lit1 := funext (by decide)

/-- The weights the region reads. -/
theorem V_wt (c : Dev nD) : (V m c main_v39 : FVec Ideal S1024x7552 .bf16) = arranged (WT m c) := by
  unfold V
  after_results_simp
  unfold arranged
  try rfl

/-- The rotary tables the region reads, and the arrays they are made of. -/
theorem V_cosm (c : Dev nD) : (V m c main_v14 : FVec Ideal S2x8192x16 .f32) = CM m c := by
  unfold V
  after_results_simp
  rw [lit0_eq]
  unfold CM angM
  rfl
theorem V_sinm (c : Dev nD) : (V m c main_v15 : FVec Ideal S2x8192x16 .f32) = SM m c := by
  unfold V
  after_results_simp
  rw [lit0_eq]
  unfold SM angM
  rfl
theorem V_cosi (c : Dev nD) : (V m c main_v16 : FVec Ideal S2x8192x8 .f32) = CI m c := by
  unfold V
  after_results_simp
  rw [lit1_eq]
  unfold CI angI
  rfl
theorem V_sini (c : Dev nD) : (V m c main_v17 : FVec Ideal S2x8192x8 .f32) = SI m c := by
  unfold V
  after_results_simp
  rw [lit1_eq]
  unfold SI angI
  rfl
theorem V_one (c : Dev nD) : (V m c main_v22 : FVec Ideal S2x8192x48 .f32) = (broadcastInDim S2x8192x48 ![] bcast_S_S2x8192x48 (constant S_ .f32 0x3F800000#32) : FVec Ideal S2x8192x48 .f32) := by
  unfold V
  after_results_simp
  try rfl
theorem V_zero (c : Dev nD) : (V m c main_v23 : FVec Ideal S2x8192x48 .f32) = (broadcastInDim S2x8192x48 ![] bcast_S_S2x8192x48 (constant S_ .f32 0x00000000#32) : FVec Ideal S2x8192x48 .f32) := by
  unfold V
  after_results_simp
  try rfl
theorem V_negi (c : Dev nD) : (V m c main_v25 : FVec Ideal S2x8192x8 .f32) = (Host.negf (V m c main_v17 : FVec Ideal S2x8192x8 .f32) : FVec Ideal S2x8192x8 .f32) := by
  unfold V
  after_results_simp
  try rfl
theorem V_negm (c : Dev nD) : (V m c main_v28 : FVec Ideal S2x8192x16 .f32) = (Host.negf (V m c main_v15 : FVec Ideal S2x8192x16 .f32) : FVec Ideal S2x8192x16 .f32) := by
  unfold V
  after_results_simp
  try rfl
theorem V_hci (c : Dev nD) : (V m c main_v24 : FVec Ideal S2x8192x64 .f32) = concatenate S2x8192x64 2 [⟨S2x8192x8, V m c main_v16⟩, ⟨S2x8192x8, V m c main_v16⟩, ⟨S2x8192x48, V m c main_v22⟩] concatenates_S2x8192x8_S2x8192x8_S2x8192x48_S2x8192x64_d2 := by
  unfold V
  after_results_simp
  rfl
theorem V_hsi (c : Dev nD) : (V m c main_v26 : FVec Ideal S2x8192x64 .f32) = concatenate S2x8192x64 2 [⟨S2x8192x8, V m c main_v25⟩, ⟨S2x8192x8, V m c main_v17⟩, ⟨S2x8192x48, V m c main_v23⟩] concatenates_S2x8192x8_S2x8192x8_S2x8192x48_S2x8192x64_d2 := by
  unfold V
  after_results_simp
  rfl
theorem V_cm0 (c : Dev nD) : (V m c main_v27 : FVec Ideal S2x8192x128 .f32) = concatenate S2x8192x128 2 [⟨S2x8192x16, V m c main_v14⟩, ⟨S2x8192x16, V m c main_v14⟩, ⟨S2x8192x48, V m c main_v22⟩, ⟨S2x8192x48, V m c main_v22⟩] concatenates_S2x8192x16_S2x8192x16_S2x8192x48_S2x8192x48_S2x8192x128_d2 := by
  unfold V
  after_results_simp
  rfl
theorem V_sm0 (c : Dev nD) : (V m c main_v29 : FVec Ideal S2x8192x128 .f32) = concatenate S2x8192x128 2 [⟨S2x8192x16, V m c main_v28⟩, ⟨S2x8192x16, V m c main_v15⟩, ⟨S2x8192x48, V m c main_v23⟩, ⟨S2x8192x48, V m c main_v23⟩] concatenates_S2x8192x16_S2x8192x16_S2x8192x48_S2x8192x48_S2x8192x128_d2 := by
  unfold V
  after_results_simp
  rfl
theorem V_ci0 (c : Dev nD) : (V m c main_v30 : FVec Ideal S2x8192x128 .f32) = concatenate S2x8192x128 2 [⟨S2x8192x64, V m c main_v24⟩, ⟨S2x8192x64, V m c main_v24⟩] concatenates_S2x8192x64_S2x8192x64_S2x8192x128_d2 := by
  unfold V
  after_results_simp
  rfl
theorem V_si0 (c : Dev nD) : (V m c main_v31 : FVec Ideal S2x8192x128 .f32) = concatenate S2x8192x128 2 [⟨S2x8192x64, V m c main_v26⟩, ⟨S2x8192x64, V m c main_v26⟩] concatenates_S2x8192x64_S2x8192x64_S2x8192x128_d2 := by
  unfold V
  after_results_simp
  rfl
theorem V_cm (c : Dev nD) : (V m c main_v27 : FVec Ideal S2x8192x128 .f32) = tab_cm (CM m c) := by
  rw [V_cm0, V_cosm, V_one]
  rfl
theorem V_sm (c : Dev nD) : (V m c main_v29 : FVec Ideal S2x8192x128 .f32) = tab_sm (SM m c) := by
  rw [V_sm0, V_negm, V_sinm, V_zero]
  rfl
theorem V_ci (c : Dev nD) : (V m c main_v30 : FVec Ideal S2x8192x128 .f32) = tab_ci (CI m c) := by
  rw [V_ci0, V_hci, V_cosi, V_one]
  rfl
theorem V_si (c : Dev nD) : (V m c main_v31 : FVec Ideal S2x8192x128 .f32) = tab_si (SI m c) := by
  rw [V_si0, V_hsi, V_negi, V_sini, V_zero]
  rfl

theorem ix_0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem ix_1 : ∀ t : Fin cfg0.N, win0_1.index t = ![(grid0.coords t 0).val, 0, 0] :=
  (by decide +kernel : ∀ t : Fin grid0.N, win0_1.index t = ![(grid0.coords t 0).val, 0, 0])
theorem ix_2 : ∀ t : Fin cfg0.N, win0_2.index t = ![(grid0.coords t 0).val, 0, 0] :=
  (by decide +kernel : ∀ t : Fin grid0.N, win0_2.index t = ![(grid0.coords t 0).val, 0, 0])
theorem ix_3 : ∀ t : Fin cfg0.N, win0_3.index t = ![0, 0] :=
  (by decide +kernel : ∀ t : Fin grid0.N, win0_3.index t = ![0, 0])
theorem ix_4 : ∀ t : Fin cfg0.N, win0_4.index t = ![0, 0] :=
  (by decide +kernel : ∀ t : Fin grid0.N, win0_4.index t = ![0, 0])
theorem ix_5 : ∀ t : Fin cfg0.N, win0_5.index t = ![(grid0.coords t 0).val, (grid0.coords t 1).val, 0] :=
  (by decide +kernel : ∀ t : Fin grid0.N, win0_5.index t = ![(grid0.coords t 0).val, (grid0.coords t 1).val, 0])
theorem ix_6 : ∀ t : Fin cfg0.N, win0_6.index t = ![(grid0.coords t 0).val, (grid0.coords t 1).val, 0] :=
  (by decide +kernel : ∀ t : Fin grid0.N, win0_6.index t = ![(grid0.coords t 0).val, (grid0.coords t 1).val, 0])
theorem ix_7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])
theorem ix_8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])
theorem ix_9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])
theorem ix_10 : ∀ t : Fin cfg0.N, win0_10.index t = ![(grid0.coords t 0).val, (grid0.coords t 1).val, 0] :=
  (by decide +kernel : ∀ t : Fin grid0.N, win0_10.index t = ![(grid0.coords t 0).val, (grid0.coords t 1).val, 0])
theorem ix_11 : ∀ t : Fin cfg0.N, win0_11.index t = ![(grid0.coords t 0).val, (grid0.coords t 1).val, 0] :=
  (by decide +kernel : ∀ t : Fin grid0.N, win0_11.index t = ![(grid0.coords t 0).val, (grid0.coords t 1).val, 0])
theorem ix_12 : ∀ t : Fin cfg0.N, win0_12.index t = ![(grid0.coords t 0).val, (grid0.coords t 1).val, 0] :=
  (by decide +kernel : ∀ t : Fin grid0.N, win0_12.index t = ![(grid0.coords t 0).val, (grid0.coords t 1).val, 0])
theorem ix_13 : ∀ t : Fin cfg0.N, win0_13.index t = ![(grid0.coords t 0).val, (grid0.coords t 1).val, 0] :=
  (by decide +kernel : ∀ t : Fin grid0.N, win0_13.index t = ![(grid0.coords t 0).val, (grid0.coords t 1).val, 0])
theorem ix_14 : ∀ t : Fin cfg0.N, win0_14.index t = ![(grid0.coords t 0).val, (grid0.coords t 1).val, 0] :=
  (by decide +kernel : ∀ t : Fin grid0.N, win0_14.index t = ![(grid0.coords t 0).val, (grid0.coords t 1).val, 0])
theorem ix_15 : ∀ t : Fin cfg0.N, win0_15.index t = ![(grid0.coords t 0).val, (grid0.coords t 1).val, 0] :=
  (by decide +kernel : ∀ t : Fin grid0.N, win0_15.index t = ![(grid0.coords t 0).val, (grid0.coords t 1).val, 0])
theorem ix_16 : ∀ t : Fin cfg0.N, win0_16.index t = ![(grid0.coords t 0).val, (grid0.coords t 1).val, 0] :=
  (by decide +kernel : ∀ t : Fin grid0.N, win0_16.index t = ![(grid0.coords t 0).val, (grid0.coords t 1).val, 0])
theorem ix_17 : ∀ t : Fin cfg0.N, win0_17.index t = ![(grid0.coords t 0).val, (grid0.coords t 1).val, 0] :=
  (by decide +kernel : ∀ t : Fin grid0.N, win0_17.index t = ![(grid0.coords t 0).val, (grid0.coords t 1).val, 0])
theorem ix_18 : ∀ t : Fin cfg0.N, win0_18.index t = ![(grid0.coords t 0).val, (grid0.coords t 1).val, 0] :=
  (by decide +kernel : ∀ t : Fin grid0.N, win0_18.index t = ![(grid0.coords t 0).val, (grid0.coords t 1).val, 0])
theorem ix_19 : ∀ t : Fin cfg0.N, win0_19.index t = ![(grid0.coords t 0).val, (grid0.coords t 1).val, 0] :=
  (by decide +kernel : ∀ t : Fin grid0.N, win0_19.index t = ![(grid0.coords t 0).val, (grid0.coords t 1).val, 0])
theorem ix_20 : ∀ t : Fin cfg0.N, win0_20.index t = ![(grid0.coords t 0).val, (grid0.coords t 1).val, 0] :=
  (by decide +kernel : ∀ t : Fin grid0.N, win0_20.index t = ![(grid0.coords t 0).val, (grid0.coords t 1).val, 0])

/-- The batch and the row of the arrays that a row of a grid point's blocks is. -/
def bat (t : Fin cfg0.N) : Fin 2 := ⟨(grid0.coords t 0).val, (grid0.coords t 0).isLt⟩
def seq (t : Fin cfg0.N) (r : Fin 256) : Fin 8192 := ⟨(grid0.coords t 1).val * 256 + r.val, by
  have hs : (grid0.coords t 1).val < 32 := (grid0.coords t 1).isLt
  omega⟩

theorem norm_at (x0 : FVec Ideal S1x256x1024 .f32) (x3 : FVec Ideal S1x1024 .f32) (x1 x2 : FVec Ideal S1x1x1024 .f32) (r : Fin 256) (k : Fin 1024) :
    (k0_pay2 (F := Ideal) x0 x3 x1 x2 (ix2 r k) : EReal)
      = normed (fun j => x0 (ix3 0 r j)) (fun j => x3 (ix2 0 j)) (fun j => x1 (ix3 0 0 j)) (fun j => x2 (ix3 0 0 j)) k := by
  unfold k0_pay2
  pointwise
  rfl

theorem normed_congr {x x' g g' a a' b b' : Fin 1024 → EReal} (hx : ∀ k, x k = x' k) (hg : ∀ k, g k = g' k) (ha : ∀ k, a k = a' k) (hb : ∀ k, b k = b' k) (k : Fin 1024) :
    normed x g a b k = normed x' g' a' b' k := by
  obtain rfl : x = x' := funext hx
  obtain rfl : g = g' := funext hg
  obtain rfl : a = a' := funext ha
  obtain rfl : b = b' := funext hb
  rfl

set_option maxHeartbeats 2000000 in
/-- The normalised row a grid point works on. -/
theorem nrm_at (c : Dev nD) (t : Fin cfg0.N) (r : Fin 256) (k : Fin 1024) :
    (k0_pay2 (F := Ideal) (iblk m c 0 t) (iblk m c 3 t) (iblk m c 1 t) (iblk m c 2 t) (ix2 r k) : EReal)
      = nrm (X m c) (MOD m c) (GAIN m c) (bat t) (seq t r) k := by
  refine (norm_at _ _ _ _ r k).trans ?_
  unfold nrm
  have e0 : ∀ k : Fin 1024, ((win0_0.blk t).view.emb (ix3 0 r k) : S2x8192x1024.Idx) = ix3 (bat t) (seq t r) k := fun k => by
    unfold bat seq
    blk_ext [ix_0]
  have e1 : ∀ k : Fin 1024, ((win0_1.blk t).view.emb (ix3 0 0 k) : S2x1x1024.Idx) = ix3 (bat t) 0 k := fun k => by
    unfold bat
    blk_ext [ix_1]
  have e2 : ∀ k : Fin 1024, ((win0_2.blk t).view.emb (ix3 0 0 k) : S2x1x1024.Idx) = ix3 (bat t) 0 k := fun k => by
    unfold bat
    blk_ext [ix_2]
  have e3 : ∀ k : Fin 1024, ((win0_3.blk t).view.emb (ix2 0 k) : S1x1024.Idx) = ix2 0 k := fun k => by
    blk_ext [ix_3]
  refine normed_congr (fun k => ?_) (fun k => ?_) (fun k => ?_) (fun k => ?_) k
  · exact (congrArg (V m c main_arg0) (e0 k)).trans (congrFun (V_main_arg0 m c) _)
  · exact (congrArg (V m c main_v40) (e3 k)).trans (V_gain m c k)
  · exact (congrArg (V m c main_v21) (e1 k)).trans (V_scale m c _ k)
  · exact (congrArg (V m c main_v19) (e2 k)).trans (V_shift m c _ k)

theorem wt_at (c : Dev nD) (t : Fin cfg0.N) (k : Fin 1024) (j : Fin 7552) :
    ((iblk m c 4 t : FVec Ideal S1024x7552 .bf16) (ix2 k j) : EReal) = pick (up fun i => (WT m c (ix2 k i) : EReal)) j.val := by
  have e4 : ((win0_4.blk t).view.emb (ix2 k j) : S1024x7552.Idx) = ix2 k j := by
    blk_ext [ix_4]
  exact (congrArg (V m c main_v39) e4).trans ((congrFun (V_wt m c) _).trans (arranged_at _ k j))

/-- The projected row of the arrays. -/
def proj (c : Dev nD) (b : Fin 2) (s : Fin 8192) : ℕ → EReal :=
  up fun j : Fin 7240 => (hostProj (X m c) (MOD m c) (GAIN m c) (WT m c) (ix3 b s j) : EReal)

/-- A row of a grid point's projections, in the arranged columns. -/
theorem rows_at (c : Dev nD) (t : Fin cfg0.N) (r : Fin 256) (j : Fin 7552) :
    row (k0_pay2 (F := Ideal) (iblk m c 0 t) (iblk m c 3 t) (iblk m c 1 t) (iblk m c 2 t)) (iblk m c 4 t) r j
      = pick (proj m c (bat t) (seq t r)) j.val := by
  unfold row dots proj
  refine (Finset.sum_congr rfl fun k _ => congrArg₂ (fun a b : EReal => a * b) (nrm_at m c t r k) (wt_at m c t k j)).trans ?_
  refine (sum_pick _ (fun (k : Fin 1024) (i : Fin 7240) => (WT m c (ix2 k i) : EReal)) j.val).trans ?_
  exact congrArg (fun f => pick (up f) j.val) (funext fun i => (proj_at (X m c) (MOD m c) (GAIN m c) (WT m c) (bat t) (seq t r) i).symm)

theorem line_cm (c : Dev nD) (t : Fin cfg0.N) (r : Fin 256) (l : Fin 128) :
    line (iblk m c 5 t) r l = ones 128 16 (up fun i => (CM m c (ix3 (bat t) (seq t r) i) : EReal)) l.val := by
  have e : ((win0_5.blk t).view.emb (ix3 0 r l) : S2x8192x128.Idx) = ix3 (bat t) (seq t r) l := by
    unfold bat seq
    blk_ext [ix_5]
  exact (congrArg (V m c main_v27) e).trans ((congrFun (V_cm m c) _).trans (tab_cm_at _ _ _ l))

theorem line_sm (c : Dev nD) (t : Fin cfg0.N) (r : Fin 256) (l : Fin 128) :
    line (iblk m c 6 t) r l = signs 128 16 (up fun i => (SM m c (ix3 (bat t) (seq t r) i) : EReal)) l.val := by
  have e : ((win0_6.blk t).view.emb (ix3 0 r l) : S2x8192x128.Idx) = ix3 (bat t) (seq t r) l := by
    unfold bat seq
    blk_ext [ix_6]
  exact (congrArg (V m c main_v29) e).trans ((congrFun (V_sm m c) _).trans (tab_sm_at _ _ _ l))

theorem line_ci (c : Dev nD) (t : Fin cfg0.N) (r : Fin 256) (l : Fin 128) :
    line (iblk m c 7 t) r l = ones 64 8 (up fun i => (CI m c (ix3 (bat t) (seq t r) i) : EReal)) l.val := by
  have e : ((win0_7.blk t).view.emb (ix3 0 r l) : S2x8192x128.Idx) = ix3 (bat t) (seq t r) l := by
    unfold bat seq
    blk_ext [ix_7]
  exact (congrArg (V m c main_v30) e).trans ((congrFun (V_ci m c) _).trans (tab_ci_at _ _ _ l))

theorem line_si (c : Dev nD) (t : Fin cfg0.N) (r : Fin 256) (l : Fin 128) :
    line (iblk m c 8 t) r l = signs 64 8 (up fun i => (SI m c (ix3 (bat t) (seq t r) i) : EReal)) l.val := by
  have e : ((win0_8.blk t).view.emb (ix3 0 r l) : S2x8192x128.Idx) = ix3 (bat t) (seq t r) l := by
    unfold bat seq
    blk_ext [ix_8]
  exact (congrArg (V m c main_v31) e).trans ((congrFun (V_si m c) _).trans (tab_si_at _ _ _ l))

end Cert.Proof.In
end
-- ==== Proof.In.Host.Qa.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

def arr_qa (z : FVec Ideal S2x8192x7240 .f32) : FVec Ideal S2x8192x8x128 .f32 :=
  (shapeCast S2x8192x8x128 (extractStridedSlice S2x8192x1024 ![0, 0, 0] z slices_S2x8192x7240_S2x8192x1024_0_0_0) shapeCasts_S2x8192x1024_S2x8192x8x128)

def mix_qa (A : FVec Ideal S2x8192x8x128 .f32) (cm sm : FVec Ideal S2x8192x16 .f32) : FVec Ideal S2x8192x8x128 .f32 :=
  ((concatenate S2x8192x8x128 3 [⟨S2x8192x8x16, ((subf (mulf (extractStridedSlice S2x8192x8x16 ![0, 0, 0, 0] A slices_S2x8192x8x128_S2x8192x8x16_0_0_0_0) (broadcastInDim S2x8192x8x16 ![0, 1, 2, 3] bcast_S2x8192x1x16_S2x8192x8x16_0_1_2_3 (broadcastInDim S2x8192x1x16 ![0, 1, 3] bcast_S2x8192x16_S2x8192x1x16_0_1_3 cm))) (mulf (extractStridedSlice S2x8192x8x16 ![0, 0, 0, 16] A slices_S2x8192x8x128_S2x8192x8x16_0_0_0_16) (broadcastInDim S2x8192x8x16 ![0, 1, 2, 3] bcast_S2x8192x1x16_S2x8192x8x16_0_1_2_3 (broadcastInDim S2x8192x1x16 ![0, 1, 3] bcast_S2x8192x16_S2x8192x1x16_0_1_3 sm)))) : (⟨S2x8192x8x16, .f32⟩ : BufTy).Contents (Elt Ideal))⟩, ⟨S2x8192x8x16, ((addf (mulf (extractStridedSlice S2x8192x8x16 ![0, 0, 0, 16] A slices_S2x8192x8x128_S2x8192x8x16_0_0_0_16) (broadcastInDim S2x8192x8x16 ![0, 1, 2, 3] bcast_S2x8192x1x16_S2x8192x8x16_0_1_2_3 (broadcastInDim S2x8192x1x16 ![0, 1, 3] bcast_S2x8192x16_S2x8192x1x16_0_1_3 cm))) (mulf (extractStridedSlice S2x8192x8x16 ![0, 0, 0, 0] A slices_S2x8192x8x128_S2x8192x8x16_0_0_0_0) (broadcastInDim S2x8192x8x16 ![0, 1, 2, 3] bcast_S2x8192x1x16_S2x8192x8x16_0_1_2_3 (broadcastInDim S2x8192x1x16 ![0, 1, 3] bcast_S2x8192x16_S2x8192x1x16_0_1_3 sm)))) : (⟨S2x8192x8x16, .f32⟩ : BufTy).Contents (Elt Ideal))⟩, ⟨S2x8192x8x96, ((extractStridedSlice S2x8192x8x96 ![0, 0, 0, 32] A slices_S2x8192x8x128_S2x8192x8x96_0_0_0_32) : (⟨S2x8192x8x96, .f32⟩ : BufTy).Contents (Elt Ideal))⟩] concatenates_S2x8192x8x16_S2x8192x8x16_S2x8192x8x96_S2x8192x8x128_d3 : (⟨S2x8192x8x128, .f32⟩ : BufTy).Contents (Elt Ideal)))

abbrev host_qa (z : FVec Ideal S2x8192x7240 .f32) (cm sm : FVec Ideal S2x8192x16 .f32) : FVec Ideal S2x8192x1024 .bf16 :=
  truncf .bf16 (mulf (shapeCast _ (mix_qa (arr_qa z) cm sm) shapeCasts_S2x8192x8x128_S2x8192x1024) (broadcastInDim S2x8192x1024 ![] bcast_S_S2x8192x1024 (constant S_ .f32 0x3E0293EE#32))) bitsLt_bf16_f32

theorem mix_qa_at (A : FVec Ideal S2x8192x8x128 .f32) (cm sm : FVec Ideal S2x8192x16 .f32) (b : Fin 2) (s : Fin 8192) (h : Fin 8) (l : Fin 128) :
    (mix_qa A cm sm (ix4 b s h l) : EReal)
      = if h1 : l.val < 16 then A (ix4 b s h l) * cm (ix3 b s ⟨l.val, h1⟩) - A (ix4 b s h ⟨16 + l.val, by omega⟩) * sm (ix3 b s ⟨l.val, h1⟩)
        else if h2 : l.val - 16 < 16 then
          A (ix4 b s h ⟨16 + (l.val - 16), by omega⟩) * cm (ix3 b s ⟨l.val - 16, h2⟩) + A (ix4 b s h ⟨l.val - 16, by omega⟩) * sm (ix3 b s ⟨l.val - 16, h2⟩)
        else A (ix4 b s h ⟨32 + (l.val - 16 - 16), by omega⟩) := by
  unfold mix_qa
  skip
  skip
  pointwise

theorem arr_qa_at (z : FVec Ideal S2x8192x7240 .f32) (b : Fin 2) (s : Fin 8192) (h : Fin 8) (l : Fin 128) :
    (arr_qa z (ix4 b s h l) : EReal) = z (ix3 b s ⟨0 + (h.val * 128 + l.val), by omega⟩) := by
  unfold arr_qa
  simp only [zero_add]
  skip
  skip
  pointwise

theorem turn_qa_at (z : FVec Ideal S2x8192x7240 .f32) (cm sm : FVec Ideal S2x8192x16 .f32) (b : Fin 2) (s : Fin 8192) (h : Fin 8) (l : Fin 128) :
    (mix_qa (arr_qa z) cm sm (ix4 b s h l) : EReal) = spun 128 16 0 (up fun j => z (ix3 b s j)) (up fun l => cm (ix3 b s l)) (up fun l => sm (ix3 b s l)) (h.val * 128 + l.val) := by
  rw [mix_qa_at]
  simp only [arr_qa_at]
  unfold spun
  by_cases h1 : l.val < 16
  · rw [dif_pos h1, if_pos (by omega)]
    refine sub_congr ?_ ?_ ?_ ?_
    · refine up_eq (fun j => (z (ix3 b s j) : EReal)) _ _ ?_
      try dsimp only
      try omega
    · refine up_eq (fun l => (cm (ix3 b s l) : EReal)) _ _ ?_
      try dsimp only
      try omega
    · refine up_eq (fun j => (z (ix3 b s j) : EReal)) _ _ ?_
      try dsimp only
      try omega
    · refine up_eq (fun l => (sm (ix3 b s l) : EReal)) _ _ ?_
      try dsimp only
      try omega
  · rw [dif_neg h1, if_neg (by omega)]
    by_cases h2 : l.val - 16 < 16
    · rw [dif_pos h2, if_pos (by omega)]
      refine add_congr ?_ ?_ ?_ ?_
      · refine up_eq (fun j => (z (ix3 b s j) : EReal)) _ _ ?_
        try dsimp only
        try omega
      · refine up_eq (fun l => (cm (ix3 b s l) : EReal)) _ _ ?_
        try dsimp only
        try omega
      · refine up_eq (fun j => (z (ix3 b s j) : EReal)) _ _ ?_
        try dsimp only
        try omega
      · refine up_eq (fun l => (sm (ix3 b s l) : EReal)) _ _ ?_
        try dsimp only
        try omega
    · rw [dif_neg h2, if_neg (by omega)]
      refine up_eq (fun j => (z (ix3 b s j) : EReal)) _ _ ?_
      try dsimp only
      try omega

theorem outer_qa (A : FVec Ideal S2x8192x8x128 .f32) (b : Fin 2) (s : Fin 8192) (d : Fin 1024) :
    ((truncf .bf16 (mulf (shapeCast _ A shapeCasts_S2x8192x8x128_S2x8192x1024) (broadcastInDim S2x8192x1024 ![] bcast_S_S2x8192x1024 (constant S_ .f32 0x3E0293EE#32))) bitsLt_bf16_f32 : FVec Ideal S2x8192x1024 .bf16) (ix3 b s d) : EReal) = A (ix4 b s ⟨d.val / 128, by omega⟩ ⟨d.val % 128, by omega⟩) * Ideal.ofBits .f32 0x3E0293EE#32 := by
  pointwise

theorem host_qa_at (z : FVec Ideal S2x8192x7240 .f32) (cm sm : FVec Ideal S2x8192x16 .f32) (b : Fin 2) (s : Fin 8192) (d : Fin 1024) :
    (host_qa z cm sm (ix3 b s d) : EReal) = spun 128 16 0 (up fun j => z (ix3 b s j)) (up fun l => cm (ix3 b s l)) (up fun l => sm (ix3 b s l)) d.val * Ideal.ofBits .f32 0x3E0293EE#32 := by
  have hd : d.val / 128 * 128 + d.val % 128 = d.val := by omega
  have ht := turn_qa_at z cm sm b s ⟨d.val / 128, by omega⟩ ⟨d.val % 128, by omega⟩
  dsimp only at ht
  rw [hd] at ht
  refine (outer_qa (mix_qa (arr_qa z) cm sm) b s d).trans ?_
  rw [ht]

end Cert.Proof.In
end
-- ==== Proof.In.Fin.Qa.lean ====
/- The input projection: one result array of the kernel from its blocks. -/
module

public import proofs.«01_k».proof.Proof.In.Parts
public import proofs.«01_k».proof.Proof.In.Host.Qa

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_qa (c : Dev nD) : (dats m 0 c).arrAt 9 cfg0.N = host_qa (hostProj (X m c) (MOD m c) (GAIN m c) (WT m c)) (CM m c) (SM m c) := by
  refine (dats m 0 c).arrAt_eq_of_covers 9 _ (by decide +kernel) fun t hf y => ?_
  blk_simp
  rw [after0_9]
  obtain ⟨u, r, d, rfl⟩ : ∃ (u : Fin 1) (r : Fin 256) (d : Fin 1024), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_9.blk t).view.emb (ix3 0 r d) : S2x8192x1024.Idx) = ix3 (bat t) (seq t r) d := by
    unfold bat seq
    blk_ext [ix_9]
  rw [he]
  refine (congrFun (blk_qa m c t) _).trans ?_
  refine Eq.trans ?_ (host_qa_at _ _ _ _ _ d).symm
  refine congrArg (fun y : EReal => y * Ideal.ofBits .f32 0x3E0293EE#32) ?_
  exact turned_spun16 1024 0 0 (by omega) (by omega) _ (proj m c (bat t) (seq t r)) _ _ _ _
    (fun i h => (rows_at m c t r _).trans (pick_lt _ (0 + i) (by omega))) (fun l => line_cm m c t r l) (fun l => line_sm m c t r l) d

end Cert.Proof.In
end
-- ==== Proof.In.Host.Ka.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

def arr_ka (z : FVec Ideal S2x8192x7240 .f32) : FVec Ideal S2x8192x8x128 .f32 :=
  (shapeCast S2x8192x8x128 (extractStridedSlice S2x8192x1024 ![0, 0, 1024] z slices_S2x8192x7240_S2x8192x1024_0_0_1024) shapeCasts_S2x8192x1024_S2x8192x8x128)

def mix_ka (A : FVec Ideal S2x8192x8x128 .f32) (cm sm : FVec Ideal S2x8192x16 .f32) : FVec Ideal S2x8192x8x128 .f32 :=
  ((concatenate S2x8192x8x128 3 [⟨S2x8192x8x16, ((subf (mulf (extractStridedSlice S2x8192x8x16 ![0, 0, 0, 0] A slices_S2x8192x8x128_S2x8192x8x16_0_0_0_0) (broadcastInDim S2x8192x8x16 ![0, 1, 2, 3] bcast_S2x8192x1x16_S2x8192x8x16_0_1_2_3 (broadcastInDim S2x8192x1x16 ![0, 1, 3] bcast_S2x8192x16_S2x8192x1x16_0_1_3 cm))) (mulf (extractStridedSlice S2x8192x8x16 ![0, 0, 0, 16] A slices_S2x8192x8x128_S2x8192x8x16_0_0_0_16) (broadcastInDim S2x8192x8x16 ![0, 1, 2, 3] bcast_S2x8192x1x16_S2x8192x8x16_0_1_2_3 (broadcastInDim S2x8192x1x16 ![0, 1, 3] bcast_S2x8192x16_S2x8192x1x16_0_1_3 sm)))) : (⟨S2x8192x8x16, .f32⟩ : BufTy).Contents (Elt Ideal))⟩, ⟨S2x8192x8x16, ((addf (mulf (extractStridedSlice S2x8192x8x16 ![0, 0, 0, 16] A slices_S2x8192x8x128_S2x8192x8x16_0_0_0_16) (broadcastInDim S2x8192x8x16 ![0, 1, 2, 3] bcast_S2x8192x1x16_S2x8192x8x16_0_1_2_3 (broadcastInDim S2x8192x1x16 ![0, 1, 3] bcast_S2x8192x16_S2x8192x1x16_0_1_3 cm))) (mulf (extractStridedSlice S2x8192x8x16 ![0, 0, 0, 0] A slices_S2x8192x8x128_S2x8192x8x16_0_0_0_0) (broadcastInDim S2x8192x8x16 ![0, 1, 2, 3] bcast_S2x8192x1x16_S2x8192x8x16_0_1_2_3 (broadcastInDim S2x8192x1x16 ![0, 1, 3] bcast_S2x8192x16_S2x8192x1x16_0_1_3 sm)))) : (⟨S2x8192x8x16, .f32⟩ : BufTy).Contents (Elt Ideal))⟩, ⟨S2x8192x8x96, ((extractStridedSlice S2x8192x8x96 ![0, 0, 0, 32] A slices_S2x8192x8x128_S2x8192x8x96_0_0_0_32) : (⟨S2x8192x8x96, .f32⟩ : BufTy).Contents (Elt Ideal))⟩] concatenates_S2x8192x8x16_S2x8192x8x16_S2x8192x8x96_S2x8192x8x128_d3 : (⟨S2x8192x8x128, .f32⟩ : BufTy).Contents (Elt Ideal)))

abbrev host_ka (z : FVec Ideal S2x8192x7240 .f32) (cm sm : FVec Ideal S2x8192x16 .f32) : FVec Ideal S2x8192x1024 .bf16 :=
  truncf .bf16 (shapeCast _ (mix_ka (arr_ka z) cm sm) shapeCasts_S2x8192x8x128_S2x8192x1024) bitsLt_bf16_f32

theorem mix_ka_at (A : FVec Ideal S2x8192x8x128 .f32) (cm sm : FVec Ideal S2x8192x16 .f32) (b : Fin 2) (s : Fin 8192) (h : Fin 8) (l : Fin 128) :
    (mix_ka A cm sm (ix4 b s h l) : EReal)
      = if h1 : l.val < 16 then A (ix4 b s h l) * cm (ix3 b s ⟨l.val, h1⟩) - A (ix4 b s h ⟨16 + l.val, by omega⟩) * sm (ix3 b s ⟨l.val, h1⟩)
        else if h2 : l.val - 16 < 16 then
          A (ix4 b s h ⟨16 + (l.val - 16), by omega⟩) * cm (ix3 b s ⟨l.val - 16, h2⟩) + A (ix4 b s h ⟨l.val - 16, by omega⟩) * sm (ix3 b s ⟨l.val - 16, h2⟩)
        else A (ix4 b s h ⟨32 + (l.val - 16 - 16), by omega⟩) := by
  unfold mix_ka
  skip
  skip
  pointwise

theorem arr_ka_at (z : FVec Ideal S2x8192x7240 .f32) (b : Fin 2) (s : Fin 8192) (h : Fin 8) (l : Fin 128) :
    (arr_ka z (ix4 b s h l) : EReal) = z (ix3 b s ⟨1024 + (h.val * 128 + l.val), by omega⟩) := by
  unfold arr_ka
  skip
  skip
  skip
  pointwise

theorem turn_ka_at (z : FVec Ideal S2x8192x7240 .f32) (cm sm : FVec Ideal S2x8192x16 .f32) (b : Fin 2) (s : Fin 8192) (h : Fin 8) (l : Fin 128) :
    (mix_ka (arr_ka z) cm sm (ix4 b s h l) : EReal) = spun 128 16 1024 (up fun j => z (ix3 b s j)) (up fun l => cm (ix3 b s l)) (up fun l => sm (ix3 b s l)) (h.val * 128 + l.val) := by
  rw [mix_ka_at]
  simp only [arr_ka_at]
  unfold spun
  by_cases h1 : l.val < 16
  · rw [dif_pos h1, if_pos (by omega)]
    refine sub_congr ?_ ?_ ?_ ?_
    · refine up_eq (fun j => (z (ix3 b s j) : EReal)) _ _ ?_
      try dsimp only
      try omega
    · refine up_eq (fun l => (cm (ix3 b s l) : EReal)) _ _ ?_
      try dsimp only
      try omega
    · refine up_eq (fun j => (z (ix3 b s j) : EReal)) _ _ ?_
      try dsimp only
      try omega
    · refine up_eq (fun l => (sm (ix3 b s l) : EReal)) _ _ ?_
      try dsimp only
      try omega
  · rw [dif_neg h1, if_neg (by omega)]
    by_cases h2 : l.val - 16 < 16
    · rw [dif_pos h2, if_pos (by omega)]
      refine add_congr ?_ ?_ ?_ ?_
      · refine up_eq (fun j => (z (ix3 b s j) : EReal)) _ _ ?_
        try dsimp only
        try omega
      · refine up_eq (fun l => (cm (ix3 b s l) : EReal)) _ _ ?_
        try dsimp only
        try omega
      · refine up_eq (fun j => (z (ix3 b s j) : EReal)) _ _ ?_
        try dsimp only
        try omega
      · refine up_eq (fun l => (sm (ix3 b s l) : EReal)) _ _ ?_
        try dsimp only
        try omega
    · rw [dif_neg h2, if_neg (by omega)]
      refine up_eq (fun j => (z (ix3 b s j) : EReal)) _ _ ?_
      try dsimp only
      try omega

theorem outer_ka (A : FVec Ideal S2x8192x8x128 .f32) (b : Fin 2) (s : Fin 8192) (d : Fin 1024) :
    ((truncf .bf16 (shapeCast _ A shapeCasts_S2x8192x8x128_S2x8192x1024) bitsLt_bf16_f32 : FVec Ideal S2x8192x1024 .bf16) (ix3 b s d) : EReal) = A (ix4 b s ⟨d.val / 128, by omega⟩ ⟨d.val % 128, by omega⟩) := by
  pointwise

theorem host_ka_at (z : FVec Ideal S2x8192x7240 .f32) (cm sm : FVec Ideal S2x8192x16 .f32) (b : Fin 2) (s : Fin 8192) (d : Fin 1024) :
    (host_ka z cm sm (ix3 b s d) : EReal) = spun 128 16 1024 (up fun j => z (ix3 b s j)) (up fun l => cm (ix3 b s l)) (up fun l => sm (ix3 b s l)) d.val := by
  have hd : d.val / 128 * 128 + d.val % 128 = d.val := by omega
  have ht := turn_ka_at z cm sm b s ⟨d.val / 128, by omega⟩ ⟨d.val % 128, by omega⟩
  dsimp only at ht
  rw [hd] at ht
  refine (outer_ka (mix_ka (arr_ka z) cm sm) b s d).trans ?_
  rw [ht]

end Cert.Proof.In
end
-- ==== Proof.In.Fin.Ka.lean ====
/- The input projection: one result array of the kernel from its blocks. -/
module

public import proofs.«01_k».proof.Proof.In.Parts
public import proofs.«01_k».proof.Proof.In.Host.Ka

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_ka (c : Dev nD) : (dats m 0 c).arrAt 10 cfg0.N = host_ka (hostProj (X m c) (MOD m c) (GAIN m c) (WT m c)) (CM m c) (SM m c) := by
  refine (dats m 0 c).arrAt_eq_of_covers 10 _ (by decide +kernel) fun t hf y => ?_
  blk_simp
  rw [after0_10]
  obtain ⟨u, r, d, rfl⟩ : ∃ (u : Fin 1) (r : Fin 256) (d : Fin 1024), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_10.blk t).view.emb (ix3 0 r d) : S2x8192x1024.Idx) = ix3 (bat t) (seq t r) d := by
    unfold bat seq
    blk_ext [ix_10]
  rw [he]
  refine (congrFun (blk_ka m c t) _).trans ?_
  refine Eq.trans ?_ (host_ka_at _ _ _ _ _ d).symm
  exact turned_spun16 1024 1024 1024 (by omega) (by omega) _ (proj m c (bat t) (seq t r)) _ _ _ _
    (fun i h => (rows_at m c t r _).trans (pick_lt _ (1024 + i) (by omega))) (fun l => line_cm m c t r l) (fun l => line_sm m c t r l) d

end Cert.Proof.In
end
-- ==== Proof.In.Host.Va.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

abbrev host_va (z : FVec Ideal S2x8192x7240 .f32) : FVec Ideal S2x8192x1024 .bf16 :=
  truncf .bf16 (extractStridedSlice S2x8192x1024 ![0, 0, 2048] z slices_S2x8192x7240_S2x8192x1024_0_0_2048) bitsLt_bf16_f32

theorem host_va_at (z : FVec Ideal S2x8192x7240 .f32) (b : Fin 2) (s : Fin 8192) (d : Fin 1024) : (host_va z (ix3 b s d) : EReal) = up (fun j => z (ix3 b s j)) (2048 + d.val) := by
  pointwise
  exact up_eq (fun j => (z (ix3 b s j) : EReal)) _ _ rfl

end Cert.Proof.In
end
-- ==== Proof.In.Fin.Va.lean ====
/- The input projection: one result array of the kernel from its blocks. -/
module

public import proofs.«01_k».proof.Proof.In.Parts
public import proofs.«01_k».proof.Proof.In.Host.Va

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_va (c : Dev nD) : (dats m 0 c).arrAt 11 cfg0.N = host_va (hostProj (X m c) (MOD m c) (GAIN m c) (WT m c)) := by
  refine (dats m 0 c).arrAt_eq_of_covers 11 _ (by decide +kernel) fun t hf y => ?_
  blk_simp
  rw [after0_11]
  obtain ⟨u, r, d, rfl⟩ : ∃ (u : Fin 1) (r : Fin 256) (d : Fin 1024), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_11.blk t).view.emb (ix3 0 r d) : S2x8192x1024.Idx) = ix3 (bat t) (seq t r) d := by
    unfold bat seq
    blk_ext [ix_11]
  rw [he]
  refine (congrFun (blk_va m c t) _).trans ?_
  refine Eq.trans ?_ (host_va_at _ _ _ d).symm
  exact (rows_at m c t r _).trans (pick_lt _ (2048 + d.val) (by omega))

end Cert.Proof.In
end
-- ==== Proof.In.Host.Qb.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

def arr_qb (z : FVec Ideal S2x8192x7240 .f32) : FVec Ideal S2x8192x8x128 .f32 :=
  (shapeCast S2x8192x8x128 (extractStridedSlice S2x8192x1024 ![0, 0, 3072] z slices_S2x8192x7240_S2x8192x1024_0_0_3072) shapeCasts_S2x8192x1024_S2x8192x8x128)

def mix_qb (A : FVec Ideal S2x8192x8x128 .f32) (cm sm : FVec Ideal S2x8192x16 .f32) : FVec Ideal S2x8192x8x128 .f32 :=
  ((concatenate S2x8192x8x128 3 [⟨S2x8192x8x16, ((subf (mulf (extractStridedSlice S2x8192x8x16 ![0, 0, 0, 0] A slices_S2x8192x8x128_S2x8192x8x16_0_0_0_0) (broadcastInDim S2x8192x8x16 ![0, 1, 2, 3] bcast_S2x8192x1x16_S2x8192x8x16_0_1_2_3 (broadcastInDim S2x8192x1x16 ![0, 1, 3] bcast_S2x8192x16_S2x8192x1x16_0_1_3 cm))) (mulf (extractStridedSlice S2x8192x8x16 ![0, 0, 0, 16] A slices_S2x8192x8x128_S2x8192x8x16_0_0_0_16) (broadcastInDim S2x8192x8x16 ![0, 1, 2, 3] bcast_S2x8192x1x16_S2x8192x8x16_0_1_2_3 (broadcastInDim S2x8192x1x16 ![0, 1, 3] bcast_S2x8192x16_S2x8192x1x16_0_1_3 sm)))) : (⟨S2x8192x8x16, .f32⟩ : BufTy).Contents (Elt Ideal))⟩, ⟨S2x8192x8x16, ((addf (mulf (extractStridedSlice S2x8192x8x16 ![0, 0, 0, 16] A slices_S2x8192x8x128_S2x8192x8x16_0_0_0_16) (broadcastInDim S2x8192x8x16 ![0, 1, 2, 3] bcast_S2x8192x1x16_S2x8192x8x16_0_1_2_3 (broadcastInDim S2x8192x1x16 ![0, 1, 3] bcast_S2x8192x16_S2x8192x1x16_0_1_3 cm))) (mulf (extractStridedSlice S2x8192x8x16 ![0, 0, 0, 0] A slices_S2x8192x8x128_S2x8192x8x16_0_0_0_0) (broadcastInDim S2x8192x8x16 ![0, 1, 2, 3] bcast_S2x8192x1x16_S2x8192x8x16_0_1_2_3 (broadcastInDim S2x8192x1x16 ![0, 1, 3] bcast_S2x8192x16_S2x8192x1x16_0_1_3 sm)))) : (⟨S2x8192x8x16, .f32⟩ : BufTy).Contents (Elt Ideal))⟩, ⟨S2x8192x8x96, ((extractStridedSlice S2x8192x8x96 ![0, 0, 0, 32] A slices_S2x8192x8x128_S2x8192x8x96_0_0_0_32) : (⟨S2x8192x8x96, .f32⟩ : BufTy).Contents (Elt Ideal))⟩] concatenates_S2x8192x8x16_S2x8192x8x16_S2x8192x8x96_S2x8192x8x128_d3 : (⟨S2x8192x8x128, .f32⟩ : BufTy).Contents (Elt Ideal)))

abbrev host_qb (z : FVec Ideal S2x8192x7240 .f32) (cm sm : FVec Ideal S2x8192x16 .f32) : FVec Ideal S2x8192x1024 .bf16 :=
  truncf .bf16 (mulf (shapeCast _ (mix_qb (arr_qb z) cm sm) shapeCasts_S2x8192x8x128_S2x8192x1024) (broadcastInDim S2x8192x1024 ![] bcast_S_S2x8192x1024 (constant S_ .f32 0x3E0293EE#32))) bitsLt_bf16_f32

theorem mix_qb_at (A : FVec Ideal S2x8192x8x128 .f32) (cm sm : FVec Ideal S2x8192x16 .f32) (b : Fin 2) (s : Fin 8192) (h : Fin 8) (l : Fin 128) :
    (mix_qb A cm sm (ix4 b s h l) : EReal)
      = if h1 : l.val < 16 then A (ix4 b s h l) * cm (ix3 b s ⟨l.val, h1⟩) - A (ix4 b s h ⟨16 + l.val, by omega⟩) * sm (ix3 b s ⟨l.val, h1⟩)
        else if h2 : l.val - 16 < 16 then
          A (ix4 b s h ⟨16 + (l.val - 16), by omega⟩) * cm (ix3 b s ⟨l.val - 16, h2⟩) + A (ix4 b s h ⟨l.val - 16, by omega⟩) * sm (ix3 b s ⟨l.val - 16, h2⟩)
        else A (ix4 b s h ⟨32 + (l.val - 16 - 16), by omega⟩) := by
  unfold mix_qb
  skip
  skip
  pointwise

theorem arr_qb_at (z : FVec Ideal S2x8192x7240 .f32) (b : Fin 2) (s : Fin 8192) (h : Fin 8) (l : Fin 128) :
    (arr_qb z (ix4 b s h l) : EReal) = z (ix3 b s ⟨3072 + (h.val * 128 + l.val), by omega⟩) := by
  unfold arr_qb
  skip
  skip
  skip
  pointwise

theorem turn_qb_at (z : FVec Ideal S2x8192x7240 .f32) (cm sm : FVec Ideal S2x8192x16 .f32) (b : Fin 2) (s : Fin 8192) (h : Fin 8) (l : Fin 128) :
    (mix_qb (arr_qb z) cm sm (ix4 b s h l) : EReal) = spun 128 16 3072 (up fun j => z (ix3 b s j)) (up fun l => cm (ix3 b s l)) (up fun l => sm (ix3 b s l)) (h.val * 128 + l.val) := by
  rw [mix_qb_at]
  simp only [arr_qb_at]
  unfold spun
  by_cases h1 : l.val < 16
  · rw [dif_pos h1, if_pos (by omega)]
    refine sub_congr ?_ ?_ ?_ ?_
    · refine up_eq (fun j => (z (ix3 b s j) : EReal)) _ _ ?_
      try dsimp only
      try omega
    · refine up_eq (fun l => (cm (ix3 b s l) : EReal)) _ _ ?_
      try dsimp only
      try omega
    · refine up_eq (fun j => (z (ix3 b s j) : EReal)) _ _ ?_
      try dsimp only
      try omega
    · refine up_eq (fun l => (sm (ix3 b s l) : EReal)) _ _ ?_
      try dsimp only
      try omega
  · rw [dif_neg h1, if_neg (by omega)]
    by_cases h2 : l.val - 16 < 16
    · rw [dif_pos h2, if_pos (by omega)]
      refine add_congr ?_ ?_ ?_ ?_
      · refine up_eq (fun j => (z (ix3 b s j) : EReal)) _ _ ?_
        try dsimp only
        try omega
      · refine up_eq (fun l => (cm (ix3 b s l) : EReal)) _ _ ?_
        try dsimp only
        try omega
      · refine up_eq (fun j => (z (ix3 b s j) : EReal)) _ _ ?_
        try dsimp only
        try omega
      · refine up_eq (fun l => (sm (ix3 b s l) : EReal)) _ _ ?_
        try dsimp only
        try omega
    · rw [dif_neg h2, if_neg (by omega)]
      refine up_eq (fun j => (z (ix3 b s j) : EReal)) _ _ ?_
      try dsimp only
      try omega

theorem outer_qb (A : FVec Ideal S2x8192x8x128 .f32) (b : Fin 2) (s : Fin 8192) (d : Fin 1024) :
    ((truncf .bf16 (mulf (shapeCast _ A shapeCasts_S2x8192x8x128_S2x8192x1024) (broadcastInDim S2x8192x1024 ![] bcast_S_S2x8192x1024 (constant S_ .f32 0x3E0293EE#32))) bitsLt_bf16_f32 : FVec Ideal S2x8192x1024 .bf16) (ix3 b s d) : EReal) = A (ix4 b s ⟨d.val / 128, by omega⟩ ⟨d.val % 128, by omega⟩) * Ideal.ofBits .f32 0x3E0293EE#32 := by
  pointwise

theorem host_qb_at (z : FVec Ideal S2x8192x7240 .f32) (cm sm : FVec Ideal S2x8192x16 .f32) (b : Fin 2) (s : Fin 8192) (d : Fin 1024) :
    (host_qb z cm sm (ix3 b s d) : EReal) = spun 128 16 3072 (up fun j => z (ix3 b s j)) (up fun l => cm (ix3 b s l)) (up fun l => sm (ix3 b s l)) d.val * Ideal.ofBits .f32 0x3E0293EE#32 := by
  have hd : d.val / 128 * 128 + d.val % 128 = d.val := by omega
  have ht := turn_qb_at z cm sm b s ⟨d.val / 128, by omega⟩ ⟨d.val % 128, by omega⟩
  dsimp only at ht
  rw [hd] at ht
  refine (outer_qb (mix_qb (arr_qb z) cm sm) b s d).trans ?_
  rw [ht]

end Cert.Proof.In
end
-- ==== Proof.In.Fin.Qb.lean ====
/- The input projection: one result array of the kernel from its blocks. -/
module

public import proofs.«01_k».proof.Proof.In.Parts
public import proofs.«01_k».proof.Proof.In.Host.Qb

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_qb (c : Dev nD) : (dats m 0 c).arrAt 12 cfg0.N = host_qb (hostProj (X m c) (MOD m c) (GAIN m c) (WT m c)) (CM m c) (SM m c) := by
  refine (dats m 0 c).arrAt_eq_of_covers 12 _ (by decide +kernel) fun t hf y => ?_
  blk_simp
  rw [after0_12]
  obtain ⟨u, r, d, rfl⟩ : ∃ (u : Fin 1) (r : Fin 256) (d : Fin 1024), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_12.blk t).view.emb (ix3 0 r d) : S2x8192x1024.Idx) = ix3 (bat t) (seq t r) d := by
    unfold bat seq
    blk_ext [ix_12]
  rw [he]
  refine (congrFun (blk_qb m c t) _).trans ?_
  refine Eq.trans ?_ (host_qb_at _ _ _ _ _ d).symm
  refine congrArg (fun y : EReal => y * Ideal.ofBits .f32 0x3E0293EE#32) ?_
  exact turned_spun16 1024 3072 3072 (by omega) (by omega) _ (proj m c (bat t) (seq t r)) _ _ _ _
    (fun i h => (rows_at m c t r _).trans (pick_lt _ (3072 + i) (by omega))) (fun l => line_cm m c t r l) (fun l => line_sm m c t r l) d

end Cert.Proof.In
end
-- ==== Proof.In.Host.Kb.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

def arr_kb (z : FVec Ideal S2x8192x7240 .f32) : FVec Ideal S2x8192x2x128 .f32 :=
  (shapeCast S2x8192x2x128 (extractStridedSlice S2x8192x256 ![0, 0, 4096] z slices_S2x8192x7240_S2x8192x256_0_0_4096) shapeCasts_S2x8192x256_S2x8192x2x128)

def mix_kb (A : FVec Ideal S2x8192x2x128 .f32) (cm sm : FVec Ideal S2x8192x16 .f32) : FVec Ideal S2x8192x2x128 .f32 :=
  ((concatenate S2x8192x2x128 3 [⟨S2x8192x2x16, ((subf (mulf (extractStridedSlice S2x8192x2x16 ![0, 0, 0, 0] A slices_S2x8192x2x128_S2x8192x2x16_0_0_0_0) (broadcastInDim S2x8192x2x16 ![0, 1, 2, 3] bcast_S2x8192x1x16_S2x8192x2x16_0_1_2_3 (broadcastInDim S2x8192x1x16 ![0, 1, 3] bcast_S2x8192x16_S2x8192x1x16_0_1_3 cm))) (mulf (extractStridedSlice S2x8192x2x16 ![0, 0, 0, 16] A slices_S2x8192x2x128_S2x8192x2x16_0_0_0_16) (broadcastInDim S2x8192x2x16 ![0, 1, 2, 3] bcast_S2x8192x1x16_S2x8192x2x16_0_1_2_3 (broadcastInDim S2x8192x1x16 ![0, 1, 3] bcast_S2x8192x16_S2x8192x1x16_0_1_3 sm)))) : (⟨S2x8192x2x16, .f32⟩ : BufTy).Contents (Elt Ideal))⟩, ⟨S2x8192x2x16, ((addf (mulf (extractStridedSlice S2x8192x2x16 ![0, 0, 0, 16] A slices_S2x8192x2x128_S2x8192x2x16_0_0_0_16) (broadcastInDim S2x8192x2x16 ![0, 1, 2, 3] bcast_S2x8192x1x16_S2x8192x2x16_0_1_2_3 (broadcastInDim S2x8192x1x16 ![0, 1, 3] bcast_S2x8192x16_S2x8192x1x16_0_1_3 cm))) (mulf (extractStridedSlice S2x8192x2x16 ![0, 0, 0, 0] A slices_S2x8192x2x128_S2x8192x2x16_0_0_0_0) (broadcastInDim S2x8192x2x16 ![0, 1, 2, 3] bcast_S2x8192x1x16_S2x8192x2x16_0_1_2_3 (broadcastInDim S2x8192x1x16 ![0, 1, 3] bcast_S2x8192x16_S2x8192x1x16_0_1_3 sm)))) : (⟨S2x8192x2x16, .f32⟩ : BufTy).Contents (Elt Ideal))⟩, ⟨S2x8192x2x96, ((extractStridedSlice S2x8192x2x96 ![0, 0, 0, 32] A slices_S2x8192x2x128_S2x8192x2x96_0_0_0_32) : (⟨S2x8192x2x96, .f32⟩ : BufTy).Contents (Elt Ideal))⟩] concatenates_S2x8192x2x16_S2x8192x2x16_S2x8192x2x96_S2x8192x2x128_d3 : (⟨S2x8192x2x128, .f32⟩ : BufTy).Contents (Elt Ideal)))

abbrev host_kb (z : FVec Ideal S2x8192x7240 .f32) (cm sm : FVec Ideal S2x8192x16 .f32) : FVec Ideal S2x8192x256 .bf16 :=
  truncf .bf16 (shapeCast _ (mix_kb (arr_kb z) cm sm) shapeCasts_S2x8192x2x128_S2x8192x256) bitsLt_bf16_f32

theorem mix_kb_at (A : FVec Ideal S2x8192x2x128 .f32) (cm sm : FVec Ideal S2x8192x16 .f32) (b : Fin 2) (s : Fin 8192) (h : Fin 2) (l : Fin 128) :
    (mix_kb A cm sm (ix4 b s h l) : EReal)
      = if h1 : l.val < 16 then A (ix4 b s h l) * cm (ix3 b s ⟨l.val, h1⟩) - A (ix4 b s h ⟨16 + l.val, by omega⟩) * sm (ix3 b s ⟨l.val, h1⟩)
        else if h2 : l.val - 16 < 16 then
          A (ix4 b s h ⟨16 + (l.val - 16), by omega⟩) * cm (ix3 b s ⟨l.val - 16, h2⟩) + A (ix4 b s h ⟨l.val - 16, by omega⟩) * sm (ix3 b s ⟨l.val - 16, h2⟩)
        else A (ix4 b s h ⟨32 + (l.val - 16 - 16), by omega⟩) := by
  unfold mix_kb
  skip
  skip
  pointwise

theorem arr_kb_at (z : FVec Ideal S2x8192x7240 .f32) (b : Fin 2) (s : Fin 8192) (h : Fin 2) (l : Fin 128) :
    (arr_kb z (ix4 b s h l) : EReal) = z (ix3 b s ⟨4096 + (h.val * 128 + l.val), by omega⟩) := by
  unfold arr_kb
  skip
  skip
  skip
  pointwise

theorem turn_kb_at (z : FVec Ideal S2x8192x7240 .f32) (cm sm : FVec Ideal S2x8192x16 .f32) (b : Fin 2) (s : Fin 8192) (h : Fin 2) (l : Fin 128) :
    (mix_kb (arr_kb z) cm sm (ix4 b s h l) : EReal) = spun 128 16 4096 (up fun j => z (ix3 b s j)) (up fun l => cm (ix3 b s l)) (up fun l => sm (ix3 b s l)) (h.val * 128 + l.val) := by
  rw [mix_kb_at]
  simp only [arr_kb_at]
  unfold spun
  by_cases h1 : l.val < 16
  · rw [dif_pos h1, if_pos (by omega)]
    refine sub_congr ?_ ?_ ?_ ?_
    · refine up_eq (fun j => (z (ix3 b s j) : EReal)) _ _ ?_
      try dsimp only
      try omega
    · refine up_eq (fun l => (cm (ix3 b s l) : EReal)) _ _ ?_
      try dsimp only
      try omega
    · refine up_eq (fun j => (z (ix3 b s j) : EReal)) _ _ ?_
      try dsimp only
      try omega
    · refine up_eq (fun l => (sm (ix3 b s l) : EReal)) _ _ ?_
      try dsimp only
      try omega
  · rw [dif_neg h1, if_neg (by omega)]
    by_cases h2 : l.val - 16 < 16
    · rw [dif_pos h2, if_pos (by omega)]
      refine add_congr ?_ ?_ ?_ ?_
      · refine up_eq (fun j => (z (ix3 b s j) : EReal)) _ _ ?_
        try dsimp only
        try omega
      · refine up_eq (fun l => (cm (ix3 b s l) : EReal)) _ _ ?_
        try dsimp only
        try omega
      · refine up_eq (fun j => (z (ix3 b s j) : EReal)) _ _ ?_
        try dsimp only
        try omega
      · refine up_eq (fun l => (sm (ix3 b s l) : EReal)) _ _ ?_
        try dsimp only
        try omega
    · rw [dif_neg h2, if_neg (by omega)]
      refine up_eq (fun j => (z (ix3 b s j) : EReal)) _ _ ?_
      try dsimp only
      try omega

theorem outer_kb (A : FVec Ideal S2x8192x2x128 .f32) (b : Fin 2) (s : Fin 8192) (d : Fin 256) :
    ((truncf .bf16 (shapeCast _ A shapeCasts_S2x8192x2x128_S2x8192x256) bitsLt_bf16_f32 : FVec Ideal S2x8192x256 .bf16) (ix3 b s d) : EReal) = A (ix4 b s ⟨d.val / 128, by omega⟩ ⟨d.val % 128, by omega⟩) := by
  pointwise

theorem host_kb_at (z : FVec Ideal S2x8192x7240 .f32) (cm sm : FVec Ideal S2x8192x16 .f32) (b : Fin 2) (s : Fin 8192) (d : Fin 256) :
    (host_kb z cm sm (ix3 b s d) : EReal) = spun 128 16 4096 (up fun j => z (ix3 b s j)) (up fun l => cm (ix3 b s l)) (up fun l => sm (ix3 b s l)) d.val := by
  have hd : d.val / 128 * 128 + d.val % 128 = d.val := by omega
  have ht := turn_kb_at z cm sm b s ⟨d.val / 128, by omega⟩ ⟨d.val % 128, by omega⟩
  dsimp only at ht
  rw [hd] at ht
  refine (outer_kb (mix_kb (arr_kb z) cm sm) b s d).trans ?_
  rw [ht]

end Cert.Proof.In
end
-- ==== Proof.In.Fin.Kb.lean ====
/- The input projection: one result array of the kernel from its blocks. -/
module

public import proofs.«01_k».proof.Proof.In.Parts
public import proofs.«01_k».proof.Proof.In.Host.Kb

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_kb (c : Dev nD) : (dats m 0 c).arrAt 13 cfg0.N = host_kb (hostProj (X m c) (MOD m c) (GAIN m c) (WT m c)) (CM m c) (SM m c) := by
  refine (dats m 0 c).arrAt_eq_of_covers 13 _ (by decide +kernel) fun t hf y => ?_
  blk_simp
  rw [after0_13]
  obtain ⟨u, r, d, rfl⟩ : ∃ (u : Fin 1) (r : Fin 256) (d : Fin 256), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_13.blk t).view.emb (ix3 0 r d) : S2x8192x256.Idx) = ix3 (bat t) (seq t r) d := by
    unfold bat seq
    blk_ext [ix_13]
  rw [he]
  refine (congrFun (blk_kb m c t) _).trans ?_
  refine Eq.trans ?_ (host_kb_at _ _ _ _ _ d).symm
  exact turned_spun16 256 4096 4096 (by omega) (by omega) _ (proj m c (bat t) (seq t r)) _ _ _ _
    (fun i h => (rows_at m c t r _).trans (pick_lt _ (4096 + i) (by omega))) (fun l => line_cm m c t r l) (fun l => line_sm m c t r l) d

end Cert.Proof.In
end
-- ==== Proof.In.Host.Vb.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

abbrev host_vb (z : FVec Ideal S2x8192x7240 .f32) : FVec Ideal S2x8192x256 .bf16 :=
  truncf .bf16 (extractStridedSlice S2x8192x256 ![0, 0, 4352] z slices_S2x8192x7240_S2x8192x256_0_0_4352) bitsLt_bf16_f32

theorem host_vb_at (z : FVec Ideal S2x8192x7240 .f32) (b : Fin 2) (s : Fin 8192) (d : Fin 256) : (host_vb z (ix3 b s d) : EReal) = up (fun j => z (ix3 b s j)) (4352 + d.val) := by
  pointwise
  exact up_eq (fun j => (z (ix3 b s j) : EReal)) _ _ rfl

end Cert.Proof.In
end
-- ==== Proof.In.Fin.Vb.lean ====
/- The input projection: one result array of the kernel from its blocks. -/
module

public import proofs.«01_k».proof.Proof.In.Parts
public import proofs.«01_k».proof.Proof.In.Host.Vb

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_vb (c : Dev nD) : (dats m 0 c).arrAt 14 cfg0.N = host_vb (hostProj (X m c) (MOD m c) (GAIN m c) (WT m c)) := by
  refine (dats m 0 c).arrAt_eq_of_covers 14 _ (by decide +kernel) fun t hf y => ?_
  blk_simp
  rw [after0_14]
  obtain ⟨u, r, d, rfl⟩ : ∃ (u : Fin 1) (r : Fin 256) (d : Fin 256), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_14.blk t).view.emb (ix3 0 r d) : S2x8192x256.Idx) = ix3 (bat t) (seq t r) d := by
    unfold bat seq
    blk_ext [ix_14]
  rw [he]
  refine (congrFun (blk_vb m c t) _).trans ?_
  refine Eq.trans ?_ (host_vb_at _ _ _ d).symm
  exact (rows_at m c t r _).trans (pick_lt _ (4352 + d.val) (by omega))

end Cert.Proof.In
end
-- ==== Proof.In.Host.Qi.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

def arr_qi (z : FVec Ideal S2x8192x7240 .f32) : FVec Ideal S2x8192x8x64 .f32 :=
  (shapeCast S2x8192x8x64 (extractStridedSlice S2x8192x512 ![0, 0, 4608] z slices_S2x8192x7240_S2x8192x512_0_0_4608) shapeCasts_S2x8192x512_S2x8192x8x64)

def mix_qi (A : FVec Ideal S2x8192x8x64 .f32) (ci si : FVec Ideal S2x8192x8 .f32) : FVec Ideal S2x8192x8x64 .f32 :=
  ((concatenate S2x8192x8x64 3 [⟨S2x8192x8x8, ((subf (mulf (extractStridedSlice S2x8192x8x8 ![0, 0, 0, 0] A slices_S2x8192x8x64_S2x8192x8x8_0_0_0_0) (broadcastInDim S2x8192x8x8 ![0, 1, 2, 3] bcast_S2x8192x1x8_S2x8192x8x8_0_1_2_3 (broadcastInDim S2x8192x1x8 ![0, 1, 3] bcast_S2x8192x8_S2x8192x1x8_0_1_3 ci))) (mulf (extractStridedSlice S2x8192x8x8 ![0, 0, 0, 8] A slices_S2x8192x8x64_S2x8192x8x8_0_0_0_8) (broadcastInDim S2x8192x8x8 ![0, 1, 2, 3] bcast_S2x8192x1x8_S2x8192x8x8_0_1_2_3 (broadcastInDim S2x8192x1x8 ![0, 1, 3] bcast_S2x8192x8_S2x8192x1x8_0_1_3 si)))) : (⟨S2x8192x8x8, .f32⟩ : BufTy).Contents (Elt Ideal))⟩, ⟨S2x8192x8x8, ((addf (mulf (extractStridedSlice S2x8192x8x8 ![0, 0, 0, 8] A slices_S2x8192x8x64_S2x8192x8x8_0_0_0_8) (broadcastInDim S2x8192x8x8 ![0, 1, 2, 3] bcast_S2x8192x1x8_S2x8192x8x8_0_1_2_3 (broadcastInDim S2x8192x1x8 ![0, 1, 3] bcast_S2x8192x8_S2x8192x1x8_0_1_3 ci))) (mulf (extractStridedSlice S2x8192x8x8 ![0, 0, 0, 0] A slices_S2x8192x8x64_S2x8192x8x8_0_0_0_0) (broadcastInDim S2x8192x8x8 ![0, 1, 2, 3] bcast_S2x8192x1x8_S2x8192x8x8_0_1_2_3 (broadcastInDim S2x8192x1x8 ![0, 1, 3] bcast_S2x8192x8_S2x8192x1x8_0_1_3 si)))) : (⟨S2x8192x8x8, .f32⟩ : BufTy).Contents (Elt Ideal))⟩, ⟨S2x8192x8x48, ((extractStridedSlice S2x8192x8x48 ![0, 0, 0, 16] A slices_S2x8192x8x64_S2x8192x8x48_0_0_0_16) : (⟨S2x8192x8x48, .f32⟩ : BufTy).Contents (Elt Ideal))⟩] concatenates_S2x8192x8x8_S2x8192x8x8_S2x8192x8x48_S2x8192x8x64_d3 : (⟨S2x8192x8x64, .f32⟩ : BufTy).Contents (Elt Ideal)))

abbrev host_qi (z : FVec Ideal S2x8192x7240 .f32) (ci si : FVec Ideal S2x8192x8 .f32) : FVec Ideal S2x8192x512 .bf16 :=
  truncf .bf16 (shapeCast _ (mix_qi (arr_qi z) ci si) shapeCasts_S2x8192x8x64_S2x8192x512) bitsLt_bf16_f32

theorem mix_qi_at (A : FVec Ideal S2x8192x8x64 .f32) (ci si : FVec Ideal S2x8192x8 .f32) (b : Fin 2) (s : Fin 8192) (h : Fin 8) (l : Fin 64) :
    (mix_qi A ci si (ix4 b s h l) : EReal)
      = if h1 : l.val < 8 then A (ix4 b s h l) * ci (ix3 b s ⟨l.val, h1⟩) - A (ix4 b s h ⟨8 + l.val, by omega⟩) * si (ix3 b s ⟨l.val, h1⟩)
        else if h2 : l.val - 8 < 8 then
          A (ix4 b s h ⟨8 + (l.val - 8), by omega⟩) * ci (ix3 b s ⟨l.val - 8, h2⟩) + A (ix4 b s h ⟨l.val - 8, by omega⟩) * si (ix3 b s ⟨l.val - 8, h2⟩)
        else A (ix4 b s h ⟨16 + (l.val - 8 - 8), by omega⟩) := by
  unfold mix_qi
  skip
  skip
  pointwise

theorem arr_qi_at (z : FVec Ideal S2x8192x7240 .f32) (b : Fin 2) (s : Fin 8192) (h : Fin 8) (l : Fin 64) :
    (arr_qi z (ix4 b s h l) : EReal) = z (ix3 b s ⟨4608 + (h.val * 64 + l.val), by omega⟩) := by
  unfold arr_qi
  skip
  skip
  skip
  pointwise

theorem turn_qi_at (z : FVec Ideal S2x8192x7240 .f32) (ci si : FVec Ideal S2x8192x8 .f32) (b : Fin 2) (s : Fin 8192) (h : Fin 8) (l : Fin 64) :
    (mix_qi (arr_qi z) ci si (ix4 b s h l) : EReal) = spun 64 8 4608 (up fun j => z (ix3 b s j)) (up fun l => ci (ix3 b s l)) (up fun l => si (ix3 b s l)) (h.val * 64 + l.val) := by
  rw [mix_qi_at]
  simp only [arr_qi_at]
  unfold spun
  by_cases h1 : l.val < 8
  · rw [dif_pos h1, if_pos (by omega)]
    refine sub_congr ?_ ?_ ?_ ?_
    · refine up_eq (fun j => (z (ix3 b s j) : EReal)) _ _ ?_
      try dsimp only
      try omega
    · refine up_eq (fun l => (ci (ix3 b s l) : EReal)) _ _ ?_
      try dsimp only
      try omega
    · refine up_eq (fun j => (z (ix3 b s j) : EReal)) _ _ ?_
      try dsimp only
      try omega
    · refine up_eq (fun l => (si (ix3 b s l) : EReal)) _ _ ?_
      try dsimp only
      try omega
  · rw [dif_neg h1, if_neg (by omega)]
    by_cases h2 : l.val - 8 < 8
    · rw [dif_pos h2, if_pos (by omega)]
      refine add_congr ?_ ?_ ?_ ?_
      · refine up_eq (fun j => (z (ix3 b s j) : EReal)) _ _ ?_
        try dsimp only
        try omega
      · refine up_eq (fun l => (ci (ix3 b s l) : EReal)) _ _ ?_
        try dsimp only
        try omega
      · refine up_eq (fun j => (z (ix3 b s j) : EReal)) _ _ ?_
        try dsimp only
        try omega
      · refine up_eq (fun l => (si (ix3 b s l) : EReal)) _ _ ?_
        try dsimp only
        try omega
    · rw [dif_neg h2, if_neg (by omega)]
      refine up_eq (fun j => (z (ix3 b s j) : EReal)) _ _ ?_
      try dsimp only
      try omega

theorem outer_qi (A : FVec Ideal S2x8192x8x64 .f32) (b : Fin 2) (s : Fin 8192) (d : Fin 512) :
    ((truncf .bf16 (shapeCast _ A shapeCasts_S2x8192x8x64_S2x8192x512) bitsLt_bf16_f32 : FVec Ideal S2x8192x512 .bf16) (ix3 b s d) : EReal) = A (ix4 b s ⟨d.val / 64, by omega⟩ ⟨d.val % 64, by omega⟩) := by
  pointwise

theorem host_qi_at (z : FVec Ideal S2x8192x7240 .f32) (ci si : FVec Ideal S2x8192x8 .f32) (b : Fin 2) (s : Fin 8192) (d : Fin 512) :
    (host_qi z ci si (ix3 b s d) : EReal) = spun 64 8 4608 (up fun j => z (ix3 b s j)) (up fun l => ci (ix3 b s l)) (up fun l => si (ix3 b s l)) d.val := by
  have hd : d.val / 64 * 64 + d.val % 64 = d.val := by omega
  have ht := turn_qi_at z ci si b s ⟨d.val / 64, by omega⟩ ⟨d.val % 64, by omega⟩
  dsimp only at ht
  rw [hd] at ht
  refine (outer_qi (mix_qi (arr_qi z) ci si) b s d).trans ?_
  rw [ht]

end Cert.Proof.In
end
-- ==== Proof.In.Fin.Qi.lean ====
/- The input projection: one result array of the kernel from its blocks. -/
module

public import proofs.«01_k».proof.Proof.In.Parts
public import proofs.«01_k».proof.Proof.In.Host.Qi

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_qi (c : Dev nD) : (dats m 0 c).arrAt 15 cfg0.N = host_qi (hostProj (X m c) (MOD m c) (GAIN m c) (WT m c)) (CI m c) (SI m c) := by
  refine (dats m 0 c).arrAt_eq_of_covers 15 _ (by decide +kernel) fun t hf y => ?_
  blk_simp
  rw [after0_15]
  obtain ⟨u, r, d, rfl⟩ : ∃ (u : Fin 1) (r : Fin 256) (d : Fin 512), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_15.blk t).view.emb (ix3 0 r d) : S2x8192x512.Idx) = ix3 (bat t) (seq t r) d := by
    unfold bat seq
    blk_ext [ix_15]
  rw [he]
  refine (congrFun (blk_qi m c t) _).trans ?_
  refine Eq.trans ?_ (host_qi_at _ _ _ _ _ d).symm
  exact turned_spun8 512 4608 4608 (by omega) (by omega) _ (proj m c (bat t) (seq t r)) _ _ _ _
    (fun i h => (rows_at m c t r _).trans (pick_lt _ (4608 + i) (by omega))) (fun l => line_ci m c t r l) (fun l => line_si m c t r l) d

end Cert.Proof.In
end
-- ==== Proof.In.Host.Klo.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

def arr_klo (z : FVec Ideal S2x8192x7240 .f32) : FVec Ideal S2x8192x1x64 .f32 :=
  (shapeCast S2x8192x1x64 (extractStridedSlice S2x8192x64 ![0, 0, 5120] z slices_S2x8192x7240_S2x8192x64_0_0_5120) shapeCasts_S2x8192x64_S2x8192x1x64)

def mix_klo (A : FVec Ideal S2x8192x1x64 .f32) (ci si : FVec Ideal S2x8192x8 .f32) : FVec Ideal S2x8192x1x64 .f32 :=
  ((concatenate S2x8192x1x64 3 [⟨S2x8192x1x8, ((subf (mulf (extractStridedSlice S2x8192x1x8 ![0, 0, 0, 0] A slices_S2x8192x1x64_S2x8192x1x8_0_0_0_0) (broadcastInDim S2x8192x1x8 ![0, 1, 3] bcast_S2x8192x8_S2x8192x1x8_0_1_3 ci)) (mulf (extractStridedSlice S2x8192x1x8 ![0, 0, 0, 8] A slices_S2x8192x1x64_S2x8192x1x8_0_0_0_8) (broadcastInDim S2x8192x1x8 ![0, 1, 3] bcast_S2x8192x8_S2x8192x1x8_0_1_3 si))) : (⟨S2x8192x1x8, .f32⟩ : BufTy).Contents (Elt Ideal))⟩, ⟨S2x8192x1x8, ((addf (mulf (extractStridedSlice S2x8192x1x8 ![0, 0, 0, 8] A slices_S2x8192x1x64_S2x8192x1x8_0_0_0_8) (broadcastInDim S2x8192x1x8 ![0, 1, 3] bcast_S2x8192x8_S2x8192x1x8_0_1_3 ci)) (mulf (extractStridedSlice S2x8192x1x8 ![0, 0, 0, 0] A slices_S2x8192x1x64_S2x8192x1x8_0_0_0_0) (broadcastInDim S2x8192x1x8 ![0, 1, 3] bcast_S2x8192x8_S2x8192x1x8_0_1_3 si))) : (⟨S2x8192x1x8, .f32⟩ : BufTy).Contents (Elt Ideal))⟩, ⟨S2x8192x1x48, ((extractStridedSlice S2x8192x1x48 ![0, 0, 0, 16] A slices_S2x8192x1x64_S2x8192x1x48_0_0_0_16) : (⟨S2x8192x1x48, .f32⟩ : BufTy).Contents (Elt Ideal))⟩] concatenates_S2x8192x1x8_S2x8192x1x8_S2x8192x1x48_S2x8192x1x64_d3 : (⟨S2x8192x1x64, .f32⟩ : BufTy).Contents (Elt Ideal)))

abbrev host_klo (z : FVec Ideal S2x8192x7240 .f32) (ci si : FVec Ideal S2x8192x8 .f32) : FVec Ideal S2x8192x128 .bf16 :=
  truncf .bf16 (concatenate S2x8192x128 2 [⟨S2x8192x64, (shapeCast _ (mix_klo (arr_klo z) ci si) shapeCasts_S2x8192x1x64_S2x8192x64)⟩, ⟨S2x8192x64, (broadcastInDim S2x8192x64 ![] bcast_S_S2x8192x64 (constant S_ .f32 0x00000000#32))⟩] concatenates_S2x8192x64_S2x8192x64_S2x8192x128_d2) bitsLt_bf16_f32

theorem mix_klo_at (A : FVec Ideal S2x8192x1x64 .f32) (ci si : FVec Ideal S2x8192x8 .f32) (b : Fin 2) (s : Fin 8192) (h : Fin 1) (l : Fin 64) :
    (mix_klo A ci si (ix4 b s h l) : EReal)
      = if h1 : l.val < 8 then A (ix4 b s h l) * ci (ix3 b s ⟨l.val, h1⟩) - A (ix4 b s h ⟨8 + l.val, by omega⟩) * si (ix3 b s ⟨l.val, h1⟩)
        else if h2 : l.val - 8 < 8 then
          A (ix4 b s h ⟨8 + (l.val - 8), by omega⟩) * ci (ix3 b s ⟨l.val - 8, h2⟩) + A (ix4 b s h ⟨l.val - 8, by omega⟩) * si (ix3 b s ⟨l.val - 8, h2⟩)
        else A (ix4 b s h ⟨16 + (l.val - 8 - 8), by omega⟩) := by
  unfold mix_klo
  have hh : h = 0 := Subsingleton.elim _ _
  subst hh
  pointwise

theorem arr_klo_at (z : FVec Ideal S2x8192x7240 .f32) (b : Fin 2) (s : Fin 8192) (h : Fin 1) (l : Fin 64) :
    (arr_klo z (ix4 b s h l) : EReal) = z (ix3 b s ⟨5120 + (h.val * 64 + l.val), by omega⟩) := by
  unfold arr_klo
  skip
  have hh : h = 0 := Subsingleton.elim _ _
  subst hh
  pointwise

theorem turn_klo_at (z : FVec Ideal S2x8192x7240 .f32) (ci si : FVec Ideal S2x8192x8 .f32) (b : Fin 2) (s : Fin 8192) (h : Fin 1) (l : Fin 64) :
    (mix_klo (arr_klo z) ci si (ix4 b s h l) : EReal) = spun 64 8 5120 (up fun j => z (ix3 b s j)) (up fun l => ci (ix3 b s l)) (up fun l => si (ix3 b s l)) (h.val * 64 + l.val) := by
  rw [mix_klo_at]
  simp only [arr_klo_at]
  unfold spun
  by_cases h1 : l.val < 8
  · rw [dif_pos h1, if_pos (by omega)]
    refine sub_congr ?_ ?_ ?_ ?_
    · refine up_eq (fun j => (z (ix3 b s j) : EReal)) _ _ ?_
      try dsimp only
      try omega
    · refine up_eq (fun l => (ci (ix3 b s l) : EReal)) _ _ ?_
      try dsimp only
      try omega
    · refine up_eq (fun j => (z (ix3 b s j) : EReal)) _ _ ?_
      try dsimp only
      try omega
    · refine up_eq (fun l => (si (ix3 b s l) : EReal)) _ _ ?_
      try dsimp only
      try omega
  · rw [dif_neg h1, if_neg (by omega)]
    by_cases h2 : l.val - 8 < 8
    · rw [dif_pos h2, if_pos (by omega)]
      refine add_congr ?_ ?_ ?_ ?_
      · refine up_eq (fun j => (z (ix3 b s j) : EReal)) _ _ ?_
        try dsimp only
        try omega
      · refine up_eq (fun l => (ci (ix3 b s l) : EReal)) _ _ ?_
        try dsimp only
        try omega
      · refine up_eq (fun j => (z (ix3 b s j) : EReal)) _ _ ?_
        try dsimp only
        try omega
      · refine up_eq (fun l => (si (ix3 b s l) : EReal)) _ _ ?_
        try dsimp only
        try omega
    · rw [dif_neg h2, if_neg (by omega)]
      refine up_eq (fun j => (z (ix3 b s j) : EReal)) _ _ ?_
      try dsimp only
      try omega

theorem host_klo_at (z : FVec Ideal S2x8192x7240 .f32) (ci si : FVec Ideal S2x8192x8 .f32) (b : Fin 2) (s : Fin 8192) (d : Fin 128) :
    (host_klo z ci si (ix3 b s d) : EReal) = if d.val < 64 then spun 64 8 5120 (up fun j => z (ix3 b s j)) (up fun l => ci (ix3 b s l)) (up fun l => si (ix3 b s l)) d.val else 0 := by
  unfold host_klo
  generalize hA : mix_klo (arr_klo z) ci si = A
  pointwise
  by_cases h : d.val < 64
  · rw [dif_pos h, if_pos h]
    rw [← hA, turn_klo_at]
    exact congrArg _ (by simp)
  · rw [dif_neg h, if_neg h]
    skip
    skip

end Cert.Proof.In
end
-- ==== Proof.In.Fin.Klo.lean ====
/- The input projection: one result array of the kernel from its blocks. -/
module

public import proofs.«01_k».proof.Proof.In.Parts
public import proofs.«01_k».proof.Proof.In.Host.Klo

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_klo (c : Dev nD) : (dats m 0 c).arrAt 16 cfg0.N = host_klo (hostProj (X m c) (MOD m c) (GAIN m c) (WT m c)) (CI m c) (SI m c) := by
  refine (dats m 0 c).arrAt_eq_of_covers 16 _ (by decide +kernel) fun t hf y => ?_
  blk_simp
  rw [after0_16]
  obtain ⟨u, r, d, rfl⟩ : ∃ (u : Fin 1) (r : Fin 256) (d : Fin 128), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_16.blk t).view.emb (ix3 0 r d) : S2x8192x128.Idx) = ix3 (bat t) (seq t r) d := by
    unfold bat seq
    blk_ext [ix_16]
  rw [he]
  refine (congrFun (blk_klo m c t) _).trans ?_
  refine Eq.trans ?_ (host_klo_at _ _ _ _ _ d).symm
  refine Eq.trans ?_ (spun_lo _ _ _ d.val d.isLt)
  exact turned_spun8 128 5120 0 (by omega) (by omega) _ (lo (proj m c (bat t) (seq t r))) _ _ _ _
    (fun i h => (rows_at m c t r _).trans (pick_lo _ i h)) (fun l => line_ci m c t r l) (fun l => line_si m c t r l) d

end Cert.Proof.In
end
-- ==== Proof.In.Host.Khi.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

def arr_khi (z : FVec Ideal S2x8192x7240 .f32) : FVec Ideal S2x8192x1x64 .f32 :=
  (shapeCast S2x8192x1x64 (extractStridedSlice S2x8192x64 ![0, 0, 5120] z slices_S2x8192x7240_S2x8192x64_0_0_5120) shapeCasts_S2x8192x64_S2x8192x1x64)

def mix_khi (A : FVec Ideal S2x8192x1x64 .f32) (ci si : FVec Ideal S2x8192x8 .f32) : FVec Ideal S2x8192x1x64 .f32 :=
  ((concatenate S2x8192x1x64 3 [⟨S2x8192x1x8, ((subf (mulf (extractStridedSlice S2x8192x1x8 ![0, 0, 0, 0] A slices_S2x8192x1x64_S2x8192x1x8_0_0_0_0) (broadcastInDim S2x8192x1x8 ![0, 1, 3] bcast_S2x8192x8_S2x8192x1x8_0_1_3 ci)) (mulf (extractStridedSlice S2x8192x1x8 ![0, 0, 0, 8] A slices_S2x8192x1x64_S2x8192x1x8_0_0_0_8) (broadcastInDim S2x8192x1x8 ![0, 1, 3] bcast_S2x8192x8_S2x8192x1x8_0_1_3 si))) : (⟨S2x8192x1x8, .f32⟩ : BufTy).Contents (Elt Ideal))⟩, ⟨S2x8192x1x8, ((addf (mulf (extractStridedSlice S2x8192x1x8 ![0, 0, 0, 8] A slices_S2x8192x1x64_S2x8192x1x8_0_0_0_8) (broadcastInDim S2x8192x1x8 ![0, 1, 3] bcast_S2x8192x8_S2x8192x1x8_0_1_3 ci)) (mulf (extractStridedSlice S2x8192x1x8 ![0, 0, 0, 0] A slices_S2x8192x1x64_S2x8192x1x8_0_0_0_0) (broadcastInDim S2x8192x1x8 ![0, 1, 3] bcast_S2x8192x8_S2x8192x1x8_0_1_3 si))) : (⟨S2x8192x1x8, .f32⟩ : BufTy).Contents (Elt Ideal))⟩, ⟨S2x8192x1x48, ((extractStridedSlice S2x8192x1x48 ![0, 0, 0, 16] A slices_S2x8192x1x64_S2x8192x1x48_0_0_0_16) : (⟨S2x8192x1x48, .f32⟩ : BufTy).Contents (Elt Ideal))⟩] concatenates_S2x8192x1x8_S2x8192x1x8_S2x8192x1x48_S2x8192x1x64_d3 : (⟨S2x8192x1x64, .f32⟩ : BufTy).Contents (Elt Ideal)))

abbrev host_khi (z : FVec Ideal S2x8192x7240 .f32) (ci si : FVec Ideal S2x8192x8 .f32) : FVec Ideal S2x8192x128 .bf16 :=
  truncf .bf16 (concatenate S2x8192x128 2 [⟨S2x8192x64, (broadcastInDim S2x8192x64 ![] bcast_S_S2x8192x64 (constant S_ .f32 0x00000000#32))⟩, ⟨S2x8192x64, (shapeCast _ (mix_khi (arr_khi z) ci si) shapeCasts_S2x8192x1x64_S2x8192x64)⟩] concatenates_S2x8192x64_S2x8192x64_S2x8192x128_d2) bitsLt_bf16_f32

theorem mix_khi_at (A : FVec Ideal S2x8192x1x64 .f32) (ci si : FVec Ideal S2x8192x8 .f32) (b : Fin 2) (s : Fin 8192) (h : Fin 1) (l : Fin 64) :
    (mix_khi A ci si (ix4 b s h l) : EReal)
      = if h1 : l.val < 8 then A (ix4 b s h l) * ci (ix3 b s ⟨l.val, h1⟩) - A (ix4 b s h ⟨8 + l.val, by omega⟩) * si (ix3 b s ⟨l.val, h1⟩)
        else if h2 : l.val - 8 < 8 then
          A (ix4 b s h ⟨8 + (l.val - 8), by omega⟩) * ci (ix3 b s ⟨l.val - 8, h2⟩) + A (ix4 b s h ⟨l.val - 8, by omega⟩) * si (ix3 b s ⟨l.val - 8, h2⟩)
        else A (ix4 b s h ⟨16 + (l.val - 8 - 8), by omega⟩) := by
  unfold mix_khi
  have hh : h = 0 := Subsingleton.elim _ _
  subst hh
  pointwise

theorem arr_khi_at (z : FVec Ideal S2x8192x7240 .f32) (b : Fin 2) (s : Fin 8192) (h : Fin 1) (l : Fin 64) :
    (arr_khi z (ix4 b s h l) : EReal) = z (ix3 b s ⟨5120 + (h.val * 64 + l.val), by omega⟩) := by
  unfold arr_khi
  skip
  have hh : h = 0 := Subsingleton.elim _ _
  subst hh
  pointwise

theorem turn_khi_at (z : FVec Ideal S2x8192x7240 .f32) (ci si : FVec Ideal S2x8192x8 .f32) (b : Fin 2) (s : Fin 8192) (h : Fin 1) (l : Fin 64) :
    (mix_khi (arr_khi z) ci si (ix4 b s h l) : EReal) = spun 64 8 5120 (up fun j => z (ix3 b s j)) (up fun l => ci (ix3 b s l)) (up fun l => si (ix3 b s l)) (h.val * 64 + l.val) := by
  rw [mix_khi_at]
  simp only [arr_khi_at]
  unfold spun
  by_cases h1 : l.val < 8
  · rw [dif_pos h1, if_pos (by omega)]
    refine sub_congr ?_ ?_ ?_ ?_
    · refine up_eq (fun j => (z (ix3 b s j) : EReal)) _ _ ?_
      try dsimp only
      try omega
    · refine up_eq (fun l => (ci (ix3 b s l) : EReal)) _ _ ?_
      try dsimp only
      try omega
    · refine up_eq (fun j => (z (ix3 b s j) : EReal)) _ _ ?_
      try dsimp only
      try omega
    · refine up_eq (fun l => (si (ix3 b s l) : EReal)) _ _ ?_
      try dsimp only
      try omega
  · rw [dif_neg h1, if_neg (by omega)]
    by_cases h2 : l.val - 8 < 8
    · rw [dif_pos h2, if_pos (by omega)]
      refine add_congr ?_ ?_ ?_ ?_
      · refine up_eq (fun j => (z (ix3 b s j) : EReal)) _ _ ?_
        try dsimp only
        try omega
      · refine up_eq (fun l => (ci (ix3 b s l) : EReal)) _ _ ?_
        try dsimp only
        try omega
      · refine up_eq (fun j => (z (ix3 b s j) : EReal)) _ _ ?_
        try dsimp only
        try omega
      · refine up_eq (fun l => (si (ix3 b s l) : EReal)) _ _ ?_
        try dsimp only
        try omega
    · rw [dif_neg h2, if_neg (by omega)]
      refine up_eq (fun j => (z (ix3 b s j) : EReal)) _ _ ?_
      try dsimp only
      try omega

theorem host_khi_at (z : FVec Ideal S2x8192x7240 .f32) (ci si : FVec Ideal S2x8192x8 .f32) (b : Fin 2) (s : Fin 8192) (d : Fin 128) :
    (host_khi z ci si (ix3 b s d) : EReal) = if d.val < 64 then 0 else spun 64 8 5120 (up fun j => z (ix3 b s j)) (up fun l => ci (ix3 b s l)) (up fun l => si (ix3 b s l)) (d.val - 64) := by
  unfold host_khi
  generalize hA : mix_khi (arr_khi z) ci si = A
  pointwise
  by_cases h : d.val < 64
  · rw [dif_pos h, if_pos h]
    skip
    skip
  · rw [dif_neg h, if_neg h]
    rw [← hA, turn_khi_at]
    exact congrArg _ (by simp)

end Cert.Proof.In
end
-- ==== Proof.In.Fin.Khi.lean ====
/- The input projection: one result array of the kernel from its blocks. -/
module

public import proofs.«01_k».proof.Proof.In.Parts
public import proofs.«01_k».proof.Proof.In.Host.Khi

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_khi (c : Dev nD) : (dats m 0 c).arrAt 17 cfg0.N = host_khi (hostProj (X m c) (MOD m c) (GAIN m c) (WT m c)) (CI m c) (SI m c) := by
  refine (dats m 0 c).arrAt_eq_of_covers 17 _ (by decide +kernel) fun t hf y => ?_
  blk_simp
  rw [after0_17]
  obtain ⟨u, r, d, rfl⟩ : ∃ (u : Fin 1) (r : Fin 256) (d : Fin 128), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_17.blk t).view.emb (ix3 0 r d) : S2x8192x128.Idx) = ix3 (bat t) (seq t r) d := by
    unfold bat seq
    blk_ext [ix_17]
  rw [he]
  refine (congrFun (blk_khi m c t) _).trans ?_
  refine Eq.trans ?_ (host_khi_at _ _ _ _ _ d).symm
  refine Eq.trans ?_ (spun_hi _ _ _ d.val d.isLt)
  exact turned_spun8 128 5248 0 (by omega) (by omega) _ (hi (proj m c (bat t) (seq t r))) _ _ _ _
    (fun i h => (rows_at m c t r _).trans (pick_hi _ i h)) (fun l => line_ci m c t r l) (fun l => line_si m c t r l) d

end Cert.Proof.In
end
-- ==== Proof.In.Host.Wi.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

abbrev host_wi (z : FVec Ideal S2x8192x7240 .f32) : FVec Ideal S2x8192x128 .f32 :=
  concatenate S2x8192x128 2 [⟨S2x8192x8, (mulf (extractStridedSlice S2x8192x8 ![0, 0, 5184] z slices_S2x8192x7240_S2x8192x8_0_0_5184) (broadcastInDim S2x8192x8 ![] bcast_S_S2x8192x8 (constant S_ .f32 0x3EB504F3#32)))⟩, ⟨S2x8192x120, (broadcastInDim S2x8192x120 ![] bcast_S_S2x8192x120 (constant S_ .f32 0x00000000#32))⟩] concatenates_S2x8192x8_S2x8192x120_S2x8192x128_d2

theorem host_wi_at (z : FVec Ideal S2x8192x7240 .f32) (b : Fin 2) (s : Fin 8192) (d : Fin 128) : (host_wi z (ix3 b s d) : EReal)
    = if d.val < 8 then up (fun j => z (ix3 b s j)) (5184 + d.val) * Ideal.ofBits .f32 0x3EB504F3#32 else 0 := by
  pointwise
  by_cases h : d.val < 8
  · rw [dif_pos h, if_pos h]
    exact congrArg (fun y : EReal => y * Ideal.ofBits .f32 0x3EB504F3#32) (up_eq (fun j => (z (ix3 b s j) : EReal)) _ _ rfl)
  · rw [dif_neg h, if_neg h]

end Cert.Proof.In
end
-- ==== Proof.In.Fin.Wi.lean ====
/- The input projection: one result array of the kernel from its blocks. -/
module

public import proofs.«01_k».proof.Proof.In.Parts
public import proofs.«01_k».proof.Proof.In.Host.Wi

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_wi (c : Dev nD) : (dats m 0 c).arrAt 18 cfg0.N = host_wi (hostProj (X m c) (MOD m c) (GAIN m c) (WT m c)) := by
  refine (dats m 0 c).arrAt_eq_of_covers 18 _ (by decide +kernel) fun t hf y => ?_
  blk_simp
  rw [after0_18]
  obtain ⟨u, r, d, rfl⟩ : ∃ (u : Fin 1) (r : Fin 256) (d : Fin 128), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_18.blk t).view.emb (ix3 0 r d) : S2x8192x128.Idx) = ix3 (bat t) (seq t r) d := by
    unfold bat seq
    blk_ext [ix_18]
  rw [he]
  refine (congrFun (blk_wi m c t) _).trans ?_
  refine Eq.trans ?_ (host_wi_at _ _ _ d).symm
  exact (congrArg (fun y : EReal => y * Ideal.ofBits .f32 0x3EB504F3#32) (rows_at m c t r _)).trans (pick_wi _ _ d.val d.isLt)

end Cert.Proof.In
end
-- ==== Proof.In.Host.Ga.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

abbrev host_ga (z : FVec Ideal S2x8192x7240 .f32) : FVec Ideal S2x8192x1024 .f32 :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 5192] z slices_S2x8192x7240_S2x8192x1024_0_0_5192))))

theorem host_ga_at (z : FVec Ideal S2x8192x7240 .f32) (b : Fin 2) (s : Fin 8192) (d : Fin 1024) : (host_ga z (ix3 b s d) : EReal)
    = Ideal.logistic (up (fun j => z (ix3 b s j)) (5192 + d.val)) := by
  refine Eq.trans ?_ (congrArg Ideal.logistic (up_eq (fun j => (z (ix3 b s j) : EReal)) ⟨5192 + d.val, by omega⟩ _ rfl))
  unfold Ideal.logistic
  pointwise

end Cert.Proof.In
end
-- ==== Proof.In.Fin.Ga.lean ====
/- The input projection: one result array of the kernel from its blocks. -/
module

public import proofs.«01_k».proof.Proof.In.Parts
public import proofs.«01_k».proof.Proof.In.Host.Ga

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_ga (c : Dev nD) : (dats m 0 c).arrAt 19 cfg0.N = host_ga (hostProj (X m c) (MOD m c) (GAIN m c) (WT m c)) := by
  refine (dats m 0 c).arrAt_eq_of_covers 19 _ (by decide +kernel) fun t hf y => ?_
  blk_simp
  rw [after0_19]
  obtain ⟨u, r, d, rfl⟩ : ∃ (u : Fin 1) (r : Fin 256) (d : Fin 1024), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_19.blk t).view.emb (ix3 0 r d) : S2x8192x1024.Idx) = ix3 (bat t) (seq t r) d := by
    unfold bat seq
    blk_ext [ix_19]
  rw [he]
  refine (congrFun (blk_ga m c t) _).trans ?_
  refine Eq.trans ?_ (host_ga_at _ _ _ d).symm
  exact congrArg Ideal.logistic ((rows_at m c t r _).trans (pick_gate _ 5504 5192 d.val (by omega) (by omega)))

end Cert.Proof.In
end
-- ==== Proof.In.Host.Gb.lean ====
/- The input projection as the host computes it, each result at one index. -/
module

public import proofs.«01_k».proof.Proof.Gen.InProjIdeal.Run
public import proofs.«01_k».proof.Proof.Ffn.Block
public import proofs.«01_k».proof.Proof.In.Host

@[expose] public section

noncomputable section

namespace Cert.Proof.In

open Idealize.ShloMosaic Idealize.ShloMosaic.TcCoe Idealize.SL.Sem
open Cert.InProjIdeal Cert.InProjIdeal.Gen
open Cert.Proof.Ffn (normed invRms)

abbrev host_gb (z : FVec Ideal S2x8192x7240 .f32) : FVec Ideal S2x8192x1024 .f32 :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 6216] z slices_S2x8192x7240_S2x8192x1024_0_0_6216))))

theorem host_gb_at (z : FVec Ideal S2x8192x7240 .f32) (b : Fin 2) (s : Fin 8192) (d : Fin 1024) : (host_gb z (ix3 b s d) : EReal)
    = Ideal.logistic (up (fun j => z (ix3 b s j)) (6216 + d.val)) := by
  refine Eq.trans ?_ (congrArg Ideal.logistic (up_eq (fun j => (z (ix3 b s j) : EReal)) ⟨6216 + d.val, by omega⟩ _ rfl))
  unfold Ideal.logistic
  pointwise

end Cert.Proof.In
end
-- ==== Proof.In.Fin.Gb.lean ====
/- The input projection: one result array of the kernel from its blocks. -/
module

public import proofs.«01_k».proof.Proof.In.Parts
public import proofs.«01_k».proof.Proof.In.Host.Gb

@[expose] public section

noncomputable section

namespace Cert.Proof.In

open Idealize.ShloMosaic Idealize.ShloMosaic.TcCoe Idealize.SL.Sem
open Cert.KernelInIdeal Cert.KernelInIdeal.Gen

variable (m : (ℓ : Loc nD τ sig) → Buf (Elt Ideal) ℓ)

set_option maxHeartbeats 2000000 in
/-- The array is the host's term of the argument arrays. -/
theorem final_gb (c : Dev nD) : (dats m 0 c).arrAt 20 cfg0.N = host_gb (hostProj (X m c) (MOD m c) (GAIN m c) (WT m c)) := by
  refine (dats m 0 c).arrAt_eq_of_covers 20 _ (by decide +kernel) fun t hf y => ?_
  blk_simp
  rw [after0_20]
  obtain ⟨u, r, d, rfl⟩ : ∃ (u : Fin 1) (r : Fin 256) (d : Fin 1024), y = ix3 u r d := ⟨y 0, y 1, y 2, by funext a; match a with | ⟨0, _⟩ => rfl | ⟨1, _⟩ => rfl | ⟨2, _⟩ => rfl⟩
  obtain rfl : u = 0 := Subsingleton.elim _ _
  have hd := d.isLt
  have he : ((win0_20.blk t).view.emb (ix3 0 r d) : S2x8192x1024.Idx) = ix3 (bat t) (seq t r) d := by
    unfold bat seq
    blk_ext [ix_20]
  rw [he]
  refine (congrFun (blk_gb m c t) _).trans ?_
  refine Eq.trans ?_ (host_gb_at _ _ _ d).symm
  exact congrArg Ideal.logistic ((rows_at m c t r _).trans (pick_gate _ 6528 6216 d.val (by omega) (by omega)))

end Cert.Proof.In
end
-- ==== Proof.In.Ref.Qa.lean ====
/- The input projection: one result of the host's program as the term the comparison uses. -/
module

public import proofs.«01_k».proof.Proof.In.Host.Qa

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_qa (c : Dev nD) :
    (truncf .bf16 (mulf (shapeCast _ ((concatenate S2x8192x8x128 3 [⟨S2x8192x8x16, ((subf (mulf (res_main_v64 (launchContents m c)) (broadcastInDim S2x8192x8x16 ![0, 1, 2, 3] bcast_S2x8192x1x16_S2x8192x8x16_0_1_2_3 (res_main_v62 (launchContents m c)))) (mulf (res_main_v65 (launchContents m c)) (broadcastInDim S2x8192x8x16 ![0, 1, 2, 3] bcast_S2x8192x1x16_S2x8192x8x16_0_1_2_3 (res_main_v63 (launchContents m c))))) : (⟨S2x8192x8x16, .f32⟩ : BufTy).Contents (Elt Ideal))⟩, ⟨S2x8192x8x16, ((addf (mulf (res_main_v65 (launchContents m c)) (broadcastInDim S2x8192x8x16 ![0, 1, 2, 3] bcast_S2x8192x1x16_S2x8192x8x16_0_1_2_3 (res_main_v62 (launchContents m c)))) (mulf (res_main_v64 (launchContents m c)) (broadcastInDim S2x8192x8x16 ![0, 1, 2, 3] bcast_S2x8192x1x16_S2x8192x8x16_0_1_2_3 (res_main_v63 (launchContents m c))))) : (⟨S2x8192x8x16, .f32⟩ : BufTy).Contents (Elt Ideal))⟩, ⟨S2x8192x8x96, ((extractStridedSlice S2x8192x8x96 ![0, 0, 0, 32] (res_main_v61 (launchContents m c)) slices_S2x8192x8x128_S2x8192x8x96_0_0_0_32) : (⟨S2x8192x8x96, .f32⟩ : BufTy).Contents (Elt Ideal))⟩] concatenates_S2x8192x8x16_S2x8192x8x16_S2x8192x8x96_S2x8192x8x128_d3 : (⟨S2x8192x8x128, .f32⟩ : BufTy).Contents (Elt Ideal))) shapeCasts_S2x8192x8x128_S2x8192x1024) (broadcastInDim S2x8192x1024 ![] bcast_S_S2x8192x1024 (constant S_ .f32 0x3E0293EE#32))) bitsLt_bf16_f32 : FVec Ideal S2x8192x1024 .bf16)
      = host_qa (hostProj (m ((c.tc : Thread nD τ).loc main_arg0)) (m ((c.tc : Thread nD τ).loc main_arg1)) (m ((c.tc : Thread nD τ).loc main_arg2)) (m ((c.tc : Thread nD τ).loc main_arg3))) (Host.cos (angM (m ((c.tc : Thread nD τ).loc main_arg4)))) (Host.sin (angM (m ((c.tc : Thread nD τ).loc main_arg4)))) := by
  unfold res_main_v65 res_main_v64 res_main_v63 res_main_v62 res_main_v61 res_main_v58 res_main_v57 res_main_v50 res_main_v44 res_main_v31 host_qa mix_qa arr_qa angM
  rfl

end Cert.Proof.In
end
-- ==== Proof.In.Ref.Ka.lean ====
/- The input projection: one result of the host's program as the term the comparison uses. -/
module

public import proofs.«01_k».proof.Proof.In.Host.Ka

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_ka (c : Dev nD) :
    (truncf .bf16 (shapeCast _ ((concatenate S2x8192x8x128 3 [⟨S2x8192x8x16, ((subf (mulf (res_main_v84 (launchContents m c)) (broadcastInDim S2x8192x8x16 ![0, 1, 2, 3] bcast_S2x8192x1x16_S2x8192x8x16_0_1_2_3 (res_main_v82 (launchContents m c)))) (mulf (res_main_v85 (launchContents m c)) (broadcastInDim S2x8192x8x16 ![0, 1, 2, 3] bcast_S2x8192x1x16_S2x8192x8x16_0_1_2_3 (res_main_v83 (launchContents m c))))) : (⟨S2x8192x8x16, .f32⟩ : BufTy).Contents (Elt Ideal))⟩, ⟨S2x8192x8x16, ((addf (mulf (res_main_v85 (launchContents m c)) (broadcastInDim S2x8192x8x16 ![0, 1, 2, 3] bcast_S2x8192x1x16_S2x8192x8x16_0_1_2_3 (res_main_v82 (launchContents m c)))) (mulf (res_main_v84 (launchContents m c)) (broadcastInDim S2x8192x8x16 ![0, 1, 2, 3] bcast_S2x8192x1x16_S2x8192x8x16_0_1_2_3 (res_main_v83 (launchContents m c))))) : (⟨S2x8192x8x16, .f32⟩ : BufTy).Contents (Elt Ideal))⟩, ⟨S2x8192x8x96, ((extractStridedSlice S2x8192x8x96 ![0, 0, 0, 32] (res_main_v81 (launchContents m c)) slices_S2x8192x8x128_S2x8192x8x96_0_0_0_32) : (⟨S2x8192x8x96, .f32⟩ : BufTy).Contents (Elt Ideal))⟩] concatenates_S2x8192x8x16_S2x8192x8x16_S2x8192x8x96_S2x8192x8x128_d3 : (⟨S2x8192x8x128, .f32⟩ : BufTy).Contents (Elt Ideal))) shapeCasts_S2x8192x8x128_S2x8192x1024) bitsLt_bf16_f32 : FVec Ideal S2x8192x1024 .bf16)
      = host_ka (hostProj (m ((c.tc : Thread nD τ).loc main_arg0)) (m ((c.tc : Thread nD τ).loc main_arg1)) (m ((c.tc : Thread nD τ).loc main_arg2)) (m ((c.tc : Thread nD τ).loc main_arg3))) (Host.cos (angM (m ((c.tc : Thread nD τ).loc main_arg4)))) (Host.sin (angM (m ((c.tc : Thread nD τ).loc main_arg4)))) := by
  unfold res_main_v85 res_main_v84 res_main_v83 res_main_v82 res_main_v81 res_main_v58 res_main_v57 res_main_v50 res_main_v44 res_main_v31 host_ka mix_ka arr_ka angM
  rfl

end Cert.Proof.In
end
-- ==== Proof.In.Ref.Va.lean ====
/- The input projection: one result of the host's program as the term the comparison uses. -/
module

public import proofs.«01_k».proof.Proof.In.Host.Va

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_va (c : Dev nD) :
    (truncf .bf16 (extractStridedSlice S2x8192x1024 ![0, 0, 2048] (res_main_v31 (launchContents m c)) slices_S2x8192x7240_S2x8192x1024_0_0_2048) bitsLt_bf16_f32 : FVec Ideal S2x8192x1024 .bf16)
      = host_va (hostProj (m ((c.tc : Thread nD τ).loc main_arg0)) (m ((c.tc : Thread nD τ).loc main_arg1)) (m ((c.tc : Thread nD τ).loc main_arg2)) (m ((c.tc : Thread nD τ).loc main_arg3))) := by
  unfold res_main_v31 host_va
  rfl

end Cert.Proof.In
end
-- ==== Proof.In.Ref.Qb.lean ====
/- The input projection: one result of the host's program as the term the comparison uses. -/
module

public import proofs.«01_k».proof.Proof.In.Host.Qb

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_qb (c : Dev nD) :
    (truncf .bf16 (mulf (shapeCast _ ((concatenate S2x8192x8x128 3 [⟨S2x8192x8x16, ((subf (mulf (res_main_v102 (launchContents m c)) (broadcastInDim S2x8192x8x16 ![0, 1, 2, 3] bcast_S2x8192x1x16_S2x8192x8x16_0_1_2_3 (res_main_v100 (launchContents m c)))) (mulf (res_main_v103 (launchContents m c)) (broadcastInDim S2x8192x8x16 ![0, 1, 2, 3] bcast_S2x8192x1x16_S2x8192x8x16_0_1_2_3 (res_main_v101 (launchContents m c))))) : (⟨S2x8192x8x16, .f32⟩ : BufTy).Contents (Elt Ideal))⟩, ⟨S2x8192x8x16, ((addf (mulf (res_main_v103 (launchContents m c)) (broadcastInDim S2x8192x8x16 ![0, 1, 2, 3] bcast_S2x8192x1x16_S2x8192x8x16_0_1_2_3 (res_main_v100 (launchContents m c)))) (mulf (res_main_v102 (launchContents m c)) (broadcastInDim S2x8192x8x16 ![0, 1, 2, 3] bcast_S2x8192x1x16_S2x8192x8x16_0_1_2_3 (res_main_v101 (launchContents m c))))) : (⟨S2x8192x8x16, .f32⟩ : BufTy).Contents (Elt Ideal))⟩, ⟨S2x8192x8x96, ((extractStridedSlice S2x8192x8x96 ![0, 0, 0, 32] (res_main_v99 (launchContents m c)) slices_S2x8192x8x128_S2x8192x8x96_0_0_0_32) : (⟨S2x8192x8x96, .f32⟩ : BufTy).Contents (Elt Ideal))⟩] concatenates_S2x8192x8x16_S2x8192x8x16_S2x8192x8x96_S2x8192x8x128_d3 : (⟨S2x8192x8x128, .f32⟩ : BufTy).Contents (Elt Ideal))) shapeCasts_S2x8192x8x128_S2x8192x1024) (broadcastInDim S2x8192x1024 ![] bcast_S_S2x8192x1024 (constant S_ .f32 0x3E0293EE#32))) bitsLt_bf16_f32 : FVec Ideal S2x8192x1024 .bf16)
      = host_qb (hostProj (m ((c.tc : Thread nD τ).loc main_arg0)) (m ((c.tc : Thread nD τ).loc main_arg1)) (m ((c.tc : Thread nD τ).loc main_arg2)) (m ((c.tc : Thread nD τ).loc main_arg3))) (Host.cos (angM (m ((c.tc : Thread nD τ).loc main_arg4)))) (Host.sin (angM (m ((c.tc : Thread nD τ).loc main_arg4)))) := by
  unfold res_main_v103 res_main_v102 res_main_v101 res_main_v100 res_main_v99 res_main_v58 res_main_v57 res_main_v50 res_main_v44 res_main_v31 host_qb mix_qb arr_qb angM
  rfl

end Cert.Proof.In
end
-- ==== Proof.In.Ref.Kb.lean ====
/- The input projection: one result of the host's program as the term the comparison uses. -/
module

public import proofs.«01_k».proof.Proof.In.Host.Kb

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_kb (c : Dev nD) :
    (truncf .bf16 (shapeCast _ ((concatenate S2x8192x2x128 3 [⟨S2x8192x2x16, ((subf (mulf (res_main_v122 (launchContents m c)) (broadcastInDim S2x8192x2x16 ![0, 1, 2, 3] bcast_S2x8192x1x16_S2x8192x2x16_0_1_2_3 (res_main_v120 (launchContents m c)))) (mulf (res_main_v123 (launchContents m c)) (broadcastInDim S2x8192x2x16 ![0, 1, 2, 3] bcast_S2x8192x1x16_S2x8192x2x16_0_1_2_3 (res_main_v121 (launchContents m c))))) : (⟨S2x8192x2x16, .f32⟩ : BufTy).Contents (Elt Ideal))⟩, ⟨S2x8192x2x16, ((addf (mulf (res_main_v123 (launchContents m c)) (broadcastInDim S2x8192x2x16 ![0, 1, 2, 3] bcast_S2x8192x1x16_S2x8192x2x16_0_1_2_3 (res_main_v120 (launchContents m c)))) (mulf (res_main_v122 (launchContents m c)) (broadcastInDim S2x8192x2x16 ![0, 1, 2, 3] bcast_S2x8192x1x16_S2x8192x2x16_0_1_2_3 (res_main_v121 (launchContents m c))))) : (⟨S2x8192x2x16, .f32⟩ : BufTy).Contents (Elt Ideal))⟩, ⟨S2x8192x2x96, ((extractStridedSlice S2x8192x2x96 ![0, 0, 0, 32] (res_main_v119 (launchContents m c)) slices_S2x8192x2x128_S2x8192x2x96_0_0_0_32) : (⟨S2x8192x2x96, .f32⟩ : BufTy).Contents (Elt Ideal))⟩] concatenates_S2x8192x2x16_S2x8192x2x16_S2x8192x2x96_S2x8192x2x128_d3 : (⟨S2x8192x2x128, .f32⟩ : BufTy).Contents (Elt Ideal))) shapeCasts_S2x8192x2x128_S2x8192x256) bitsLt_bf16_f32 : FVec Ideal S2x8192x256 .bf16)
      = host_kb (hostProj (m ((c.tc : Thread nD τ).loc main_arg0)) (m ((c.tc : Thread nD τ).loc main_arg1)) (m ((c.tc : Thread nD τ).loc main_arg2)) (m ((c.tc : Thread nD τ).loc main_arg3))) (Host.cos (angM (m ((c.tc : Thread nD τ).loc main_arg4)))) (Host.sin (angM (m ((c.tc : Thread nD τ).loc main_arg4)))) := by
  unfold res_main_v123 res_main_v122 res_main_v121 res_main_v120 res_main_v119 res_main_v58 res_main_v57 res_main_v50 res_main_v44 res_main_v31 host_kb mix_kb arr_kb angM
  rfl

end Cert.Proof.In
end
-- ==== Proof.In.Ref.Vb.lean ====
/- The input projection: one result of the host's program as the term the comparison uses. -/
module

public import proofs.«01_k».proof.Proof.In.Host.Vb

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_vb (c : Dev nD) :
    (truncf .bf16 (extractStridedSlice S2x8192x256 ![0, 0, 4352] (res_main_v31 (launchContents m c)) slices_S2x8192x7240_S2x8192x256_0_0_4352) bitsLt_bf16_f32 : FVec Ideal S2x8192x256 .bf16)
      = host_vb (hostProj (m ((c.tc : Thread nD τ).loc main_arg0)) (m ((c.tc : Thread nD τ).loc main_arg1)) (m ((c.tc : Thread nD τ).loc main_arg2)) (m ((c.tc : Thread nD τ).loc main_arg3))) := by
  unfold res_main_v31 host_vb
  rfl

end Cert.Proof.In
end
-- ==== Proof.In.Ref.Qi.lean ====
/- The input projection: one result of the host's program as the term the comparison uses. -/
module

public import proofs.«01_k».proof.Proof.In.Host.Qi

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_qi (c : Dev nD) :
    (truncf .bf16 (shapeCast _ ((concatenate S2x8192x8x64 3 [⟨S2x8192x8x8, ((subf (mulf (res_main_v140 (launchContents m c)) (broadcastInDim S2x8192x8x8 ![0, 1, 2, 3] bcast_S2x8192x1x8_S2x8192x8x8_0_1_2_3 (res_main_v138 (launchContents m c)))) (mulf (res_main_v141 (launchContents m c)) (broadcastInDim S2x8192x8x8 ![0, 1, 2, 3] bcast_S2x8192x1x8_S2x8192x8x8_0_1_2_3 (res_main_v139 (launchContents m c))))) : (⟨S2x8192x8x8, .f32⟩ : BufTy).Contents (Elt Ideal))⟩, ⟨S2x8192x8x8, ((addf (mulf (res_main_v141 (launchContents m c)) (broadcastInDim S2x8192x8x8 ![0, 1, 2, 3] bcast_S2x8192x1x8_S2x8192x8x8_0_1_2_3 (res_main_v138 (launchContents m c)))) (mulf (res_main_v140 (launchContents m c)) (broadcastInDim S2x8192x8x8 ![0, 1, 2, 3] bcast_S2x8192x1x8_S2x8192x8x8_0_1_2_3 (res_main_v139 (launchContents m c))))) : (⟨S2x8192x8x8, .f32⟩ : BufTy).Contents (Elt Ideal))⟩, ⟨S2x8192x8x48, ((extractStridedSlice S2x8192x8x48 ![0, 0, 0, 16] (res_main_v137 (launchContents m c)) slices_S2x8192x8x64_S2x8192x8x48_0_0_0_16) : (⟨S2x8192x8x48, .f32⟩ : BufTy).Contents (Elt Ideal))⟩] concatenates_S2x8192x8x8_S2x8192x8x8_S2x8192x8x48_S2x8192x8x64_d3 : (⟨S2x8192x8x64, .f32⟩ : BufTy).Contents (Elt Ideal))) shapeCasts_S2x8192x8x64_S2x8192x512) bitsLt_bf16_f32 : FVec Ideal S2x8192x512 .bf16)
      = host_qi (hostProj (m ((c.tc : Thread nD τ).loc main_arg0)) (m ((c.tc : Thread nD τ).loc main_arg1)) (m ((c.tc : Thread nD τ).loc main_arg2)) (m ((c.tc : Thread nD τ).loc main_arg3))) (Host.cos (angI (m ((c.tc : Thread nD τ).loc main_arg4)))) (Host.sin (angI (m ((c.tc : Thread nD τ).loc main_arg4)))) := by
  unfold res_main_v141 res_main_v140 res_main_v139 res_main_v138 res_main_v137 res_main_v60 res_main_v59 res_main_v56 res_main_v44 res_main_v31 host_qi mix_qi arr_qi angI
  rfl

end Cert.Proof.In
end
-- ==== Proof.In.Ref.Klo.lean ====
/- The input projection: one result of the host's program as the term the comparison uses. -/
module

public import proofs.«01_k».proof.Proof.In.Host.Klo

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_klo (c : Dev nD) :
    (truncf .bf16 (concatenate S2x8192x128 2 [⟨S2x8192x64, (res_main_v168 (launchContents m c))⟩, ⟨S2x8192x64, (res_main_v171 (launchContents m c))⟩] concatenates_S2x8192x64_S2x8192x64_S2x8192x128_d2) bitsLt_bf16_f32 : FVec Ideal S2x8192x128 .bf16)
      = host_klo (hostProj (m ((c.tc : Thread nD τ).loc main_arg0)) (m ((c.tc : Thread nD τ).loc main_arg1)) (m ((c.tc : Thread nD τ).loc main_arg2)) (m ((c.tc : Thread nD τ).loc main_arg3))) (Host.cos (angI (m ((c.tc : Thread nD τ).loc main_arg4)))) (Host.sin (angI (m ((c.tc : Thread nD τ).loc main_arg4)))) := by
  unfold res_main_v171 res_main_v168 res_main_v159 res_main_v158 res_main_v157 res_main_v156 res_main_v155 res_main_v60 res_main_v59 res_main_v56 res_main_v44 res_main_v31 host_klo mix_klo arr_klo angI
  rfl

end Cert.Proof.In
end
-- ==== Proof.In.Ref.Khi.lean ====
/- The input projection: one result of the host's program as the term the comparison uses. -/
module

public import proofs.«01_k».proof.Proof.In.Host.Khi

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_khi (c : Dev nD) :
    (truncf .bf16 (concatenate S2x8192x128 2 [⟨S2x8192x64, (res_main_v171 (launchContents m c))⟩, ⟨S2x8192x64, (res_main_v168 (launchContents m c))⟩] concatenates_S2x8192x64_S2x8192x64_S2x8192x128_d2) bitsLt_bf16_f32 : FVec Ideal S2x8192x128 .bf16)
      = host_khi (hostProj (m ((c.tc : Thread nD τ).loc main_arg0)) (m ((c.tc : Thread nD τ).loc main_arg1)) (m ((c.tc : Thread nD τ).loc main_arg2)) (m ((c.tc : Thread nD τ).loc main_arg3))) (Host.cos (angI (m ((c.tc : Thread nD τ).loc main_arg4)))) (Host.sin (angI (m ((c.tc : Thread nD τ).loc main_arg4)))) := by
  unfold res_main_v171 res_main_v168 res_main_v159 res_main_v158 res_main_v157 res_main_v156 res_main_v155 res_main_v60 res_main_v59 res_main_v56 res_main_v44 res_main_v31 host_khi mix_khi arr_khi angI
  rfl

end Cert.Proof.In
end
-- ==== Proof.In.Ref.Wi.lean ====
/- The input projection: one result of the host's program as the term the comparison uses. -/
module

public import proofs.«01_k».proof.Proof.In.Host.Wi

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_wi (c : Dev nD) :
    (concatenate S2x8192x128 2 [⟨S2x8192x8, (mulf (extractStridedSlice S2x8192x8 ![0, 0, 5184] (res_main_v31 (launchContents m c)) slices_S2x8192x7240_S2x8192x8_0_0_5184) (broadcastInDim S2x8192x8 ![] bcast_S_S2x8192x8 (constant S_ .f32 0x3EB504F3#32)))⟩, ⟨S2x8192x120, (broadcastInDim S2x8192x120 ![] bcast_S_S2x8192x120 (constant S_ .f32 0x00000000#32))⟩] concatenates_S2x8192x8_S2x8192x120_S2x8192x128_d2 : FVec Ideal S2x8192x128 .f32)
      = host_wi (hostProj (m ((c.tc : Thread nD τ).loc main_arg0)) (m ((c.tc : Thread nD τ).loc main_arg1)) (m ((c.tc : Thread nD τ).loc main_arg2)) (m ((c.tc : Thread nD τ).loc main_arg3))) := by
  unfold res_main_v31 host_wi
  rfl

end Cert.Proof.In
end
-- ==== Proof.In.Ref.Ga.lean ====
/- The input projection: one result of the host's program as the term the comparison uses. -/
module

public import proofs.«01_k».proof.Proof.In.Host.Ga

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_ga (c : Dev nD) :
    (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 5192] (res_main_v31 (launchContents m c)) slices_S2x8192x7240_S2x8192x1024_0_0_5192)))) : FVec Ideal S2x8192x1024 .f32)
      = host_ga (hostProj (m ((c.tc : Thread nD τ).loc main_arg0)) (m ((c.tc : Thread nD τ).loc main_arg1)) (m ((c.tc : Thread nD τ).loc main_arg2)) (m ((c.tc : Thread nD τ).loc main_arg3))) := by
  unfold res_main_v31 host_ga
  rfl

end Cert.Proof.In
end
-- ==== Proof.In.Ref.Gb.lean ====
/- The input projection: one result of the host's program as the term the comparison uses. -/
module

public import proofs.«01_k».proof.Proof.In.Host.Gb

@[expose] public section

noncomputable section

namespace Cert.Proof.In

open Idealize.ShloMosaic Idealize.ShloMosaic.TcCoe Idealize.SL.Sem
open Cert.InProjIdeal Cert.InProjIdeal.Gen Cert.InProjIdeal.Value
open Cert.InProjIdeal Cert.InProjIdeal.Gen Idealize.ShloMosaic Idealize.ShloMosaic.TcCoe Idealize.SL.Sem Idealize.ShloMosaic.StableHlo

variable (m : (ℓ : Loc nD τ sig) → Buf (Elt Ideal) ℓ)

theorem ref_gb (c : Dev nD) :
    (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 6216] (res_main_v31 (launchContents m c)) slices_S2x8192x7240_S2x8192x1024_0_0_6216)))) : FVec Ideal S2x8192x1024 .f32)
      = host_gb (hostProj (m ((c.tc : Thread nD τ).loc main_arg0)) (m ((c.tc : Thread nD τ).loc main_arg1)) (m ((c.tc : Thread nD τ).loc main_arg2)) (m ((c.tc : Thread nD τ).loc main_arg3))) := by
  unfold res_main_v31 host_gb
  rfl

end Cert.Proof.In
end
-- ==== Proof.In.Value.lean ====
/- The input projection: the claim that the two programs end with the same results. -/
module

public import proofs.«01_k».proof.Defs
public import proofs.«01_k».proof.Proof.In.Fin.Qa
public import proofs.«01_k».proof.Proof.In.Fin.Ka
public import proofs.«01_k».proof.Proof.In.Fin.Va
public import proofs.«01_k».proof.Proof.In.Fin.Qb
public import proofs.«01_k».proof.Proof.In.Fin.Kb
public import proofs.«01_k».proof.Proof.In.Fin.Vb
public import proofs.«01_k».proof.Proof.In.Fin.Qi
public import proofs.«01_k».proof.Proof.In.Fin.Klo
public import proofs.«01_k».proof.Proof.In.Fin.Khi
public import proofs.«01_k».proof.Proof.In.Fin.Wi
public import proofs.«01_k».proof.Proof.In.Fin.Ga
public import proofs.«01_k».proof.Proof.In.Fin.Gb
public import proofs.«01_k».proof.Proof.In.Ref.Qa
public import proofs.«01_k».proof.Proof.In.Ref.Ka
public import proofs.«01_k».proof.Proof.In.Ref.Va
public import proofs.«01_k».proof.Proof.In.Ref.Qb
public import proofs.«01_k».proof.Proof.In.Ref.Kb
public import proofs.«01_k».proof.Proof.In.Ref.Vb
public import proofs.«01_k».proof.Proof.In.Ref.Qi
public import proofs.«01_k».proof.Proof.In.Ref.Klo
public import proofs.«01_k».proof.Proof.In.Ref.Khi
public import proofs.«01_k».proof.Proof.In.Ref.Wi
public import proofs.«01_k».proof.Proof.In.Ref.Ga
public import proofs.«01_k».proof.Proof.In.Ref.Gb

@[expose] public section

noncomputable section

namespace Cert.Proof.In

open Idealize.ShloMosaic Idealize.ShloMosaic.TcCoe Idealize.SL.Sem

set_option maxHeartbeats 2000000 in
/-- The two programs end with the same results. -/
theorem algebraic : Cert.algebraic_KernelInIdeal_InProjIdeal := by
  intro m ρ m' ρ' _ hagree
  refine ⟨fun c => (Cert.KernelInIdeal.Gen.dats m 0 c).arrAt 9 Cert.KernelInIdeal.cfg0.N,
    fun c => (Cert.KernelInIdeal.Gen.dats m 0 c).arrAt 10 Cert.KernelInIdeal.cfg0.N,
    fun c => (Cert.KernelInIdeal.Gen.dats m 0 c).arrAt 11 Cert.KernelInIdeal.cfg0.N,
    fun c => (Cert.KernelInIdeal.Gen.dats m 0 c).arrAt 12 Cert.KernelInIdeal.cfg0.N,
    fun c => (Cert.KernelInIdeal.Gen.dats m 0 c).arrAt 13 Cert.KernelInIdeal.cfg0.N,
    fun c => (Cert.KernelInIdeal.Gen.dats m 0 c).arrAt 14 Cert.KernelInIdeal.cfg0.N,
    fun c => (Cert.KernelInIdeal.Gen.dats m 0 c).arrAt 15 Cert.KernelInIdeal.cfg0.N,
    fun c => (Cert.KernelInIdeal.Gen.dats m 0 c).arrAt 16 Cert.KernelInIdeal.cfg0.N,
    fun c => (Cert.KernelInIdeal.Gen.dats m 0 c).arrAt 17 Cert.KernelInIdeal.cfg0.N,
    fun c => (Cert.KernelInIdeal.Gen.dats m 0 c).arrAt 18 Cert.KernelInIdeal.cfg0.N,
    fun c => (Cert.KernelInIdeal.Gen.dats m 0 c).arrAt 19 Cert.KernelInIdeal.cfg0.N,
    fun c => (Cert.KernelInIdeal.Gen.dats m 0 c).arrAt 20 Cert.KernelInIdeal.cfg0.N,
    Cert.KernelInIdeal.Value.run_blocks m ρ, ?_⟩
  refine (θ_run Cert.InProjIdeal.defs _ _).mono (fun _ h c => ?_) (Cert.InProjIdeal.Value.run m' ρ')
  obtain ⟨h0, h1, h2, h3, h4⟩ := hagree c
  obtain ⟨r0, r1, r2, r3, r4, r5, r6, r7, r8, r9, r10, r11, kept⟩ := h c
  refine ⟨r0.trans ?_, r1.trans ?_, r2.trans ?_, r3.trans ?_, r4.trans ?_, r5.trans ?_, r6.trans ?_, r7.trans ?_, r8.trans ?_, r9.trans ?_, r10.trans ?_, r11.trans ?_, kept⟩
  · refine (ref_qa m' c).trans (Eq.trans ?_ (final_qa m c).symm)
    rw [h0, h1, h2, h3, h4]
  · refine (ref_ka m' c).trans (Eq.trans ?_ (final_ka m c).symm)
    rw [h0, h1, h2, h3, h4]
  · refine (ref_va m' c).trans (Eq.trans ?_ (final_va m c).symm)
    rw [h0, h1, h2, h3]
  · refine (ref_qb m' c).trans (Eq.trans ?_ (final_qb m c).symm)
    rw [h0, h1, h2, h3, h4]
  · refine (ref_kb m' c).trans (Eq.trans ?_ (final_kb m c).symm)
    rw [h0, h1, h2, h3, h4]
  · refine (ref_vb m' c).trans (Eq.trans ?_ (final_vb m c).symm)
    rw [h0, h1, h2, h3]
  · refine (ref_qi m' c).trans (Eq.trans ?_ (final_qi m c).symm)
    rw [h0, h1, h2, h3, h4]
  · refine (ref_klo m' c).trans (Eq.trans ?_ (final_klo m c).symm)
    rw [h0, h1, h2, h3, h4]
  · refine (ref_khi m' c).trans (Eq.trans ?_ (final_khi m c).symm)
    rw [h0, h1, h2, h3, h4]
  · refine (ref_wi m' c).trans (Eq.trans ?_ (final_wi m c).symm)
    rw [h0, h1, h2, h3]
  · refine (ref_ga m' c).trans (Eq.trans ?_ (final_ga m c).symm)
    rw [h0, h1, h2, h3]
  · refine (ref_gb m' c).trans (Eq.trans ?_ (final_gb m c).symm)
    rw [h0, h1, h2, h3]

end Cert.Proof.In
end
-- ==== Proof.Ffn.Parts.lean ====
/- The feed-forward part: the host's result at one index, and the values the kernel's region reads. -/
module

public import proofs.«01_k».proof.Proof.Gen.KernelFfnIdeal.Value
public import proofs.«01_k».proof.Proof.Gen.FfnIdeal.Run
public import proofs.«01_k».proof.Proof.Ffn.Block

@[expose] public section

noncomputable section

namespace Cert.Proof.Ffn

open Idealize.ShloMosaic Idealize.ShloMosaic.TcCoe Idealize.SL.Sem

section
open Cert.FfnIdeal Cert.FfnIdeal.Gen

/-- The feed-forward part as the host computes it, a term over the argument arrays. -/
abbrev host (x : FVec Ideal S2x8192x1024 .f32) (mod : FVec Ideal S2x6144 .f32) (gpre gpost : FVec Ideal S1024 .f32)
    (wg wu : FVec Ideal S1024x2816 .f32) (wd : FVec Ideal S2816x1024 .f32) : FVec Ideal S2x8192x1024 .f32 :=
  addf x (mulf (broadcastInDim S2x8192x1024 ![0, 1, 2] bcast_S2x1x1024_S2x8192x1024_0_1_2 (broadcastInDim S2x1x1024 ![0, 2] bcast_S2x1024_S2x1x1024_0_2 (extractStridedSlice S2x1024 ![0, 5120] mod slices_S2x6144_S2x1024_0_5120))) (mulf (mulf (Host.dotGeneral dot_S2x8192x2816_S2816x1024_S2x8192x1024_2_0_01_1_n_n none (mulf (mulf (Host.dotGeneral dot_S2x8192x1024_S1024x2816_S2x8192x2816_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 gpre))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] mod slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] mod slices_S2x6144_S2x1024_0_3072)))) wg) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 gpre))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] mod slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] mod slices_S2x6144_S2x1024_0_3072)))) wg)))))) (Host.dotGeneral dot_S2x8192x1024_S1024x2816_S2x8192x2816_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 gpre))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] mod slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] mod slices_S2x6144_S2x1024_0_3072)))) wu)) wd) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (Host.dotGeneral dot_S2x8192x2816_S2816x1024_S2x8192x1024_2_0_01_1_n_n none (mulf (mulf (Host.dotGeneral dot_S2x8192x1024_S1024x2816_S2x8192x2816_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 gpre))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] mod slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] mod slices_S2x6144_S2x1024_0_3072)))) wg) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 gpre))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] mod slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] mod slices_S2x6144_S2x1024_0_3072)))) wg)))))) (Host.dotGeneral dot_S2x8192x1024_S1024x2816_S2x8192x2816_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 gpre))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] mod slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] mod slices_S2x6144_S2x1024_0_3072)))) wu)) wd) (Host.dotGeneral dot_S2x8192x2816_S2816x1024_S2x8192x1024_2_0_01_1_n_n none (mulf (mulf (Host.dotGeneral dot_S2x8192x1024_S1024x2816_S2x8192x2816_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 gpre))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] mod slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] mod slices_S2x6144_S2x1024_0_3072)))) wg) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 gpre))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] mod slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] mod slices_S2x6144_S2x1024_0_3072)))) wg)))))) (Host.dotGeneral dot_S2x8192x1024_S1024x2816_S2x8192x2816_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 gpre))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] mod slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] mod slices_S2x6144_S2x1024_0_3072)))) wu)) wd)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 gpost))))

set_option maxRecDepth 16384 in
set_option maxHeartbeats 1000000 in
/-- The host's result at one index. -/
theorem ref_at (x : FVec Ideal S2x8192x1024 .f32) (mod : FVec Ideal S2x6144 .f32) (gpre gpost : FVec Ideal S1024 .f32)
    (wg wu : FVec Ideal S1024x2816 .f32) (wd : FVec Ideal S2816x1024 .f32) (b : Fin 2) (s : Fin 8192) (d : Fin 1024) :
    host x mod gpre gpost wg wu wd (ix3 b s d)
      = entry (fun k => x (ix3 b s k)) (fun k => gpre (ix1 k)) (fun k => mod (ix2 b ⟨4096 + k.val, by omega⟩))
          (fun k => mod (ix2 b ⟨3072 + k.val, by omega⟩)) (fun k l => wg (ix2 k l)) (fun k l => wu (ix2 k l)) (fun l j => wd (ix2 l j))
          (mod (ix2 b ⟨5120 + d.val, by omega⟩)) (gpost (ix1 d)) d := by
  unfold entry merge unit normed invRms Ideal.logistic
  pointwise
  try rfl
end

section
open Cert.KernelFfnIdeal Cert.KernelFfnIdeal.Gen

variable (m : (ℓ : Loc nD τ sig) → Buf (Elt Ideal) ℓ)

/-- The modulation's scale row the region reads. -/
theorem V_scale (c : Dev nD) (b : Fin 2) (d : Fin 1024) :
    (V m c main_v9 : FVec Ideal S2x1x1024 .f32) (ix3 b 0 d) = (m ((c : Thread nD τ).loc main_arg1) : FVec Ideal S2x6144 .f32) (ix2 b ⟨4096 + d.val, by omega⟩) := by
  have h : (V m c main_v9 : FVec Ideal S2x1x1024 .f32)
      = shapeCast S2x1x1024 (extractStridedSlice S2x1024 ![0, 4096] (m ((c : Thread nD τ).loc main_arg1) : FVec Ideal S2x6144 .f32) slices_S2x6144_S2x1024_0_4096) shapeCasts_S2x1024_S2x1x1024 := by
    unfold V
    after_results_simp
    try rfl
  rw [h]
  pointwise

/-- The modulation's shift row the region reads. -/
theorem V_shift (c : Dev nD) (b : Fin 2) (d : Fin 1024) :
    (V m c main_v7 : FVec Ideal S2x1x1024 .f32) (ix3 b 0 d) = (m ((c : Thread nD τ).loc main_arg1) : FVec Ideal S2x6144 .f32) (ix2 b ⟨3072 + d.val, by omega⟩) := by
  have h : (V m c main_v7 : FVec Ideal S2x1x1024 .f32)
      = shapeCast S2x1x1024 (extractStridedSlice S2x1024 ![0, 3072] (m ((c : Thread nD τ).loc main_arg1) : FVec Ideal S2x6144 .f32) slices_S2x6144_S2x1024_0_3072) shapeCasts_S2x1024_S2x1x1024 := by
    unfold V
    after_results_simp
    try rfl
  rw [h]
  pointwise

/-- The modulation's gate row the region reads. -/
theorem V_gate (c : Dev nD) (b : Fin 2) (d : Fin 1024) :
    (V m c main_v11 : FVec Ideal S2x1x1024 .f32) (ix3 b 0 d) = (m ((c : Thread nD τ).loc main_arg1) : FVec Ideal S2x6144 .f32) (ix2 b ⟨5120 + d.val, by omega⟩) := by
  have h : (V m c main_v11 : FVec Ideal S2x1x1024 .f32)
      = shapeCast S2x1x1024 (extractStridedSlice S2x1024 ![0, 5120] (m ((c : Thread nD τ).loc main_arg1) : FVec Ideal S2x6144 .f32) slices_S2x6144_S2x1024_0_5120) shapeCasts_S2x1024_S2x1x1024 := by
    unfold V
    after_results_simp
    try rfl
  rw [h]
  pointwise

/-- The pre-gain the region reads. -/
theorem V_pre (c : Dev nD) (d : Fin 1024) :
    (V m c main_v15 : FVec Ideal S1x1024 .f32) (ix2 0 d) = (m ((c : Thread nD τ).loc main_arg2) : FVec Ideal S1024 .f32) (ix1 d) := by
  have h : (V m c main_v15 : FVec Ideal S1x1024 .f32)
      = shapeCast S1x1024 (m ((c : Thread nD τ).loc main_arg2) : FVec Ideal S1024 .f32) shapeCasts_S1024_S1x1024 := by
    unfold V
    after_results_simp
    try rfl
  rw [h]
  pointwise

/-- The post-gain the region reads. -/
theorem V_post (c : Dev nD) (d : Fin 1024) :
    (V m c main_v16 : FVec Ideal S1x1024 .f32) (ix2 0 d) = (m ((c : Thread nD τ).loc main_arg3) : FVec Ideal S1024 .f32) (ix1 d) := by
  have h : (V m c main_v16 : FVec Ideal S1x1024 .f32)
      = shapeCast S1x1024 (m ((c : Thread nD τ).loc main_arg3) : FVec Ideal S1024 .f32) shapeCasts_S1024_S1x1024 := by
    unfold V
    after_results_simp
    try rfl
  rw [h]
  pointwise

/-- A weight the region reads. -/
theorem V_wg (c : Dev nD) (k : Fin 1024) (d : Fin 2816) :
    (V m c main_v12 : FVec Ideal S1024x2816 .bf16) (ix2 k d) = (m ((c : Thread nD τ).loc main_arg4) : FVec Ideal S1024x2816 .f32) (ix2 k d) := by
  have h : V m c main_v12
      = (truncf (F := Ideal) .bf16 (m ((c : Thread nD τ).loc main_arg4) : FVec Ideal S1024x2816 .f32) bitsLt_bf16_f32 : FVec Ideal S1024x2816 .bf16) := by
    unfold V
    after_results_simp
    try rfl
  rw [h]
  pointwise

/-- A weight the region reads. -/
theorem V_wu (c : Dev nD) (k : Fin 1024) (d : Fin 2816) :
    (V m c main_v13 : FVec Ideal S1024x2816 .bf16) (ix2 k d) = (m ((c : Thread nD τ).loc main_arg5) : FVec Ideal S1024x2816 .f32) (ix2 k d) := by
  have h : V m c main_v13
      = (truncf (F := Ideal) .bf16 (m ((c : Thread nD τ).loc main_arg5) : FVec Ideal S1024x2816 .f32) bitsLt_bf16_f32 : FVec Ideal S1024x2816 .bf16) := by
    unfold V
    after_results_simp
    try rfl
  rw [h]
  pointwise

/-- A weight the region reads. -/
theorem V_wd (c : Dev nD) (k : Fin 2816) (d : Fin 1024) :
    (V m c main_v14 : FVec Ideal S2816x1024 .bf16) (ix2 k d) = (m ((c : Thread nD τ).loc main_arg6) : FVec Ideal S2816x1024 .f32) (ix2 k d) := by
  have h : V m c main_v14
      = (truncf (F := Ideal) .bf16 (m ((c : Thread nD τ).loc main_arg6) : FVec Ideal S2816x1024 .f32) bitsLt_bf16_f32 : FVec Ideal S2816x1024 .bf16) := by
    unfold V
    after_results_simp
    try rfl
  rw [h]
  pointwise

theorem ix_0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem ix_1 : ∀ t : Fin cfg0.N, win0_1.index t = ![(grid0.coords t 0).val, 0, 0] :=
  (by decide +kernel : ∀ t : Fin grid0.N, win0_1.index t = ![(grid0.coords t 0).val, 0, 0])
theorem ix_2 : ∀ t : Fin cfg0.N, win0_2.index t = ![(grid0.coords t 0).val, 0, 0] :=
  (by decide +kernel : ∀ t : Fin grid0.N, win0_2.index t = ![(grid0.coords t 0).val, 0, 0])
theorem ix_3 : ∀ t : Fin cfg0.N, win0_3.index t = ![(grid0.coords t 0).val, 0, 0] :=
  (by decide +kernel : ∀ t : Fin grid0.N, win0_3.index t = ![(grid0.coords t 0).val, 0, 0])
theorem ix_4 : ∀ t : Fin cfg0.N, win0_4.index t = ![0, 0] :=
  (by decide +kernel : ∀ t : Fin grid0.N, win0_4.index t = ![0, 0])
theorem ix_5 : ∀ t : Fin cfg0.N, win0_5.index t = ![0, 0] :=
  (by decide +kernel : ∀ t : Fin grid0.N, win0_5.index t = ![0, 0])
theorem ix_6 : ∀ t : Fin cfg0.N, win0_6.index t = ![0, 0] :=
  (by decide +kernel : ∀ t : Fin grid0.N, win0_6.index t = ![0, 0])
theorem ix_7 : ∀ t : Fin cfg0.N, win0_7.index t = ![0, 0] :=
  (by decide +kernel : ∀ t : Fin grid0.N, win0_7.index t = ![0, 0])
theorem ix_8 : ∀ t : Fin cfg0.N, win0_8.index t = ![0, 0] :=
  (by decide +kernel : ∀ t : Fin grid0.N, win0_8.index t = ![0, 0])
theorem ix_9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])

end

end Cert.Proof.Ffn
end
-- ==== Proof.Ffn.Value.lean ====
/- The feed-forward part: the kernel's array from its blocks, and the
   claim that the two programs end with the same result. -/
module

public import proofs.«01_k».proof.Defs
public import proofs.«01_k».proof.Proof.Gen.KernelFfnIdeal.Value
public import proofs.«01_k».proof.Proof.Gen.FfnIdeal.Run
public import proofs.«01_k».proof.Proof.Ffn.Parts

@[expose] public section

noncomputable section

namespace Cert.Proof.Ffn

open Idealize.ShloMosaic Idealize.ShloMosaic.TcCoe Idealize.SL.Sem

section
open Cert.KernelFfnIdeal Cert.KernelFfnIdeal.Gen

variable (m : (ℓ : Loc nD τ sig) → Buf (Elt Ideal) ℓ)

set_option maxHeartbeats 2000000 in
/-- The kernel's result array is the host's term of the argument arrays. -/
theorem final (c : Dev nD) : (dats m 0 c).arrAt 9 cfg0.N
    = host (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 9 _ (by decide +kernel) fun t hf y => ?_
  blk_simp
  rw [after0_9]
  obtain ⟨u, r, d, rfl⟩ : ∃ (u : Fin 1) (r : Fin 256) (d : Fin 1024), y = ix3 u r d := ⟨y 0, y 1, y 2, by funext a; match a with | ⟨0, _⟩ => rfl | ⟨1, _⟩ => rfl | ⟨2, _⟩ => rfl⟩
  obtain rfl : u = 0 := Subsingleton.elim _ _
  have hb : (grid0.coords t 0).val < 2 := (grid0.coords t 0).isLt
  have hs : (grid0.coords t 1).val < 32 := (grid0.coords t 1).isLt
  have he : ((win0_9.blk t).view.emb (ix3 0 r d) : S2x8192x1024.Idx)
      = ix3 ⟨(grid0.coords t 0).val, hb⟩ ⟨(grid0.coords t 1).val * 256 + r.val, by omega⟩ d := by
    blk_ext [ix_9]
  rw [he]
  refine (congrFun (blk_at m c t) _).trans ?_
  refine (blk_entry _ _ _ _ _ _ _ _ _ r d).trans (Eq.trans ?_ (ref_at _ _ _ _ _ _ _ _ _ d).symm)
  have e0 : ∀ k : Fin 1024, ((win0_0.blk t).view.emb (ix3 0 r k) : S2x8192x1024.Idx)
      = ix3 ⟨(grid0.coords t 0).val, hb⟩ ⟨(grid0.coords t 1).val * 256 + r.val, by omega⟩ k := fun k => by
    blk_ext [ix_0]
  have e1 : ∀ k : Fin 1024, ((win0_1.blk t).view.emb (ix3 0 0 k) : S2x1x1024.Idx) = ix3 ⟨(grid0.coords t 0).val, hb⟩ 0 k := fun k => by
    blk_ext [ix_1]
  have e2 : ∀ k : Fin 1024, ((win0_2.blk t).view.emb (ix3 0 0 k) : S2x1x1024.Idx) = ix3 ⟨(grid0.coords t 0).val, hb⟩ 0 k := fun k => by
    blk_ext [ix_2]
  have e3 : ∀ k : Fin 1024, ((win0_3.blk t).view.emb (ix3 0 0 k) : S2x1x1024.Idx) = ix3 ⟨(grid0.coords t 0).val, hb⟩ 0 k := fun k => by
    blk_ext [ix_3]
  have e4 : ∀ k : Fin 1024, ((win0_4.blk t).view.emb (ix2 0 k) : S1x1024.Idx) = ix2 0 k := fun k => by
    blk_ext [ix_4]
  have e5 : ∀ k : Fin 1024, ((win0_5.blk t).view.emb (ix2 0 k) : S1x1024.Idx) = ix2 0 k := fun k => by
    blk_ext [ix_5]
  have e6 : ∀ (k : Fin 1024) (j : Fin 2816), ((win0_6.blk t).view.emb (ix2 k j) : S1024x2816.Idx) = ix2 k j := fun k j => by
    blk_ext [ix_6]
  have e7 : ∀ (k : Fin 1024) (j : Fin 2816), ((win0_7.blk t).view.emb (ix2 k j) : S1024x2816.Idx) = ix2 k j := fun k j => by
    blk_ext [ix_7]
  have e8 : ∀ (k : Fin 2816) (j : Fin 1024), ((win0_8.blk t).view.emb (ix2 k j) : S2816x1024.Idx) = ix2 k j := fun k j => by
    blk_ext [ix_8]
  refine entry_congr (fun k => ?_) (fun k => ?_) (fun k => ?_) (fun k => ?_) (fun k l => ?_) (fun k l => ?_) (fun l j => ?_) ?_ ?_
  · exact (congrArg (V m c main_arg0) (e0 k)).trans (congrFun (V_main_arg0 m c) _)
  · exact (congrArg (V m c main_v15) (e4 k)).trans (V_pre m c k)
  · exact (congrArg (V m c main_v9) (e1 k)).trans (V_scale m c _ k)
  · exact (congrArg (V m c main_v7) (e2 k)).trans (V_shift m c _ k)
  · exact (congrArg (V m c main_v12) (e6 k l)).trans (V_wg m c k l)
  · exact (congrArg (V m c main_v13) (e7 k l)).trans (V_wu m c k l)
  · exact (congrArg (V m c main_v14) (e8 l j)).trans (V_wd m c l j)
  · exact (congrArg (V m c main_v11) (e3 d)).trans (V_gate m c _ d)
  · exact (congrArg (V m c main_v16) (e5 d)).trans (V_post m c d)
end

/-- The two programs end with the same result. -/
theorem algebraic : Cert.algebraic_KernelFfnIdeal_FfnIdeal := by
  intro m ρ m' ρ' _ hagree
  refine ⟨fun c => (Cert.KernelFfnIdeal.Gen.dats m 0 c).arrAt 9 Cert.KernelFfnIdeal.cfg0.N, Cert.KernelFfnIdeal.Value.run_blocks m ρ, ?_⟩
  refine (θ_run Cert.FfnIdeal.defs _ _).mono (fun _ h c => ⟨(h c).1.trans ?_, (h c).2⟩) (Cert.FfnIdeal.Value.run m' ρ')
  obtain ⟨h0, h1, h2, h3, h4, h5, h6⟩ := hagree c
  refine Eq.trans ?_ (final m c).symm
  unfold Cert.FfnIdeal.Value.res_main_v51
  rw [h0, h1, h2, h3, h4, h5, h6]

end Cert.Proof.Ffn
end
-- ==== Proof.Dsa.Search.lean ====
/- The loops of the threshold search: each trip only reads the score buffer, so the buffer at its contents is the
   whole invariant, whatever the carried words are. -/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Tactic

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The bit search over the value range: a trip counts the scores below the candidate bound. -/
@[sl_loop] def loopInv_k0_t5 (c : Dev nD) (i : grid0.Coords) (arg2 : Memref sig .tc .vmem S1x128x1024 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128x512 .bf16) (harg7 : arg7.IsWhole) (arg8 : Memref sig .tc .vmem S1x128x128 .f32) (harg8 : arg8.IsWhole) (arg9 : Memref sig .tc .vmem S1x128x1024 .f32) (harg9 : arg9.IsWhole) (arg10 : Memref sig .tc .vmem S8192x128 .f32) (harg10 : arg10.IsWhole) (arg11 : Memref sig .tc .vmem S256x128 .f32) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x128x256 .f32) (harg14 : arg14.IsWhole) (arg15 : Memref sig .tc .vmem S4x512x256 .f32) (harg15 : arg15.IsWhole) (arg16 : Memref sig .tc .vmem S4x512x256 .f32) (harg16 : arg16.IsWhole) (arg17 : Memref sig .tc .vmem S4x512x256 .bf16) (harg17 : arg17.IsWhole) (v20 : BitVec 32) (v58 : IVec S64x128 32) (v85 : IVec S1x128 32) (v97 : IVec S1x128 32) (v98 : BitVec 32) (v106 : FVec F S1x128 .f32) (v107 : IVec S64x128 32) (c0_i32_45 : BitVec 32) (v112 : BitVec 32) (c1_i32_47 : BitVec 32) (v122 : BitVec 32) (k0_hw1 : k0_chk1 v122) (init : IVec S1x128 32 × IVec S1x128 32) (X10 : BufTy.Contents (Elt F) arg10.view.ty) :
    Cert.Kernel.Gen.LoopInvTy_k0_t5 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v58 v85 v97 v98 v106 v107 c0_i32_45 v112 c1_i32_47 v122 k0_hw1 init where
  inv := fun _ _ => iprop((arg10.view.loc (c : Thread nD τ) ↦[arg10.view.set]{fullShare} X10))
  step := fun k acc => by
    obtain ⟨a, b⟩ := acc
    unfold k0_t5_body
    iintro H10
    sl_exec
    sl_step
    iexact H10

/-- The rest of the bit search. -/
@[sl_loop] def loopInv_k0_t8 (c : Dev nD) (i : grid0.Coords) (arg2 : Memref sig .tc .vmem S1x128x1024 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128x512 .bf16) (harg7 : arg7.IsWhole) (arg8 : Memref sig .tc .vmem S1x128x128 .f32) (harg8 : arg8.IsWhole) (arg9 : Memref sig .tc .vmem S1x128x1024 .f32) (harg9 : arg9.IsWhole) (arg10 : Memref sig .tc .vmem S8192x128 .f32) (harg10 : arg10.IsWhole) (arg11 : Memref sig .tc .vmem S256x128 .f32) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x128x256 .f32) (harg14 : arg14.IsWhole) (arg15 : Memref sig .tc .vmem S4x512x256 .f32) (harg15 : arg15.IsWhole) (arg16 : Memref sig .tc .vmem S4x512x256 .f32) (harg16 : arg16.IsWhole) (arg17 : Memref sig .tc .vmem S4x512x256 .bf16) (harg17 : arg17.IsWhole) (v20 : BitVec 32) (v58 : IVec S64x128 32) (v85 : IVec S1x128 32) (v97 : IVec S1x128 32) (v98 : BitVec 32) (v106 : FVec F S1x128 .f32) (v107 : IVec S64x128 32) (c0_i32_45 : BitVec 32) (v112 : BitVec 32) (c1_i32_47 : BitVec 32) (v122 : BitVec 32) (k0_hw1 : k0_chk1 v122) (init : IVec S1x128 32 × IVec S1x128 32) (X10 : BufTy.Contents (Elt F) arg10.view.ty) :
    Cert.Kernel.Gen.LoopInvTy_k0_t8 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v58 v85 v97 v98 v106 v107 c0_i32_45 v112 c1_i32_47 v122 k0_hw1 init where
  inv := fun _ _ => iprop((arg10.view.loc (c : Thread nD τ) ↦[arg10.view.set]{fullShare} X10))
  step := fun k acc => by
    obtain ⟨a, b⟩ := acc
    unfold k0_t8_body
    iintro H10
    sl_exec
    sl_step
    iexact H10

/-- The search for the last admitted position among the scores equal to the threshold. -/
@[sl_loop] def loopInv_k0_t13 (c : Dev nD) (i : grid0.Coords) (arg2 : Memref sig .tc .vmem S1x128x1024 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128x512 .bf16) (harg7 : arg7.IsWhole) (arg8 : Memref sig .tc .vmem S1x128x128 .f32) (harg8 : arg8.IsWhole) (arg9 : Memref sig .tc .vmem S1x128x1024 .f32) (harg9 : arg9.IsWhole) (arg10 : Memref sig .tc .vmem S8192x128 .f32) (harg10 : arg10.IsWhole) (arg11 : Memref sig .tc .vmem S256x128 .f32) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x128x256 .f32) (harg14 : arg14.IsWhole) (arg15 : Memref sig .tc .vmem S4x512x256 .f32) (harg15 : arg15.IsWhole) (arg16 : Memref sig .tc .vmem S4x512x256 .f32) (harg16 : arg16.IsWhole) (arg17 : Memref sig .tc .vmem S4x512x256 .bf16) (harg17 : arg17.IsWhole) (v20 : BitVec 32) (v21 : IVec S512x128 32) (v58 : IVec S64x128 32) (v139 : FVec F S1x128 .f32) (v152 : IVec S1x128 1) (c0_i32_64 : BitVec 32) (v153 : IVec S1x128 32) (v343 : IVec S64x128 32) (init : IVec S1x128 32) (X10 : BufTy.Contents (Elt F) arg10.view.ty) :
    Cert.Kernel.Gen.LoopInvTy_k0_t13 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v21 v58 v139 v152 c0_i32_64 v153 v343 init where
  inv := fun _ _ => iprop((arg10.view.loc (c : Thread nD τ) ↦[arg10.view.set]{fullShare} X10))
  step := fun k acc => by
    unfold k0_t13_body
    iintro H10
    sl_exec
    sl_step
    iexact H10

end Cert.Proof.Dsa

end
-- ==== Proof.Dsa.Branch.lean ====
/- The part of the sparse attention body with the branch on tied scores, run once at any contents. -/
module

public import proofs.«01_k».proof.Proof.Dsa.Search

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 4000000 in
/-- The part that searches, where scores tie at the threshold, for the last admitted position, and starts the running sums. -/
theorem branch (c : Dev nD) (i : grid0.Coords) (arg2 : Memref sig .tc .vmem S1x128x1024 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128x512 .bf16) (harg7 : arg7.IsWhole) (arg8 : Memref sig .tc .vmem S1x128x128 .f32) (harg8 : arg8.IsWhole) (arg9 : Memref sig .tc .vmem S1x128x1024 .f32) (harg9 : arg9.IsWhole) (arg10 : Memref sig .tc .vmem S8192x128 .f32) (harg10 : arg10.IsWhole) (arg11 : Memref sig .tc .vmem S256x128 .f32) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x128x256 .f32) (harg14 : arg14.IsWhole) (arg15 : Memref sig .tc .vmem S4x512x256 .f32) (harg15 : arg15.IsWhole) (arg16 : Memref sig .tc .vmem S4x512x256 .f32) (harg16 : arg16.IsWhole) (arg17 : Memref sig .tc .vmem S4x512x256 .bf16) (harg17 : arg17.IsWhole) (v20 : BitVec 32) (v21 : IVec S512x128 32) (v58 : IVec S64x128 32) (v139 : FVec F S1x128 .f32) (v152 : IVec S1x128 1) (c0_i32_64 : BitVec 32) (v153 : IVec S1x128 32)
    (X2 : BufTy.Contents (Elt F) arg2.view.ty) (X10 : BufTy.Contents (Elt F) arg10.view.ty) (X12 : BufTy.Contents (Elt F) arg12.view.ty) (X13 : BufTy.Contents (Elt F) arg13.view.ty) (X14 : BufTy.Contents (Elt F) arg14.view.ty) :
    (iprop((arg2.view.loc (c : Thread nD τ) ↦[arg2.view.set]{fullShare} X2) ∗ (arg10.view.loc (c : Thread nD τ) ↦[arg10.view.set]{fullShare} X10) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) : sProp 𝕄)
      ⊢ wp frame (wpE (defs₀ (F := F)) Variants.none c none) Set.univ (k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v21 v58 v139 v152 c0_i32_64 v153)
          (fun _ => iprop((arg2.view.loc (c : Thread nD τ) ↦[arg2.view.set]{fullShare} X2) ∗ (∃ Y, arg10.view.loc (c : Thread nD τ) ↦[arg10.view.set]{fullShare} Y) ∗ (∃ Y, arg12.view.loc (c : Thread nD τ) ↦[arg12.view.set]{fullShare} Y) ∗ (∃ Y, arg13.view.loc (c : Thread nD τ) ↦[arg13.view.set]{fullShare} Y) ∗ (∃ Y, arg14.view.loc (c : Thread nD τ) ↦[arg14.view.set]{fullShare} Y))) := by
  iintro ⟨H2, H10, H12, H13, H14⟩
  simp only [k0_part117_eq_skeleton]; unfold k0_part117_skel
  dsimp only
  split
  · sl_exec
    sl_step
    sl_close
  · sl_exec
    sl_step
    sl_close

end Cert.Proof.Dsa

end
-- ==== Proof.Dsa.Pair.lean ====
/- The attention loop over pairs of key tiles: a trip reads the keys, the values and the masked scores and rewrites
   the running maximum, the denominator, the accumulator and the three score tiles. -/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Tactic

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 4000000 in
/-- One pair of key tiles. -/
@[sl_loop] def loopInv_k0_t18 (c : Dev nD) (i : grid0.Coords) (arg2 : Memref sig .tc .vmem S1x128x1024 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128x512 .bf16) (harg7 : arg7.IsWhole) (arg8 : Memref sig .tc .vmem S1x128x128 .f32) (harg8 : arg8.IsWhole) (arg9 : Memref sig .tc .vmem S1x128x1024 .f32) (harg9 : arg9.IsWhole) (arg10 : Memref sig .tc .vmem S8192x128 .f32) (harg10 : arg10.IsWhole) (arg11 : Memref sig .tc .vmem S256x128 .f32) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x128x256 .f32) (harg14 : arg14.IsWhole) (arg15 : Memref sig .tc .vmem S4x512x256 .f32) (harg15 : arg15.IsWhole) (arg16 : Memref sig .tc .vmem S4x512x256 .f32) (harg16 : arg16.IsWhole) (arg17 : Memref sig .tc .vmem S4x512x256 .bf16) (harg17 : arg17.IsWhole) (v20 : BitVec 32) (v139 : FVec F S1x128 .f32) (v179 : FVec F S256x128 .bf16) (v184 : FVec F S256x128 .bf16) (v189 : FVec F S256x128 .bf16) (v194 : FVec F S256x128 .bf16) (v237 : BitVec 32) (v251 : BitVec 1) (X3 : BufTy.Contents (Elt F) arg3.view.ty) (X4 : BufTy.Contents (Elt F) arg4.view.ty) (X10 : BufTy.Contents (Elt F) arg10.view.ty) :
    Cert.Kernel.Gen.LoopInvTy_k0_t18 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v139 v179 v184 v189 v194 v237 v251 where
  inv := fun _ _ => iprop((arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} X10) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)))
  step := fun k acc => by
    unfold k0_t18_body
    iintro ⟨H3, H4, H10, ⟨%f12, H12⟩, ⟨%f13, H13⟩, ⟨%f14, H14⟩, ⟨%f15, H15⟩, ⟨%f16, H16⟩, ⟨%f17, H17⟩⟩
    sl_exec_parts
    sl_step
    isplitl [H3]; · iexact H3
    isplitl [H4]; · iexact H4
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Proof.Dsa

end
-- ==== Proof.Dsa.PairRest.lean ====
/- The rest of the attention loop. -/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Tactic

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 4000000 in
/-- One pair of key tiles, past the main loop. -/
@[sl_loop] def loopInv_k0_t19 (c : Dev nD) (i : grid0.Coords) (arg2 : Memref sig .tc .vmem S1x128x1024 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128x512 .bf16) (harg7 : arg7.IsWhole) (arg8 : Memref sig .tc .vmem S1x128x128 .f32) (harg8 : arg8.IsWhole) (arg9 : Memref sig .tc .vmem S1x128x1024 .f32) (harg9 : arg9.IsWhole) (arg10 : Memref sig .tc .vmem S8192x128 .f32) (harg10 : arg10.IsWhole) (arg11 : Memref sig .tc .vmem S256x128 .f32) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x128x256 .f32) (harg14 : arg14.IsWhole) (arg15 : Memref sig .tc .vmem S4x512x256 .f32) (harg15 : arg15.IsWhole) (arg16 : Memref sig .tc .vmem S4x512x256 .f32) (harg16 : arg16.IsWhole) (arg17 : Memref sig .tc .vmem S4x512x256 .bf16) (harg17 : arg17.IsWhole) (v20 : BitVec 32) (v139 : FVec F S1x128 .f32) (v179 : FVec F S256x128 .bf16) (v184 : FVec F S256x128 .bf16) (v189 : FVec F S256x128 .bf16) (v194 : FVec F S256x128 .bf16) (v237 : BitVec 32) (v251 : BitVec 1) (v258 : BitVec 32) (X3 : BufTy.Contents (Elt F) arg3.view.ty) (X4 : BufTy.Contents (Elt F) arg4.view.ty) (X10 : BufTy.Contents (Elt F) arg10.view.ty) :
    Cert.Kernel.Gen.LoopInvTy_k0_t19 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v139 v179 v184 v189 v194 v237 v251 v258 where
  inv := fun _ _ => iprop((arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} X10) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)))
  step := fun k acc => by
    unfold k0_t19_body
    iintro ⟨H3, H4, H10, ⟨%f12, H12⟩, ⟨%f13, H13⟩, ⟨%f14, H14⟩, ⟨%f15, H15⟩, ⟨%f16, H16⟩, ⟨%f17, H17⟩⟩
    sl_exec_parts
    sl_step
    isplitl [H3]; · iexact H3
    isplitl [H4]; · iexact H4
    isplitl [H10]; · iexact H10
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Proof.Dsa

end
-- ==== Proof.Dsa.Tail.lean ====
/- The part of the sparse attention body with the loop over key blocks, run once at any contents. -/
module

public import proofs.«01_k».proof.Proof.Dsa.Search
public import proofs.«01_k».proof.Proof.Dsa.Pair
public import proofs.«01_k».proof.Proof.Dsa.PairRest

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 8000000 in
/-- The part with the loop over the key blocks and the last key block, run once at any contents. -/
theorem tail (c : Dev nD) (i : grid0.Coords) (arg2 : Memref sig .tc .vmem S1x128x1024 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128x512 .bf16) (harg7 : arg7.IsWhole) (arg8 : Memref sig .tc .vmem S1x128x128 .f32) (harg8 : arg8.IsWhole) (arg9 : Memref sig .tc .vmem S1x128x1024 .f32) (harg9 : arg9.IsWhole) (arg10 : Memref sig .tc .vmem S8192x128 .f32) (harg10 : arg10.IsWhole) (arg11 : Memref sig .tc .vmem S256x128 .f32) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x128x256 .f32) (harg14 : arg14.IsWhole) (arg15 : Memref sig .tc .vmem S4x512x256 .f32) (harg15 : arg15.IsWhole) (arg16 : Memref sig .tc .vmem S4x512x256 .f32) (harg16 : arg16.IsWhole) (arg17 : Memref sig .tc .vmem S4x512x256 .bf16) (harg17 : arg17.IsWhole) (v20 : BitVec 32) (v139 : FVec F S1x128 .f32) (v179 : FVec F S256x128 .bf16) (v184 : FVec F S256x128 .bf16) (v189 : FVec F S256x128 .bf16) (v194 : FVec F S256x128 .bf16) (v237 : BitVec 32) (v251 : BitVec 1)
    (X3 : BufTy.Contents (Elt F) arg3.view.ty) (X4 : BufTy.Contents (Elt F) arg4.view.ty) (X9 : BufTy.Contents (Elt F) arg9.view.ty) (X10 : BufTy.Contents (Elt F) arg10.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) :
    (iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} X9) ∗ (arg10.view.loc (c : Thread nD τ) ↦[arg10.view.set]{fullShare} X10) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)) : sProp 𝕄)
      ⊢ wp frame (wpE (defs₀ (F := F)) Variants.none c none) Set.univ (k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v139 v179 v184 v189 v194 v237 v251)
          (fun _ => iprop((arg3.view.loc (c : Thread nD τ) ↦[arg3.view.set]{fullShare} X3) ∗ (arg4.view.loc (c : Thread nD τ) ↦[arg4.view.set]{fullShare} X4) ∗ (∃ Y, arg9.view.loc (c : Thread nD τ) ↦[arg9.view.set]{fullShare} Y) ∗ (arg10.view.loc (c : Thread nD τ) ↦[arg10.view.set]{fullShare} X10) ∗ (∃ Y, arg12.view.loc (c : Thread nD τ) ↦[arg12.view.set]{fullShare} Y) ∗ (∃ Y, arg13.view.loc (c : Thread nD τ) ↦[arg13.view.set]{fullShare} Y) ∗ (∃ Y, arg14.view.loc (c : Thread nD τ) ↦[arg14.view.set]{fullShare} Y) ∗ (∃ Y, arg15.view.loc (c : Thread nD τ) ↦[arg15.view.set]{fullShare} Y) ∗ (∃ Y, arg16.view.loc (c : Thread nD τ) ↦[arg16.view.set]{fullShare} Y) ∗ (∃ Y, arg17.view.loc (c : Thread nD τ) ↦[arg17.view.set]{fullShare} Y))) := by
  iintro ⟨H3, H4, H9, H10, H12, H13, H14, H15, H16, H17⟩
  simp only [k0_part120_eq_skeleton]; unfold k0_part120_skel
  by_cases hc : k0_cond2 i = 1#1
  · sl_exec_parts (disch := exact k0_chk1_all _)
    sl_step
    sl_close
  · sl_exec_parts (disch := exact k0_chk1_all _)
    sl_step
    sl_close

end Cert.Proof.Dsa

end
-- ==== Proof.Dsa.Body.lean ====
/- The body of the sparse attention kernel, run once at symbolic staging buffers. -/
module

public import proofs.«01_k».proof.Proof.Dsa.Branch
public import proofs.«01_k».proof.Proof.Dsa.Tail

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

attribute [local irreducible] k0_part117 k0_part120

set_option maxHeartbeats 1500000 in
/-- The body's triple: with every input's staging buffer whole at its contents and the output's and the scratch buffers
    whole at anything, the body runs and hands all of them back, the inputs' as they were. -/
theorem bodyRun (c : Dev nD) (i : grid0.Coords) (arg2 : Memref sig .tc .vmem S1x128x1024 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x128x512 .bf16) (harg7 : arg7.IsWhole) (arg8 : Memref sig .tc .vmem S1x128x128 .f32) (harg8 : arg8.IsWhole) (arg9 : Memref sig .tc .vmem S1x128x1024 .f32) (harg9 : arg9.IsWhole) (arg10 : Memref sig .tc .vmem S8192x128 .f32) (harg10 : arg10.IsWhole) (arg11 : Memref sig .tc .vmem S256x128 .f32) (harg11 : arg11.IsWhole) (arg12 : Memref sig .tc .vmem S4x1x256 .f32) (harg12 : arg12.IsWhole) (arg13 : Memref sig .tc .vmem S4x1x256 .f32) (harg13 : arg13.IsWhole) (arg14 : Memref sig .tc .vmem S4x128x256 .f32) (harg14 : arg14.IsWhole) (arg15 : Memref sig .tc .vmem S4x512x256 .f32) (harg15 : arg15.IsWhole) (arg16 : Memref sig .tc .vmem S4x512x256 .f32) (harg16 : arg16.IsWhole) (arg17 : Memref sig .tc .vmem S4x512x256 .bf16) (harg17 : arg17.IsWhole)
    (x0 : Vec F S1x128x1024 .bf16) (x1 : Vec F S1x8192x256 .bf16) (x2 : Vec F S1x8192x256 .bf16) (x3 : Vec F S1x8192x128 .bf16) (x4 : Vec F S1x8192x128 .bf16) (x5 : Vec F S1x128x512 .bf16) (x6 : Vec F S1x128x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ (cc0_dsa_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dsa_attn_eq_skeleton]; unfold cc0_dsa_attn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  have hbranch := branch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  have htail := tail (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  sl_exec_parts (disch := exact k0_chk1_all _)
  sl_step
  iapply Hk
  isplitl [Hk0_part117_0]
  · iexists _; isplitr; · ipureintro; exact harg2.read_unread _
    iexact Hk0_part117_0
  isplitl [Hk0_part120_0]
  · iexists _; isplitr; · ipureintro; exact harg3.read_unread _
    iexact Hk0_part120_0
  isplitl [Hk0_part120_1]
  · iexists _; isplitr; · ipureintro; exact harg4.read_unread _
    iexact Hk0_part120_1
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [Hk0_part120_2]
  · iexists _, _; isplitr; swap; · iexact Hk0_part120_2
    ipureintro; rfl
  isplitl [Hk0_part120_3]
  · iexists _, _; isplitr; swap; · iexact Hk0_part120_3
    ipureintro; rfl
  isplitl [HS1]
  · iexists _, _; isplitr; swap; · iexact HS1
    ipureintro; rfl
  isplitl [Hk0_part120_4]
  · iexists _, _; isplitr; swap; · iexact Hk0_part120_4
    ipureintro; rfl
  isplitl [Hk0_part120_5]
  · iexists _, _; isplitr; swap; · iexact Hk0_part120_5
    ipureintro; rfl
  isplitl [Hk0_part120_6]
  · iexists _, _; isplitr; swap; · iexact Hk0_part120_6
    ipureintro; rfl
  isplitl [Hk0_part120_7]
  · iexists _, _; isplitr; swap; · iexact Hk0_part120_7
    ipureintro; rfl
  isplitl [Hk0_part120_8]
  · iexists _, _; isplitr; swap; · iexact Hk0_part120_8
    ipureintro; rfl
  iexists _, _; isplitr; swap; · iexact Hk0_part120_9
  ipureintro; rfl

end Cert.Proof.Dsa

end
-- ==== Proof.Dsa.Frame.lean ====
/- The launch of the sparse attention kernel: the frame, its output left unnamed. -/
module

public import proofs.«01_k».proof.Proof.Dsa.Body
public import proofs.«01_k».proof.Proof.Gen.Kernel.Frame
public import Idealize.ShloMosaic.Lib.Pipeline.FrameBody
public import Idealize.ShloMosaic.Lib.Claim
public import Idealize.ShloMosaic.Lib.Quiescent

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The scoped scratch buffers as whole memrefs at some contents, beside the generator register. -/
theorem phiA_eq (c : Dev nD) :
    (Pipeline.ΦA spec0 c : sProp 𝕄)
      = iprop(iprop((∃ d, owns (c : Thread nD τ) (Memref.whole cc0_scratch0 : Memref sig .tc .vmem S8192x128 .f32) fullShare d) ∗ (∃ d, owns (c : Thread nD τ) (Memref.whole cc0_scratch1 : Memref sig .tc .vmem S256x128 .f32) fullShare d) ∗ (∃ d, owns (c : Thread nD τ) (Memref.whole cc0_scratch2 : Memref sig .tc .vmem S4x1x256 .f32) fullShare d) ∗ (∃ d, owns (c : Thread nD τ) (Memref.whole cc0_scratch3 : Memref sig .tc .vmem S4x1x256 .f32) fullShare d) ∗ (∃ d, owns (c : Thread nD τ) (Memref.whole cc0_scratch4 : Memref sig .tc .vmem S4x128x256 .f32) fullShare d) ∗ (∃ d, owns (c : Thread nD τ) (Memref.whole cc0_scratch5 : Memref sig .tc .vmem S4x512x256 .f32) fullShare d) ∗ (∃ d, owns (c : Thread nD τ) (Memref.whole cc0_scratch6 : Memref sig .tc .vmem S4x512x256 .f32) fullShare d) ∗ (∃ d, owns (c : Thread nD τ) (Memref.whole cc0_scratch7 : Memref sig .tc .vmem S4x512x256 .bf16) fullShare d)) ∗ (∃ r, prngReg c r)) := by
  unfold Pipeline.ΦA; rw [scopedRest0_eq]; simp only [owns_whole]

/-- The one output window, of which nothing is named. -/
def forgets : Fin 8 → Bool := fun w => w.val == 7

/-- The pipeline's proof data: each input's buffer at its block after the body, the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with at point `t`, window by window, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare d))

/-- and what it returns. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ d, owns (c : Thread nD τ) (win0_7.stage (cfg0.slots t 7)) fullShare d))

set_option maxHeartbeats 1600000 in
/-- The body at any point: the inputs' buffers hold their blocks, so the body's triple applies. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = Pipeline.ΦA spec0 c from rfl, phiA_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row (t : Fin cfg0.N) : defs₀ (F := F) .tc cfg0.body (cfg0.bodyArgs t (cfg0.slots t)) = bodyAt0 t := by
  unfold defs₀; rw [Defs.onTc_tc]

/-- The body obligation at every grid point, the output forgotten. -/
theorem obligation (c : Dev nD) : BodyObligation (dats (F := F) m 0 c) (defs₀ (F := F)) Variants.none () Set.univ forgets := fun t => by
  rw [bigSep_W0, bigSep_W0, row]
  exact triple_restated (sound m c t) rfl .rfl fun _ => .rfl

set_option backward.isDefEq.respectTransparency.types false in
/-- The launch: every input array as it was, and every semaphore counter at zero. -/
theorem launched : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame: the seven arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 5 rfl).trans ((A_eq m c 5).trans (V_main_arg3 m c)),
      (Pipeline.RDat.FramePost.arr_in h.1 c 3 rfl).trans ((A_eq m c 3).trans (V_main_arg4 m c)),
      (Pipeline.RDat.FramePost.arr_in h.1 c 4 rfl).trans ((A_eq m c 4).trans (V_main_arg5 m c)),
      (Pipeline.RDat.FramePost.arr_in h.1 c 6 rfl).trans ((A_eq m c 6).trans (V_main_arg6 m c))⟩, h.2⟩) (launched m ρ)

end Cert.Proof.Dsa

end
-- ==== Proof.lean ====
/- The claims: three kernel calls against the plain mathematics of the layer (the input projection, the merge of
   the two attention branches and the feed-forward half), each with its frames, and the frame of the
   sparse-attention call. The value proofs are in `Proof/In`, `Proof/Out` and `Proof/Ffn`, the sparse-attention
   frame in `Proof/Dsa`. -/
module

public import proofs.«01_k».proof.Defs
public import proofs.«01_k».proof.Proof.Out.Value
public import proofs.«01_k».proof.Proof.In.Value
public import proofs.«01_k».proof.Proof.Ffn.Value
public import proofs.«01_k».proof.Proof.Dsa.Frame
public import proofs.«01_k».proof.Proof.Gen.KernelFfn.Frame
public import proofs.«01_k».proof.Proof.Gen.KernelOut.Frame
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.InProjIdeal
public import proofs.«01_k».proof.Proof.Gen.InProjIdeal.Run

set_option synthInstance.maxHeartbeats 200000

@[expose] public section

namespace Cert.Proof
open Idealize Idealize.ShloMosaic Idealize.SL.Sem

/-- The feed-forward reference runs, its arguments kept: it has no counters. -/
theorem frame_ffn : Cert.quiescent_FfnIdeal := fun m ρ _ =>
  (θ_run Cert.FfnIdeal.defs _ _).mono (fun _ h => ⟨fun c => (h c).2, sem_eq_zero_of_no_sems (by decide) _⟩)
    (Cert.FfnIdeal.Value.run m ρ)

/-- The merge reference runs, its arguments kept: it has no counters. -/
theorem frame_out : Cert.quiescent_OutMergeIdeal := fun m ρ _ =>
  (θ_run Cert.OutMergeIdeal.defs _ _).mono (fun _ h => ⟨fun c => (h c).2, sem_eq_zero_of_no_sems (by decide) _⟩)
    (Cert.OutMergeIdeal.Value.run m ρ)

/-- The projection reference runs, its arguments kept: it has no counters. -/
theorem frame_in : Cert.quiescent_InProjIdeal := fun m ρ _ =>
  (θ_run Cert.InProjIdeal.defs _ _).mono (fun _ h => ⟨fun c => (h c).2.2.2.2.2.2.2.2.2.2.2.2, sem_eq_zero_of_no_sems (by decide) _⟩)
    (Cert.InProjIdeal.Value.run m ρ)

theorem claim : Cert.Claim :=
  ⟨Cert.Kernel.Gen.facts, Cert.KernelFfn.Gen.facts, Cert.KernelFfnIdeal.Gen.facts, Cert.FfnIdeal.Gen.facts,
    Cert.KernelOut.Gen.facts, Cert.KernelOutIdeal.Gen.facts, Cert.OutMergeIdeal.Gen.facts,
    Cert.KernelIn.Gen.facts, Cert.KernelInIdeal.Gen.facts, Cert.InProjIdeal.Gen.facts,
    fun m ρ _ => Cert.Proof.Dsa.frame m ρ, fun m ρ _ => Cert.KernelFfn.Gen.frame m ρ,
    fun m ρ _ => Cert.KernelFfnIdeal.Gen.frame m ρ, frame_ffn,
    fun m ρ _ => Cert.KernelOut.Gen.frame m ρ, fun m ρ _ => Cert.KernelOutIdeal.Gen.frame m ρ, frame_out,
    fun m ρ _ => Cert.KernelIn.Gen.frame m ρ, fun m ρ _ => Cert.KernelInIdeal.Gen.frame m ρ, frame_in,
    trivial, Cert.Proof.Ffn.algebraic, trivial, Cert.Proof.Out.algebraic, trivial, Cert.Proof.In.algebraic⟩

end Cert.Proof

end
